-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "slope0_log2e" .f32 0xBF129195#32 ((-((13316085 / 33554432) * (Real.log 2)⁻¹) : ℝ) : EReal)
  ∧ IdealRules.named_const.Statement Cert.KernelIdeal.κ "slope1_log2e" .f32 0xBE68A9CB#32 ((-((10568983 / 67108864) * (Real.log 2)⁻¹) : ℝ) : EReal)
  ∧ IdealRules.named_const.Statement Cert.KernelIdeal.κ "slope2_log2e" .f32 0xBDB8AA3B#32 ((-((1 / 16) * (Real.log 2)⁻¹) : ℝ) : EReal)
  ∧ IdealRules.named_const.Statement Cert.KernelIdeal.κ "slope3_log2e" .f32 0xBD129194#32 ((-((3329021 / 134217728) * (Real.log 2)⁻¹) : ℝ) : EReal)
  ∧ IdealRules.named_const.Statement Cert.KernelIdeal.κ "slope4_log2e" .f32 0xBC68A9CE#32 ((-((10568985 / 1073741824) * (Real.log 2)⁻¹) : ℝ) : EReal)
  ∧ IdealRules.named_const.Statement Cert.KernelIdeal.κ "slope5_log2e" .f32 0xBBB8AA3B#32 ((-((1 / 256) * (Real.log 2)⁻¹) : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "qk_scale_log2e" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)) (v3 : (c : Dev Cert.KernelIdeal.nD) → Buf (Elt Ideal) ((c.tc : Thread Cert.KernelIdeal.nD Cert.KernelIdeal.τ).loc Cert.KernelIdeal.main_v15_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_v15_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_v187) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x1024 : Shape := ⟨3, ![4, 8192, 1024]⟩
abbrev S4x256x256 : Shape := ⟨3, ![4, 256, 256]⟩
abbrev S1x1024 : Shape := ⟨2, ![1, 1024]⟩
abbrev S1x1024x3072 : Shape := ⟨3, ![1, 1024, 3072]⟩
abbrev S1x3x384 : Shape := ⟨3, ![1, 3, 384]⟩
abbrev S1x6 : Shape := ⟨2, ![1, 6]⟩
abbrev S1x1024x1024 : Shape := ⟨3, ![1, 1024, 1024]⟩
abbrev S128x2x384 : Shape := ⟨3, ![128, 2, 384]⟩
abbrev S_ : Shape := ⟨0, ![]⟩

class Facts : Prop where
  bcast_S_S1x1024 : S_.BroadcastsInDim S1x1024 (![] : Fin 0 → Fin S1x1024.rank)
  bcast_S_S1x1024x3072 : S_.BroadcastsInDim S1x1024x3072 (![] : Fin 0 → Fin S1x1024x3072.rank)
  bcast_S_S1x6 : S_.BroadcastsInDim S1x6 (![] : Fin 0 → Fin S1x6.rank)
  bcast_S_S4x256x256 : S_.BroadcastsInDim S4x256x256 (![] : Fin 0 → Fin S4x256x256.rank)

variable [Facts]

def fn {F : FTy → Type} [FloatOps F] (main_arg0 : FVec F S4x8192x1024 .f32) (main_arg1 : FVec F S4x256x256 .f32) (main_arg2 : FVec F S4x256x256 .f32) (main_arg3 : FVec F S1x1024 .f32) (main_arg4 : FVec F S1x1024 .f32) (main_arg5 : FVec F S1x1024x3072 .f32) (main_arg6 : FVec F S1x3x384 .f32) (main_arg7 : FVec F S1x6 .f32) (main_arg8 : FVec F S1x1024x1024 .f32) (main_arg9 : FVec F S128x2x384 .f32) : IVec S1x1024 1 × IVec S1x1024x3072 1 × IVec S1x6 1 × IVec S4x256x256 1 :=
  let main_v0 : FVec F S1x1024 .f32 := Host.absf main_arg3
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x3072 .f32 := Host.absf main_arg5
  let main_cst_0 : FVec F S_ .f32 := constant S_ .f32 0x7F800000#32
  let main_v4 : FVec F S1x1024x3072 .f32 := broadcastInDim S1x1024x3072 ![] bcast_S_S1x1024x3072 main_cst_0
  let main_v5 : IVec S1x1024x3072 1 := cmpf .olt main_v3 main_v4
  let main_v6 : FVec F S1x6 .f32 := Host.absf main_arg7
  let main_cst_1 : FVec F S_ .f32 := constant S_ .f32 0x7F800000#32
  let main_v7 : FVec F S1x6 .f32 := broadcastInDim S1x6 ![] bcast_S_S1x6 main_cst_1
  let main_v8 : IVec S1x6 1 := cmpf .olt main_v6 main_v7
  let main_v9 : FVec F S4x256x256 .f32 := Host.absf main_arg1
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  (main_v2, main_v5, main_v8, main_v11)
-- ==== Kernel.lean ====
abbrev S4x8192x1024 : Shape := ⟨3, ![4, 8192, 1024]⟩
abbrev S4x256x256 : Shape := ⟨3, ![4, 256, 256]⟩
abbrev S1x1024 : Shape := ⟨2, ![1, 1024]⟩
abbrev S1x1024x3072 : Shape := ⟨3, ![1, 1024, 3072]⟩
abbrev S1x3x384 : Shape := ⟨3, ![1, 3, 384]⟩
abbrev S1x6 : Shape := ⟨2, ![1, 6]⟩
abbrev S1x1024x1024 : Shape := ⟨3, ![1, 1024, 1024]⟩
abbrev S128x2x384 : Shape := ⟨3, ![128, 2, 384]⟩
abbrev S1024 : Shape := ⟨1, ![1024]⟩
abbrev S1024x3072 : Shape := ⟨2, ![1024, 3072]⟩
abbrev S3072x1024 : Shape := ⟨2, ![3072, 1024]⟩
abbrev S6 : Shape := ⟨1, ![6]⟩
abbrev S1024x1024 : Shape := ⟨2, ![1024, 1024]⟩
abbrev S3x384 : Shape := ⟨2, ![3, 384]⟩
abbrev S384x3 : Shape := ⟨2, ![384, 3]⟩
abbrev S4x2x384 : Shape := ⟨3, ![4, 2, 384]⟩
abbrev S4x128x128 : Shape := ⟨3, ![4, 128, 128]⟩
abbrev S1x512x1024 : Shape := ⟨3, ![1, 512, 1024]⟩
abbrev S1x256x256 : Shape := ⟨3, ![1, 256, 256]⟩
abbrev S1x2x384 : Shape := ⟨3, ![1, 2, 384]⟩
abbrev S1x128x128 : Shape := ⟨3, ![1, 128, 128]⟩
abbrev S2x3072x512 : Shape := ⟨3, ![2, 3072, 512]⟩
abbrev S2x1024x512 : Shape := ⟨3, ![2, 1024, 512]⟩
abbrev S1152x128 : Shape := ⟨2, ![1152, 128]⟩
abbrev S128x1152 : Shape := ⟨2, ![128, 1152]⟩
abbrev S384x128 : Shape := ⟨2, ![384, 128]⟩
abbrev S2x128x384 : Shape := ⟨3, ![2, 128, 384]⟩
abbrev S128x128 : Shape := ⟨2, ![128, 128]⟩
abbrev S128x384 : Shape := ⟨2, ![128, 384]⟩
abbrev S64x384 : Shape := ⟨2, ![64, 384]⟩
abbrev S1x384 : Shape := ⟨2, ![1, 384]⟩
abbrev S1 : Shape := ⟨1, ![1]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩
abbrev S1x3072x512 : Shape := ⟨3, ![1, 3072, 512]⟩
abbrev S3072x512 : Shape := ⟨2, ![3072, 512]⟩
abbrev S128x512 : Shape := ⟨2, ![128, 512]⟩
abbrev S512x128 : Shape := ⟨2, ![512, 128]⟩
abbrev S64x128 : Shape := ⟨2, ![64, 128]⟩
abbrev S256x128 : Shape := ⟨2, ![256, 128]⟩
abbrev S256x384 : Shape := ⟨2, ![256, 384]⟩
abbrev S384x512 : Shape := ⟨2, ![384, 512]⟩
abbrev S384x640 : Shape := ⟨2, ![384, 640]⟩
abbrev S384x1 : Shape := ⟨2, ![384, 1]⟩
abbrev S1x1024x512 : Shape := ⟨3, ![1, 1024, 512]⟩
abbrev S1024x512 : Shape := ⟨2, ![1024, 512]⟩
abbrev S1x384x512 : Shape := ⟨3, ![1, 384, 512]⟩
abbrev S1x128x384 : Shape := ⟨3, ![1, 128, 384]⟩
abbrev S384 : Shape := ⟨1, ![384]⟩
abbrev S64x256 : Shape := ⟨2, ![64, 256]⟩
abbrev S1x64x128 : Shape := ⟨3, ![1, 64, 128]⟩
abbrev S64x512 : Shape := ⟨2, ![64, 512]⟩
abbrev S256x256 : Shape := ⟨2, ![256, 256]⟩
abbrev S256x512 : Shape := ⟨2, ![256, 512]⟩
abbrev S1x512 : Shape := ⟨2, ![1, 512]⟩
abbrev S1x64x256 : Shape := ⟨3, ![1, 64, 256]⟩
abbrev S1x64x512 : Shape := ⟨3, ![1, 64, 512]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S2x384 : Shape := ⟨2, ![2, 384]⟩

abbrev nBuf : Space → Nat
  | .hbm => 29
  | .vmem => 27
  | .smem => 1
  | _ => 0

abbrev bufTy : (tb : Table) → Fin (tcTables nBuf tb) → BufTy
  | .hbm, ⟨0, _⟩ => ⟨S4x8192x1024, .f32⟩
  | .hbm, ⟨1, _⟩ => ⟨S4x256x256, .f32⟩
  | .hbm, ⟨2, _⟩ => ⟨S4x256x256, .f32⟩
  | .hbm, ⟨3, _⟩ => ⟨S1x1024, .f32⟩
  | .hbm, ⟨4, _⟩ => ⟨S1x1024, .f32⟩
  | .hbm, ⟨5, _⟩ => ⟨S1x1024x3072, .f32⟩
  | .hbm, ⟨6, _⟩ => ⟨S1x3x384, .f32⟩
  | .hbm, ⟨7, _⟩ => ⟨S1x6, .f32⟩
  | .hbm, ⟨8, _⟩ => ⟨S1x1024x1024, .f32⟩
  | .hbm, ⟨9, _⟩ => ⟨S128x2x384, .f32⟩
  | .hbm, ⟨10, _⟩ => ⟨S1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1024x3072, .f32⟩
  | .hbm, ⟨15, _⟩ => ⟨S1024x3072, .bf16⟩
  | .hbm, ⟨16, _⟩ => ⟨S3072x1024, .bf16⟩
  | .hbm, ⟨17, _⟩ => ⟨S6, .f32⟩
  | .hbm, ⟨18, _⟩ => ⟨S1024x1024, .f32⟩
  | .hbm, ⟨19, _⟩ => ⟨S1024x1024, .bf16⟩
  | .hbm, ⟨20, _⟩ => ⟨S4x256x256, .bf16⟩
  | .hbm, ⟨21, _⟩ => ⟨S4x256x256, .f32⟩
  | .hbm, ⟨22, _⟩ => ⟨S4x256x256, .bf16⟩
  | .hbm, ⟨23, _⟩ => ⟨S3x384, .f32⟩
  | .hbm, ⟨24, _⟩ => ⟨S384x3, .f32⟩
  | .hbm, ⟨25, _⟩ => ⟨S4x8192x1024, .f32⟩
  | .hbm, ⟨26, _⟩ => ⟨S4x2x384, .f32⟩
  | .hbm, ⟨27, _⟩ => ⟨S4x128x128, .f32⟩
  | .hbm, ⟨28, _⟩ => ⟨S4x128x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024, .f32⟩
  | .local _ .vmem, ⟨6, _⟩ => ⟨S3072x1024, .bf16⟩
  | .local _ .vmem, ⟨7, _⟩ => ⟨S384x3, .f32⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1024x1024, .bf16⟩
  | .local _ .vmem, ⟨13, _⟩ => ⟨S1x1024x1024, .f32⟩
  | .local _ .vmem, ⟨14, _⟩ => ⟨S1x1024x1024, .f32⟩
  | .local _ .vmem, ⟨15, _⟩ => ⟨S1x2x384, .f32⟩
  | .local _ .vmem, ⟨16, _⟩ => ⟨S1x2x384, .f32⟩
  | .local _ .vmem, ⟨17, _⟩ => ⟨S1x128x128, .f32⟩
  | .local _ .vmem, ⟨18, _⟩ => ⟨S1x128x128, .f32⟩
  | .local _ .vmem, ⟨19, _⟩ => ⟨S1x128x128, .f32⟩
  | .local _ .vmem, ⟨20, _⟩ => ⟨S1x128x128, .f32⟩
  | .local _ .vmem, ⟨21, _⟩ => ⟨S2x3072x512, .f32⟩
  | .local _ .vmem, ⟨22, _⟩ => ⟨S2x1024x512, .bf16⟩
  | .local _ .vmem, ⟨23, _⟩ => ⟨S1152x128, .bf16⟩
  | .local _ .vmem, ⟨24, _⟩ => ⟨S128x1152, .bf16⟩
  | .local _ .vmem, ⟨25, _⟩ => ⟨S384x128, .f32⟩
  | .local _ .vmem, ⟨26, _⟩ => ⟨S2x128x384, .f32⟩
  | .local _ .smem, ⟨0, _⟩ => ⟨S6, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v15_2 : Ref sig .tc := ⟨.hbm, 27, rfl⟩
abbrev main_v15_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c31_i32 : BitVec 32 := 31#32
  let v3 : BitVec 32 := Scalar.minsi v2 c31_i32
  let c8_i32_0 : BitVec 32 := 8#32
  let v4 : BitVec 32 := Scalar.divsi v3 c8_i32_0
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32_0 c0_i32_2
  let v11 : BitVec 32 := Scalar.extui v10
  let c0_i32_3 : BitVec 32 := 0#32
  let v12 : BitVec 1 := Scalar.cmpi .slt c8_i32_0 c0_i32_3
  let v13 : BitVec 32 := Scalar.extui v12
  let v14 : BitVec 32 := Scalar.subi v11 v13
  let v15 : BitVec 1 := Scalar.cmpi .ne v9 v14
  let v16 : BitVec 32 := Scalar.remsi v3 c8_i32_0
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c8_i32_6 : BitVec 32 := 8#32
  let c0_i32_7 : BitVec 32 := 0#32
  let v21 : BitVec 1 := Scalar.cmpi .eq c8_i32_6 c0_i32_7
  let c1_i32_8 : BitVec 32 := 1#32
  let v22 : BitVec 32 := Scalar.select v21 c1_i32_8 c8_i32_6
  let v23 : BitVec 32 := Scalar.remsi v3 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.muli v30 c2_i32
  let c0_i32_12 : BitVec 32 := 0#32
  let c0_i32_13 : BitVec 32 := 0#32
  ![v20.toNat, v31.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S3072x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S384x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .smem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "log2e" => some (((Real.log 2)⁻¹ : ℝ) : EReal)
  | "mask" => some ⊥
  | "qk_scale_log2e" => some (((1 / 8) * (Real.log 2)⁻¹ : ℝ) : EReal)
  | "slope0_log2e" => some ((-((13316085 / 33554432) * (Real.log 2)⁻¹) : ℝ) : EReal)
  | "slope1_log2e" => some ((-((10568983 / 67108864) * (Real.log 2)⁻¹) : ℝ) : EReal)
  | "slope2_log2e" => some ((-((1 / 16) * (Real.log 2)⁻¹) : ℝ) : EReal)
  | "slope3_log2e" => some ((-((3329021 / 134217728) * (Real.log 2)⁻¹) : ℝ) : EReal)
  | "slope4_log2e" => some ((-((10568985 / 1073741824) * (Real.log 2)⁻¹) : ℝ) : EReal)
  | "slope5_log2e" => some ((-((1 / 256) * (Real.log 2)⁻¹) : ℝ) : EReal)
  | _ => none
-- ==== ReferenceIdeal.lean ====
abbrev S4x8192x1024 : Shape := ⟨3, ![4, 8192, 1024]⟩
abbrev S4x256x256 : Shape := ⟨3, ![4, 256, 256]⟩
abbrev S1x1024 : Shape := ⟨2, ![1, 1024]⟩
abbrev S1x1024x3072 : Shape := ⟨3, ![1, 1024, 3072]⟩
abbrev S1x3x384 : Shape := ⟨3, ![1, 3, 384]⟩
abbrev S1x6 : Shape := ⟨2, ![1, 6]⟩
abbrev S1x1024x1024 : Shape := ⟨3, ![1, 1024, 1024]⟩
abbrev S128x2x384 : Shape := ⟨3, ![128, 2, 384]⟩
abbrev S6 : Shape := ⟨1, ![6]⟩
abbrev S1024 : Shape := ⟨1, ![1024]⟩
abbrev S1024x3072 : Shape := ⟨2, ![1024, 3072]⟩
abbrev S3x384 : Shape := ⟨2, ![3, 384]⟩
abbrev S1024x1024 : Shape := ⟨2, ![1024, 1024]⟩
abbrev S4x256x4x64 : Shape := ⟨4, ![4, 256, 4, 64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x8192x384 : Shape := ⟨3, ![4, 8192, 384]⟩
abbrev S4x8192x128 : Shape := ⟨3, ![4, 8192, 128]⟩
abbrev S4x8192x256 : Shape := ⟨3, ![4, 8192, 256]⟩
abbrev S4x8194x384 : Shape := ⟨3, ![4, 8194, 384]⟩
abbrev S1x384 : Shape := ⟨2, ![1, 384]⟩
abbrev S384 : Shape := ⟨1, ![384]⟩
abbrev S1x1x384 : Shape := ⟨3, ![1, 1, 384]⟩
abbrev S4x2x384 : Shape := ⟨3, ![4, 2, 384]⟩
abbrev S4x8192x2x64 : Shape := ⟨4, ![4, 8192, 2, 64]⟩
abbrev S4x8320x2x64 : Shape := ⟨4, ![4, 8320, 2, 64]⟩
abbrev S4x65x128x2x64 : Shape := ⟨5, ![4, 65, 128, 2, 64]⟩
abbrev S4x64x128x2x64 : Shape := ⟨5, ![4, 64, 128, 2, 64]⟩
abbrev S4x64x256x2x64 : Shape := ⟨5, ![4, 64, 256, 2, 64]⟩
abbrev S4x64x128x6x64 : Shape := ⟨5, ![4, 64, 128, 6, 64]⟩
abbrev S8192 : Shape := ⟨1, ![8192]⟩
abbrev S64x128 : Shape := ⟨2, ![64, 128]⟩
abbrev S64 : Shape := ⟨1, ![64]⟩
abbrev S64x1 : Shape := ⟨2, ![64, 1]⟩
abbrev S256 : Shape := ⟨1, ![256]⟩
abbrev S1x256 : Shape := ⟨2, ![1, 256]⟩
abbrev S64x256 : Shape := ⟨2, ![64, 256]⟩
abbrev S4x64x128x2x3x64 : Shape := ⟨6, ![4, 64, 128, 2, 3, 64]⟩
abbrev S4x64x2x256x128x3 : Shape := ⟨6, ![4, 64, 2, 256, 128, 3]⟩
abbrev S4x64x2x3x128x256 : Shape := ⟨6, ![4, 64, 2, 3, 128, 256]⟩
abbrev S64x128x1 : Shape := ⟨3, ![64, 128, 1]⟩
abbrev S64x1x256 : Shape := ⟨3, ![64, 1, 256]⟩
abbrev S64x128x256 : Shape := ⟨3, ![64, 128, 256]⟩
abbrev S2x3 : Shape := ⟨2, ![2, 3]⟩
abbrev S1x1x2x3x1x1 : Shape := ⟨6, ![1, 1, 2, 3, 1, 1]⟩
abbrev S1x64x1x1x128x256 : Shape := ⟨6, ![1, 64, 1, 1, 128, 256]⟩
abbrev S1x64x2x3x128x256 : Shape := ⟨6, ![1, 64, 2, 3, 128, 256]⟩
abbrev S4x64x2x3x128x1 : Shape := ⟨6, ![4, 64, 2, 3, 128, 1]⟩
abbrev S4x64x2x3x128x257 : Shape := ⟨6, ![4, 64, 2, 3, 128, 257]⟩
abbrev S4x64x2x3x128 : Shape := ⟨5, ![4, 64, 2, 3, 128]⟩
abbrev S4x64x2x64x3x128 : Shape := ⟨6, ![4, 64, 2, 64, 3, 128]⟩
abbrev S4x64x128x384 : Shape := ⟨4, ![4, 64, 128, 384]⟩
abbrev S4x128x2x64 : Shape := ⟨4, ![4, 128, 2, 64]⟩
abbrev S4x8192x4x64 : Shape := ⟨4, ![4, 8192, 4, 64]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩
abbrev S4x128x128 : Shape := ⟨3, ![4, 128, 128]⟩

abbrev nBuf : Space → Nat
  | .hbm => 236
  | .vmem => 0
  | .smem => 0
  | _ => 0

abbrev hbmTy0_0 (i : Nat) : BufTy := match i % 128 with
  | 0 => ⟨S4x8192x1024, .f32⟩
  | 1 => ⟨S4x256x256, .f32⟩
  | 2 => ⟨S4x256x256, .f32⟩
  | 3 => ⟨S1x1024, .f32⟩
  | 4 => ⟨S1x1024, .f32⟩
  | 5 => ⟨S1x1024x3072, .f32⟩
  | 6 => ⟨S1x3x384, .f32⟩
  | 7 => ⟨S1x6, .f32⟩
  | 8 => ⟨S1x1024x1024, .f32⟩
  | 9 => ⟨S128x2x384, .f32⟩
  | 10 => ⟨S6, .f32⟩
  | 11 => ⟨S1024, .f32⟩
  | 12 => ⟨S1024, .f32⟩
  | 13 => ⟨S1024x3072, .f32⟩
  | 14 => ⟨S3x384, .f32⟩
  | 15 => ⟨S6, .f32⟩
  | 16 => ⟨S1024x1024, .f32⟩
  | 17 => ⟨S4x256x4x64, .f32⟩
  | 18 => ⟨S4x256x4x64, .f32⟩
  | 19 => ⟨S4x8192x1024, .f32⟩
  | 20 => ⟨S_, .f32⟩
  | 21 => ⟨S4x8192, .f32⟩
  | 22 => ⟨S4x8192x1, .f32⟩
  | 23 => ⟨S_, .f32⟩
  | 24 => ⟨S4x8192x1, .f32⟩
  | 25 => ⟨S4x8192x1, .f32⟩
  | 26 => ⟨S_, .f32⟩
  | 27 => ⟨S4x8192x1, .f32⟩
  | 28 => ⟨S4x8192x1, .f32⟩
  | 29 => ⟨S4x8192x1, .f32⟩
  | 30 => ⟨S4x8192x1024, .f32⟩
  | 31 => ⟨S4x8192x1024, .f32⟩
  | 32 => ⟨S1x1x1024, .f32⟩
  | 33 => ⟨S4x8192x1024, .f32⟩
  | 34 => ⟨S4x8192x1024, .f32⟩
  | 35 => ⟨S4x8192x3072, .f32⟩
  | 36 => ⟨S4x8192x384, .f32⟩
  | 37 => ⟨S4x8192x384, .f32⟩
  | 38 => ⟨S4x8192x384, .f32⟩
  | 39 => ⟨S4x8192x384, .f32⟩
  | 40 => ⟨S4x8192x384, .f32⟩
  | 41 => ⟨S4x8192x128, .f32⟩
  | 42 => ⟨S4x8192x128, .f32⟩
  | 43 => ⟨S4x8192x384, .f32⟩
  | 44 => ⟨S4x8192x256, .f32⟩
  | 45 => ⟨S4x8192x256, .f32⟩
  | 46 => ⟨S4x8192x3072, .f32⟩
  | 47 => ⟨S4x8192x3072, .f32⟩
  | 48 => ⟨S_, .f32⟩
  | 49 => ⟨S4x8192x3072, .f32⟩
  | 50 => ⟨S4x8192x3072, .f32⟩
  | 51 => ⟨S_, .f32⟩
  | 52 => ⟨S4x8192x3072, .f32⟩
  | 53 => ⟨S4x8192x3072, .f32⟩
  | 54 => ⟨S4x8192x3072, .f32⟩
  | 55 => ⟨S4x8192x384, .f32⟩
  | 56 => ⟨S4x8192x384, .f32⟩
  | 57 => ⟨S4x8192x384, .f32⟩
  | 58 => ⟨S4x8192x384, .f32⟩
  | 59 => ⟨S4x8192x384, .f32⟩
  | 60 => ⟨S4x8192x128, .f32⟩
  | 61 => ⟨S4x8192x128, .f32⟩
  | 62 => ⟨S4x8192x384, .f32⟩
  | 63 => ⟨S4x8192x256, .f32⟩
  | 64 => ⟨S4x8192x256, .f32⟩
  | 65 => ⟨S4x8192x384, .f32⟩
  | 66 => ⟨S_, .i32⟩
  | 67 => ⟨S_, .f32⟩
  | 68 => ⟨S4x8194x384, .f32⟩
  | 69 => ⟨S1x384, .f32⟩
  | 70 => ⟨S384, .f32⟩
  | 71 => ⟨S4x8192x384, .f32⟩
  | 72 => ⟨S1x1x384, .f32⟩
  | 73 => ⟨S4x8192x384, .f32⟩
  | 74 => ⟨S4x8192x384, .f32⟩
  | 75 => ⟨S1x384, .f32⟩
  | 76 => ⟨S384, .f32⟩
  | 77 => ⟨S4x8192x384, .f32⟩
  | 78 => ⟨S1x1x384, .f32⟩
  | 79 => ⟨S4x8192x384, .f32⟩
  | 80 => ⟨S4x8192x384, .f32⟩
  | 81 => ⟨S4x8192x384, .f32⟩
  | 82 => ⟨S1x384, .f32⟩
  | 83 => ⟨S384, .f32⟩
  | 84 => ⟨S4x8192x384, .f32⟩
  | 85 => ⟨S1x1x384, .f32⟩
  | 86 => ⟨S4x8192x384, .f32⟩
  | 87 => ⟨S4x8192x384, .f32⟩
  | 88 => ⟨S4x8192x384, .f32⟩
  | 89 => ⟨S4x8192x384, .f32⟩
  | 90 => ⟨S4x8192x384, .f32⟩
  | 91 => ⟨S4x2x384, .f32⟩
  | 92 => ⟨S4x8192x2x64, .f32⟩
  | 93 => ⟨S4x8192x2x64, .f32⟩
  | 94 => ⟨S_, .i32⟩
  | 95 => ⟨S_, .f32⟩
  | 96 => ⟨S4x8320x2x64, .f32⟩
  | 97 => ⟨S4x65x128x2x64, .f32⟩
  | 98 => ⟨S_, .i32⟩
  | 99 => ⟨S_, .f32⟩
  | 100 => ⟨S4x8320x2x64, .f32⟩
  | 101 => ⟨S4x65x128x2x64, .f32⟩
  | 102 => ⟨S4x64x128x2x64, .f32⟩
  | 103 => ⟨S4x64x128x2x64, .f32⟩
  | 104 => ⟨S4x64x256x2x64, .f32⟩
  | 105 => ⟨S4x64x128x2x64, .f32⟩
  | 106 => ⟨S4x64x128x2x64, .f32⟩
  | 107 => ⟨S4x64x256x2x64, .f32⟩
  | 108 => ⟨S4x64x128x6x64, .f32⟩
  | 109 => ⟨S8192, .i32⟩
  | 110 => ⟨S64x128, .i32⟩
  | 111 => ⟨S64, .i32⟩
  | 112 => ⟨S64x1, .i32⟩
  | 113 => ⟨S_, .i32⟩
  | 114 => ⟨S64x1, .i32⟩
  | 115 => ⟨S64x1, .i32⟩
  | 116 => ⟨S_, .i32⟩
  | 117 => ⟨S64x1, .i32⟩
  | 118 => ⟨S64x1, .i32⟩
  | 119 => ⟨S256, .i32⟩
  | 120 => ⟨S1x256, .i32⟩
  | 121 => ⟨S64x256, .i32⟩
  | 122 => ⟨S64x256, .i32⟩
  | 123 => ⟨S64x256, .i32⟩
  | 124 => ⟨S4x64x128x2x3x64, .f32⟩
  | 125 => ⟨S4x64x2x256x128x3, .f32⟩
  | 126 => ⟨S4x64x2x3x128x256, .f32⟩
  | 127 => ⟨S_, .f32⟩
  | _ => ⟨S4x8192x1024, .f32⟩

abbrev hbmTy0_1 (i : Nat) : BufTy := match i % 128 with
  | 0 => ⟨S4x64x2x3x128x256, .f32⟩
  | 1 => ⟨S4x64x2x3x128x256, .f32⟩
  | 2 => ⟨S64x128x1, .i32⟩
  | 3 => ⟨S64x1x256, .i32⟩
  | 4 => ⟨S64x128x256, .i32⟩
  | 5 => ⟨S64x128x256, .i32⟩
  | 6 => ⟨S64x128x256, .i32⟩
  | 7 => ⟨S_, .i32⟩
  | 8 => ⟨S64x128x256, .i32⟩
  | 9 => ⟨S64x128x256, .i1⟩
  | 10 => ⟨S_, .i32⟩
  | 11 => ⟨S64x128x256, .i32⟩
  | 12 => ⟨S64x128x256, .i1⟩
  | 13 => ⟨S64x128x256, .i1⟩
  | 14 => ⟨S64x1x256, .i32⟩
  | 15 => ⟨S_, .i32⟩
  | 16 => ⟨S64x1x256, .i32⟩
  | 17 => ⟨S64x1x256, .i1⟩
  | 18 => ⟨S64x128x256, .i1⟩
  | 19 => ⟨S64x128x256, .i1⟩
  | 20 => ⟨S2x3, .f32⟩
  | 21 => ⟨S1x1x2x3x1x1, .f32⟩
  | 22 => ⟨S64x128x256, .i32⟩
  | 23 => ⟨S64x128x256, .f32⟩
  | 24 => ⟨S1x64x1x1x128x256, .f32⟩
  | 25 => ⟨S1x64x2x3x128x256, .f32⟩
  | 26 => ⟨S1x64x2x3x128x256, .f32⟩
  | 27 => ⟨S1x64x2x3x128x256, .f32⟩
  | 28 => ⟨S4x64x2x3x128x256, .f32⟩
  | 29 => ⟨S4x64x2x3x128x256, .f32⟩
  | 30 => ⟨S1x64x1x1x128x256, .i1⟩
  | 31 => ⟨S_, .f32⟩
  | 32 => ⟨S_, .f32⟩
  | 33 => ⟨S4x64x2x3x128x256, .i1⟩
  | 34 => ⟨S4x64x2x3x128x256, .f32⟩
  | 35 => ⟨S4x64x2x3x128x256, .f32⟩
  | 36 => ⟨S2x3, .f32⟩
  | 37 => ⟨S1x1x2x3x1x1, .f32⟩
  | 38 => ⟨S4x64x2x3x128x1, .f32⟩
  | 39 => ⟨S4x64x2x3x128x257, .f32⟩
  | 40 => ⟨S_, .f32⟩
  | 41 => ⟨S4x64x2x3x128, .f32⟩
  | 42 => ⟨S_, .f32⟩
  | 43 => ⟨S4x64x2x3x128, .f32⟩
  | 44 => ⟨S4x64x2x3x128, .f32⟩
  | 45 => ⟨S4x64x2x3x128x1, .f32⟩
  | 46 => ⟨S4x64x2x3x128x257, .f32⟩
  | 47 => ⟨S4x64x2x3x128x257, .f32⟩
  | 48 => ⟨S4x64x2x3x128x257, .f32⟩
  | 49 => ⟨S_, .f32⟩
  | 50 => ⟨S4x64x2x3x128, .f32⟩
  | 51 => ⟨S4x64x2x3x128x1, .f32⟩
  | 52 => ⟨S4x64x2x3x128x257, .f32⟩
  | 53 => ⟨S4x64x2x3x128x257, .f32⟩
  | 54 => ⟨S4x64x2x3x128x256, .f32⟩
  | 55 => ⟨S4x64x2x64x3x128, .f32⟩
  | 56 => ⟨S4x64x128x2x3x64, .f32⟩
  | 57 => ⟨S4x64x128x384, .f32⟩
  | 58 => ⟨S4x8192x384, .f32⟩
  | 59 => ⟨S4x8192x384, .f32⟩
  | 60 => ⟨S4x128x2x64, .f32⟩
  | 61 => ⟨S4x128x2x64, .f32⟩
  | 62 => ⟨S4x8192x4x64, .f32⟩
  | 63 => ⟨S4x4x8192x256, .f32⟩
  | 64 => ⟨S_, .f32⟩
  | 65 => ⟨S4x4x8192x256, .f32⟩
  | 66 => ⟨S4x4x8192x256, .f32⟩
  | 67 => ⟨S_, .f32⟩
  | 68 => ⟨S4x4x8192, .f32⟩
  | 69 => ⟨S_, .f32⟩
  | 70 => ⟨S4x4x8192, .f32⟩
  | 71 => ⟨S4x4x8192, .f32⟩
  | 72 => ⟨S4x4x8192x1, .f32⟩
  | 73 => ⟨S4x4x8192x256, .f32⟩
  | 74 => ⟨S4x4x8192x256, .f32⟩
  | 75 => ⟨S4x4x8192x256, .f32⟩
  | 76 => ⟨S_, .f32⟩
  | 77 => ⟨S4x4x8192, .f32⟩
  | 78 => ⟨S4x4x8192x1, .f32⟩
  | 79 => ⟨S4x4x8192x256, .f32⟩
  | 80 => ⟨S4x4x8192x256, .f32⟩
  | 81 => ⟨S4x4x64x8192, .f32⟩
  | 82 => ⟨S4x8192x4x64, .f32⟩
  | 83 => ⟨S4x8192x256, .f32⟩
  | 84 => ⟨S4x8192x256, .f32⟩
  | 85 => ⟨S4x8192x1024, .f32⟩
  | 86 => ⟨S4x8192x1024, .f32⟩
  | 87 => ⟨S4x8192x1024, .f32⟩
  | 88 => ⟨S_, .f32⟩
  | 89 => ⟨S4x8192, .f32⟩
  | 90 => ⟨S4x8192x1, .f32⟩
  | 91 => ⟨S_, .f32⟩
  | 92 => ⟨S4x8192x1, .f32⟩
  | 93 => ⟨S4x8192x1, .f32⟩
  | 94 => ⟨S_, .f32⟩
  | 95 => ⟨S4x8192x1, .f32⟩
  | 96 => ⟨S4x8192x1, .f32⟩
  | 97 => ⟨S4x8192x1, .f32⟩
  | 98 => ⟨S4x8192x1024, .f32⟩
  | 99 => ⟨S4x8192x1024, .f32⟩
  | 100 => ⟨S1x1x1024, .f32⟩
  | 101 => ⟨S4x8192x1024, .f32⟩
  | 102 => ⟨S4x8192x1024, .f32⟩
  | 103 => ⟨S4x8192x1024, .f32⟩
  | 104 => ⟨S4x128x128, .f32⟩
  | 105 => ⟨S4x128x128, .f32⟩
  | 106 => ⟨S4x128x128, .f32⟩
  | 107 => ⟨S4x128x128, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c : Ref sig .tc := ⟨.hbm, 66, rfl⟩
abbrev main_call1_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_3 : Ref sig .tc := ⟨.hbm, 94, rfl⟩
abbrev main_call2_v0 : Ref sig .tc := ⟨.hbm, 95, rfl⟩
abbrev main_v70 : Ref sig .tc := ⟨.hbm, 96, rfl⟩
abbrev main_v71 : Ref sig .tc := ⟨.hbm, 97, rfl⟩
abbrev main_c_4 : Ref sig .tc := ⟨.hbm, 98, rfl⟩
abbrev main_call3_v0 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_5 : Ref sig .tc := ⟨.hbm, 113, rfl⟩
abbrev main_v85 : Ref sig .tc := ⟨.hbm, 114, rfl⟩
abbrev main_v86 : Ref sig .tc := ⟨.hbm, 115, rfl⟩
abbrev main_c_6 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_7 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_c_8 : Ref sig .tc := ⟨.hbm, 135, rfl⟩
abbrev main_v104 : Ref sig .tc := ⟨.hbm, 136, rfl⟩
abbrev main_v105 : Ref sig .tc := ⟨.hbm, 137, rfl⟩
abbrev main_c_9 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_c_10 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_11 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_12 : Ref sig .tc := ⟨.hbm, 168, rfl⟩
abbrev main_v130 : Ref sig .tc := ⟨.hbm, 169, rfl⟩
abbrev main_cst_13 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_14 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_cst_15 : Ref sig .tc := ⟨.hbm, 192, rfl⟩
abbrev main_v151 : Ref sig .tc := ⟨.hbm, 193, rfl⟩
abbrev main_v152 : Ref sig .tc := ⟨.hbm, 194, rfl⟩
abbrev main_cst_16 : Ref sig .tc := ⟨.hbm, 195, rfl⟩
abbrev main_v153 : Ref sig .tc := ⟨.hbm, 196, rfl⟩
abbrev main_cst_17 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_18 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_cst_19 : Ref sig .tc := ⟨.hbm, 216, rfl⟩
abbrev main_v171 : Ref sig .tc := ⟨.hbm, 217, rfl⟩
abbrev main_v172 : Ref sig .tc := ⟨.hbm, 218, rfl⟩
abbrev main_cst_20 : Ref sig .tc := ⟨.hbm, 219, rfl⟩
abbrev main_v173 : Ref sig .tc := ⟨.hbm, 220, rfl⟩
abbrev main_v174 : Ref sig .tc := ⟨.hbm, 221, rfl⟩
abbrev main_cst_21 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩

abbrev nD : Nat := 1
abbrev τ : Topo := Topo.v7x

variable {F : FTy → Type} [FloatOps F]
-- ==== Proof.Load.lean ====
/-
  What a buffer holds after a list of stores, and what a load of a box of it reads.
-/
module

public import Idealize.ShloMosaic.Lib.Pointwise
public import Idealize.ShloMosaic.Lib.Pipeline.Value

@[expose] public section

noncomputable section

namespace Cert.Load

open Idealize.ShloMosaic Idealize.ShloMosaic.TcCoe

variable {Val : EltTy → Type} [∀ e, Nonempty (Val e)] {s : Shape} {e : EltTy}

/-- Every store of the list stores the values of `G`. -/
def Agree (G : s.Idx → Val e) (L : List (View.Piece Val s e)) : Prop := ∀ p ∈ L, ∀ x, p.2 x = G (p.1.emb x)

/-- Every cell of `S` is stored to. -/
def Cover (S : s.Idx → Prop) (L : List (View.Piece Val s e)) : Prop := ∀ y, S y → ∃ p ∈ L, y ∈ p.1.set

/-- Every cell of `S` is stored to, and ends with the value of `G`. -/
def Reads (S : s.Idx → Prop) (G : s.Idx → Val e) (L : List (View.Piece Val s e)) : Prop :=
  ∀ y, S y → (∃ p ∈ L, y ∈ p.1.set) ∧ View.canon L y = G y

theorem Agree.nil (G : s.Idx → Val e) : Agree G [] := fun _ h => absurd h List.not_mem_nil

theorem Agree.cons {G : s.Idx → Val e} {r : Rect s} {w : r.shape.Idx → Val e} {L : List (View.Piece Val s e)}
    (hw : ∀ x, w x = G (r.emb x)) (h : Agree G L) : Agree G (⟨r, w⟩ :: L) := by
  intro p hp
  rcases List.mem_cons.1 hp with rfl | hp
  · exact hw
  · exact h p hp

theorem Agree.drop {G : s.Idx → Val e} {L : List (View.Piece Val s e)} (h : Agree G L) (n : ℕ) : Agree G (L.drop n) :=
  fun p hp => h p (List.mem_of_mem_drop hp)

theorem exists_emb {r : Rect s} {y : s.Idx} (h : y ∈ r.set) : ∃ x, r.emb x = y := by
  have h' := r.mem_set.1 h
  choose j hj hj' using h'
  exact ⟨fun a => ⟨j a, hj a⟩, funext fun a => Fin.ext (hj' a).symm⟩

theorem Reads.mk {S : s.Idx → Prop} {G : s.Idx → Val e} {L : List (View.Piece Val s e)} (hA : Agree G L) (hC : Cover S L) :
    Reads S G L := by
  intro y hy
  refine ⟨hC y hy, ?_⟩
  have h := hC y hy
  clear hC
  induction L with
  | nil => obtain ⟨p, hp, _⟩ := h; exact absurd hp List.not_mem_nil
  | cons p L ih =>
    by_cases hm : y ∈ p.1.set
    · obtain ⟨x, rfl⟩ := exists_emb hm
      exact (View.canon_cons_emb p.1 p.2 L x).trans (hA p List.mem_cons_self x)
    · rw [View.canon_cons_of_not_mem p L hm]
      refine ih (fun q hq => hA q (List.mem_cons_of_mem _ hq)) ?_
      obtain ⟨q, hq, hy'⟩ := h
      rcases List.mem_cons.1 hq with rfl | hq
      · exact absurd hy' hm
      · exact ⟨q, hq, hy'⟩

/-- A store outside the cells changes nothing of them. -/
theorem Reads.skip {S : s.Idx → Prop} {G : s.Idx → Val e} {p : View.Piece Val s e} {L : List (View.Piece Val s e)}
    (h : Reads S G L) (hS : ∀ y, S y → y ∉ p.1.set) : Reads S G (p :: L) := fun y hy =>
  ⟨(h y hy).1.imp fun _ h' => ⟨List.mem_cons_of_mem _ h'.1, h'.2⟩,
    (View.canon_cons_of_not_mem p L (hS y hy)).trans (h y hy).2⟩

theorem Reads.unskip {S : s.Idx → Prop} {G : s.Idx → Val e} {p : View.Piece Val s e} {L : List (View.Piece Val s e)}
    (h : Reads S G (p :: L)) (hS : ∀ y, S y → y ∉ p.1.set) : Reads S G L := by
  intro y hy
  refine ⟨?_, (View.canon_cons_of_not_mem p L (hS y hy)).symm.trans (h y hy).2⟩
  obtain ⟨q, hq, hy'⟩ := (h y hy).1
  rcases List.mem_cons.1 hq with rfl | hq
  · exact absurd hy' (hS y hy)
  · exact ⟨q, hq, hy'⟩

/-- One more store. -/
theorem Reads.cons {S S' : s.Idx → Prop} {G : s.Idx → Val e} {r : Rect s} {w : r.shape.Idx → Val e} {L : List (View.Piece Val s e)}
    (hw : ∀ x, S' (r.emb x) → w x = G (r.emb x)) (h : Reads S G L) (hS : ∀ y, S' y → y ∉ r.set → S y) :
    Reads S' G (⟨r, w⟩ :: L) := by
  intro y hy
  by_cases hm : y ∈ r.set
  · obtain ⟨x, rfl⟩ := exists_emb hm
    exact ⟨⟨_, List.mem_cons_self, hm⟩, (View.canon_cons_emb r w L x).trans (hw x hy)⟩
  · obtain ⟨⟨p, hp, hy'⟩, hc⟩ := h y (hS y hy hm)
    exact ⟨⟨p, List.mem_cons_of_mem _ hp, hy'⟩, (View.canon_cons_of_not_mem _ _ hm).trans hc⟩

theorem Reads.nil (G : s.Idx → Val e) : Reads (fun _ => False) G [] := fun _ h => h.elim

theorem Reads.mono {S S' : s.Idx → Prop} {G : s.Idx → Val e} {L : List (View.Piece Val s e)} (h : Reads S G L)
    (hS : ∀ y, S' y → S y) : Reads S' G L := fun y hy => h y (hS y hy)

theorem Reads.congr {S : s.Idx → Prop} {G G' : s.Idx → Val e} {L : List (View.Piece Val s e)} (h : Reads S G L)
    (hG : ∀ y, S y → G y = G' y) : Reads S G' L := fun y hy => ⟨(h y hy).1, (h y hy).2.trans (hG y hy)⟩

variable {sig : RefSig} {κ : Kind} {sp : Space}

theorem readCov_of_reads {S : s.Idx → Prop} {G : s.Idx → Val e} {L : List (View.Piece Val s e)} (h : Reads S G L)
    (v : View sig κ sp s e) (B : LoadRect s) (x : B.shape.Idx) (hx : S (B.idx x)) : v.readCov L B x = G (B.idx x) :=
  (congrFun (View.readCov_eq_canon' v L B) x).trans (h _ hx).2

/-- What the buffer holds when it held `X` before the stores: the store's value where there is one. -/
theorem read_writes_of_reads {S : s.Idx → Prop} {G : s.Idx → Val e} {L : List (View.Piece Val s e)} (h : Reads S G L)
    {m : Memref sig κ sp s e} (hm : m.IsWhole) (X : s.Idx → Val e) (y : s.Idx)
    (hX : ¬ S y → (∀ p ∈ L, y ∉ p.1.set) ∧ X y = G y) :
    m.view.read Val (m.view.writes Val (hm.unread X) L) y = G y := by
  by_cases hy : S y
  · exact (View.read_writes_apply_eq_canon m.view _ y L (h y hy).1).trans (h y hy).2
  · rw [View.read_writes_apply_of_forall_not_mem m.view _ _ L (hX hy).1, Memref.IsWhole.read_unread]
    exact (hX hy).2

/-! ## Boxes, by their coordinates -/

/-- The cells of a rank-3 array, from a function of three numbers. -/
abbrev of3 {Val : Type} (g : ℕ → ℕ → ℕ → Val) {a b c : ℕ} : (⟨3, ![a, b, c]⟩ : Shape).Idx → Val := fun y => g (y 0).val (y 1).val (y 2).val
abbrev of2 {Val : Type} (g : ℕ → ℕ → Val) {a b : ℕ} : (⟨2, ![a, b]⟩ : Shape).Idx → Val := fun y => g (y 0).val (y 1).val

section Box

variable {H R C : ℕ} {h o p n m : ℕ}

theorem lift_size (R C : ℕ) (i : Fin 2) : (![1, R, C] : Fin 3 → ℕ) i.succ = (![R, C] : Fin 2 → ℕ) i := rfl

theorem idx_zt (inb) (inb') (h0) (hs) (hst) (hR) (i : Fin n) (j : Fin m) :
    let B := (Rect.unit (s := ⟨3, ![H, R, C]⟩) ![h, 0, 0] (⟨3, ![1, R, C]⟩ : Shape).size inb).withinL
      ((Rect.unit (s := ⟨2, ![R, C]⟩) ![o, p] (⟨2, ![n, m]⟩ : Shape).size inb').toLoadRect.consLift ![1, R, C] h0 hs) hst
    let x := B.idx (Shape.reshapeEquiv (s := B.shape) (s' := ⟨2, ![n, m]⟩) hR (ix2 i j))
    (x 0).val = h ∧ (x 1).val = o + i.val ∧ (x 2).val = p + j.val := by
  intro B x
  have e : Shape.reshapeEquiv (s := B.shape) (s' := ⟨2, ![n, m]⟩) hR (ix2 i j) = Fin.cons ⟨0, Nat.one_pos⟩ (ix2 i j) :=
    Shape.reshapeEquiv_cons_one (d := ![n, m]) _ _
  refine ⟨?_, ?_, ?_⟩
  · show (B.idx _ 0).val = _
    rw [LoadRect.idx_apply, e]
    show (h + 0) + 1 * 0 = h
    omega
  · show (B.idx _ 1).val = _
    rw [LoadRect.idx_apply, e]
    show (0 + o) + 1 * i.val = _
    omega
  · show (B.idx _ 2).val = _
    rw [LoadRect.idx_apply, e]
    show (0 + p) + 1 * j.val = _
    omega

/-- A load of a box of one half, all of it stored. -/
theorem zt_cov {g : ℕ → ℕ → ℕ → Val e} {L : List (View.Piece Val ⟨3, ![H, R, C]⟩ e)}
    (hL : Reads (fun y => (y 0).val = h) (of3 g) L) (v : View sig κ sp ⟨3, ![H, R, C]⟩ e) (inb) (inb')
    (i : Fin n) (j : Fin m) :
    @LoadRect.valAlong (Rect.unit (s := ⟨3, ![H, R, C]⟩) ![h, 0, 0] (⟨3, ![1, R, C]⟩ : Shape).size inb).toLoadRect.shape ⟨2, ![R, C]⟩
      (Rect.unit (s := ⟨2, ![R, C]⟩) ![o, p] (⟨2, ![n, m]⟩ : Shape).size inb').toLoadRect
      ((Rect.unit (s := ⟨2, ![R, C]⟩) ![o, p] (⟨2, ![n, m]⟩ : Shape).size inb').toLoadRect.consLift ![1, R, C] rfl (lift_size R C))
      (LoadRect.numel_consLift _ _ _ _) (Val e) (v.readCov L
      ((Rect.unit (s := ⟨3, ![H, R, C]⟩) ![h, 0, 0] (⟨3, ![1, R, C]⟩ : Shape).size inb).withinL
        ((Rect.unit (s := ⟨2, ![R, C]⟩) ![o, p] (⟨2, ![n, m]⟩ : Shape).size inb').toLoadRect.consLift ![1, R, C] rfl (lift_size R C))
        (fun _ => rfl)))
      (ix2 i j) = g h (o + i.val) (p + j.val) := by
  have hx := idx_zt (H := H) (h := h) (o := o) (p := p) inb inb' rfl (lift_size R C) (fun _ => rfl)
    (LoadRect.numel_consLift ((Rect.unit (s := ⟨2, ![R, C]⟩) ![o, p] (⟨2, ![n, m]⟩ : Shape).size inb').toLoadRect) ![1, R, C] rfl (lift_size R C)) i j
  refine (readCov_of_reads hL v _ _ hx.1).trans ?_
  show g _ _ _ = _
  rw [hx.1, hx.2.1, hx.2.2]

/-- A load of a box of one half, none of it stored. -/
theorem zt_at {g : ℕ → ℕ → ℕ → Val e} {X : (⟨3, ![H, R, C]⟩ : Shape).Idx → Val e}
    (hX : ∀ y, (y 0).val = h → X y = of3 g y) {mr : Memref sig κ sp ⟨3, ![H, R, C]⟩ e} (hm : mr.IsWhole) (inb) (inb') (h0) (hs) (hst) (hR)
    (i : Fin n) (j : Fin m) :
    @LoadRect.valAlong (Rect.unit (s := ⟨3, ![H, R, C]⟩) ![h, 0, 0] (⟨3, ![1, R, C]⟩ : Shape).size inb).toLoadRect.shape ⟨2, ![R, C]⟩
      (Rect.unit (s := ⟨2, ![R, C]⟩) ![o, p] (⟨2, ![n, m]⟩ : Shape).size inb').toLoadRect
      ((Rect.unit (s := ⟨2, ![R, C]⟩) ![o, p] (⟨2, ![n, m]⟩ : Shape).size inb').toLoadRect.consLift ![1, R, C] h0 hs) hR (Val e) (View.readAt Val mr.view
      ((Rect.unit (s := ⟨3, ![H, R, C]⟩) ![h, 0, 0] (⟨3, ![1, R, C]⟩ : Shape).size inb).withinL
        ((Rect.unit (s := ⟨2, ![R, C]⟩) ![o, p] (⟨2, ![n, m]⟩ : Shape).size inb').toLoadRect.consLift ![1, R, C] h0 hs) hst)
      (hm.unread X)) (ix2 i j) = g h (o + i.val) (p + j.val) := by
  have hx := idx_zt (H := H) (h := h) (o := o) (p := p) inb inb' h0 hs hst hR i j
  refine (congrFun (Memref.IsWhole.read_unread hm X) _).trans ((hX _ hx.1).trans ?_)
  show g _ _ _ = _
  rw [hx.1, hx.2.1, hx.2.2]

theorem idx_box3 (inb) (i : Fin n) (j : Fin m) :
    let x := (Rect.unit (s := ⟨3, ![H, R, C]⟩) ![h, o, p] (⟨3, ![1, n, m]⟩ : Shape).size inb).emb (ix3 (n0 := 1) (n1 := n) (n2 := m) 0 i j)
    (x 0).val = h ∧ (x 1).val = o + i.val ∧ (x 2).val = p + j.val := by
  intro x
  refine ⟨?_, ?_, ?_⟩ <;> simp only [x, Rect.emb_apply]
  · show h + 1 * 0 = _; omega
  · show o + 1 * i.val = _; omega
  · show p + 1 * j.val = _; omega

theorem cov3 {g : ℕ → ℕ → ℕ → Val e} {L : List (View.Piece Val ⟨3, ![H, R, C]⟩ e)}
    (hL : Reads (fun y => (y 0).val = h) (of3 g) L) (v : View sig κ sp ⟨3, ![H, R, C]⟩ e) (inb) (i : Fin n) (j : Fin m) :
    v.readCov L (Rect.unit (s := ⟨3, ![H, R, C]⟩) ![h, o, p] (⟨3, ![1, n, m]⟩ : Shape).size inb).toLoadRect
      (ix3 (n0 := 1) (n1 := n) (n2 := m) 0 i j) = g h (o + i.val) (p + j.val) := by
  have hx := idx_box3 (H := H) (R := R) (C := C) (h := h) (o := o) (p := p) inb i j
  refine (readCov_of_reads hL v _ _ hx.1).trans ?_
  show g ((Rect.emb _ _ 0).val) _ _ = _
  rw [hx.1, ← hx.2.1, ← hx.2.2]
  rfl

theorem at3 {X : (⟨3, ![H, R, C]⟩ : Shape).Idx → Val e} {g : ℕ → ℕ → ℕ → Val e}
    (hX : ∀ y, (y 0).val = h → X y = of3 g y) {mr : Memref sig κ sp ⟨3, ![H, R, C]⟩ e} (hm : mr.IsWhole) (inb)
    (i : Fin n) (j : Fin m) :
    View.readAt Val mr.view (Rect.unit (s := ⟨3, ![H, R, C]⟩) ![h, o, p] (⟨3, ![1, n, m]⟩ : Shape).size inb).toLoadRect (hm.unread X)
      (ix3 (n0 := 1) (n1 := n) (n2 := m) 0 i j) = g h (o + i.val) (p + j.val) := by
  have hx := idx_box3 (H := H) (R := R) (C := C) (h := h) (o := o) (p := p) inb i j
  refine (congrFun (Memref.IsWhole.read_unread hm X) _).trans ((hX _ hx.1).trans ?_)
  show g ((Rect.emb _ _ 0).val) _ _ = _
  rw [hx.1, ← hx.2.1, ← hx.2.2]

theorem idx_box2 (inb) (i : Fin n) (j : Fin m) :
    let x := (Rect.unit (s := ⟨2, ![R, C]⟩) ![o, p] (⟨2, ![n, m]⟩ : Shape).size inb).emb (ix2 (n0 := n) (n1 := m) i j)
    (x 0).val = o + i.val ∧ (x 1).val = p + j.val := by
  intro x
  refine ⟨?_, ?_⟩ <;> simp only [x, Rect.emb_apply]
  · show o + 1 * i.val = _; omega
  · show p + 1 * j.val = _; omega

theorem cov2 {S : (⟨2, ![R, C]⟩ : Shape).Idx → Prop} {g : ℕ → ℕ → Val e} {L : List (View.Piece Val ⟨2, ![R, C]⟩ e)}
    (hL : Reads S (of2 g) L) (v : View sig κ sp ⟨2, ![R, C]⟩ e) (inb) (hS : ∀ y : (⟨2, ![R, C]⟩ : Shape).Idx,
      o ≤ (y 0).val ∧ (y 0).val < o + n ∧ p ≤ (y 1).val ∧ (y 1).val < p + m → S y) (i : Fin n) (j : Fin m) :
    v.readCov L (Rect.unit (s := ⟨2, ![R, C]⟩) ![o, p] (⟨2, ![n, m]⟩ : Shape).size inb).toLoadRect
      (ix2 (n0 := n) (n1 := m) i j) = g (o + i.val) (p + j.val) := by
  have hx := idx_box2 (R := R) (C := C) (o := o) (p := p) inb i j
  refine (readCov_of_reads hL v _ _ (hS _ ?_)).trans ?_
  · show _ ≤ (Rect.emb _ _ 0).val ∧ (Rect.emb _ _ 0).val < _ ∧ _ ≤ (Rect.emb _ _ 1).val ∧ (Rect.emb _ _ 1).val < _
    have := i.isLt
    have := j.isLt
    refine ⟨?_, ?_, ?_, ?_⟩
    · exact hx.1 ▸ Nat.le_add_right _ _
    · exact lt_of_eq_of_lt hx.1 (by omega)
    · exact hx.2 ▸ Nat.le_add_right _ _
    · exact lt_of_eq_of_lt hx.2 (by omega)
  · rw [← hx.1, ← hx.2]
    rfl

theorem at2 {X : (⟨2, ![R, C]⟩ : Shape).Idx → Val e} {g : ℕ → ℕ → Val e} (hX : ∀ y, X y = of2 g y)
    {mr : Memref sig κ sp ⟨2, ![R, C]⟩ e} (hm : mr.IsWhole) (inb) (i : Fin n) (j : Fin m) :
    View.readAt Val mr.view (Rect.unit (s := ⟨2, ![R, C]⟩) ![o, p] (⟨2, ![n, m]⟩ : Shape).size inb).toLoadRect (hm.unread X)
      (ix2 (n0 := n) (n1 := m) i j) = g (o + i.val) (p + j.val) := by
  have hx := idx_box2 (R := R) (C := C) (o := o) (p := p) inb i j
  refine (congrFun (Memref.IsWhole.read_unread hm X) _).trans ((hX _).trans ?_)
  rw [← hx.1, ← hx.2]
  rfl

/-- A load of a box part of which was stored, the rest as before. -/
theorem mix2 {S : (⟨2, ![R, C]⟩ : Shape).Idx → Prop} {g : ℕ → ℕ → Val e} {L : List (View.Piece Val ⟨2, ![R, C]⟩ e)}
    (hL : Reads S (of2 g) L) {X : (⟨2, ![R, C]⟩ : Shape).Idx → Val e} {mr : Memref sig κ sp ⟨2, ![R, C]⟩ e} (hm : mr.IsWhole) (inb)
    (hX : ∀ y : (⟨2, ![R, C]⟩ : Shape).Idx, o ≤ (y 0).val ∧ (y 0).val < o + n ∧ p ≤ (y 1).val ∧ (y 1).val < p + m → ¬ S y →
      (∀ q ∈ L, y ∉ q.1.set) ∧ X y = of2 g y) (i : Fin n) (j : Fin m) :
    View.readAt Val mr.view (Rect.unit (s := ⟨2, ![R, C]⟩) ![o, p] (⟨2, ![n, m]⟩ : Shape).size inb).toLoadRect
      (mr.view.writes Val (hm.unread X) L) (ix2 (n0 := n) (n1 := m) i j) = g (o + i.val) (p + j.val) := by
  have hx := idx_box2 (R := R) (C := C) (o := o) (p := p) inb i j
  refine (read_writes_of_reads hL hm X _ (hX _ ?_)).trans ?_
  · show _ ≤ (Rect.emb _ _ 0).val ∧ (Rect.emb _ _ 0).val < _ ∧ _ ≤ (Rect.emb _ _ 1).val ∧ (Rect.emb _ _ 1).val < _
    have := i.isLt
    have := j.isLt
    refine ⟨?_, ?_, ?_, ?_⟩
    · exact hx.1 ▸ Nat.le_add_right _ _
    · exact lt_of_eq_of_lt hx.1 (by omega)
    · exact hx.2 ▸ Nat.le_add_right _ _
    · exact lt_of_eq_of_lt hx.2 (by omega)
  · rw [← hx.1, ← hx.2]
    rfl

/-- A stored box agrees with `g` when its entries do. -/
theorem emb3 {g : ℕ → ℕ → ℕ → Val e} (inb) {w : (⟨3, ![1, n, m]⟩ : Shape).Idx → Val e}
    (hw : ∀ (i : Fin n) (j : Fin m), w (ix3 (n0 := 1) (n1 := n) (n2 := m) 0 i j) = g h (o + i.val) (p + j.val))
    (x : (⟨3, ![1, n, m]⟩ : Shape).Idx) :
    w x = of3 g ((Rect.unit (s := ⟨3, ![H, R, C]⟩) ![h, o, p] (⟨3, ![1, n, m]⟩ : Shape).size inb).emb x) := by
  obtain ⟨z, i, j, rfl⟩ : ∃ (z : Fin 1) (i : Fin n) (j : Fin m), x = ix3 z i j := ⟨x 0, x 1, x 2, eq_ix3 x⟩
  obtain rfl : z = 0 := Subsingleton.elim _ _
  have hx := idx_box3 (H := H) (R := R) (C := C) (h := h) (o := o) (p := p) inb i j
  rw [hw]
  show _ = g (Rect.emb _ _ 0).val (Rect.emb _ _ 1).val (Rect.emb _ _ 2).val
  rw [← hx.2.1, ← hx.2.2]
  exact congrArg (fun k => g k _ _) hx.1.symm

theorem emb2 {g : ℕ → ℕ → Val e} (inb) {w : (⟨2, ![n, m]⟩ : Shape).Idx → Val e}
    (hw : ∀ (i : Fin n) (j : Fin m), w (ix2 i j) = g (o + i.val) (p + j.val)) (x : (⟨2, ![n, m]⟩ : Shape).Idx) :
    w x = of2 g ((Rect.unit (s := ⟨2, ![R, C]⟩) ![o, p] (⟨2, ![n, m]⟩ : Shape).size inb).emb x) := by
  obtain ⟨i, j, rfl⟩ : ∃ (i : Fin n) (j : Fin m), x = ix2 i j := ⟨x 0, x 1, eq_ix2 x⟩
  have hx := idx_box2 (R := R) (C := C) (o := o) (p := p) inb i j
  rw [hw, ← hx.1, ← hx.2]

theorem mem3 {inb} {y : (⟨3, ![H, R, C]⟩ : Shape).Idx} :
    y ∈ (Rect.unit (s := ⟨3, ![H, R, C]⟩) ![h, o, p] (⟨3, ![1, n, m]⟩ : Shape).size inb).set ↔
      (y 0).val = h ∧ (o ≤ (y 1).val ∧ (y 1).val < o + n) ∧ (p ≤ (y 2).val ∧ (y 2).val < p + m) := by
  rw [Rect.mem_set_unit]
  constructor
  · intro H'
    have h0 : h ≤ (y 0).val ∧ (y 0).val < h + 1 := H' 0
    have h1 : o ≤ (y 1).val ∧ (y 1).val < o + n := H' 1
    have h2 : p ≤ (y 2).val ∧ (y 2).val < p + m := H' 2
    exact ⟨by omega, h1, h2⟩
  · rintro ⟨h0, h1, h2⟩ a
    match a with
    | ⟨0, _⟩ => show h ≤ (y 0).val ∧ (y 0).val < h + 1; omega
    | ⟨1, _⟩ => exact h1
    | ⟨2, _⟩ => exact h2

theorem mem2 {inb} {y : (⟨2, ![R, C]⟩ : Shape).Idx} :
    y ∈ (Rect.unit (s := ⟨2, ![R, C]⟩) ![o, p] (⟨2, ![n, m]⟩ : Shape).size inb).set ↔
      (o ≤ (y 0).val ∧ (y 0).val < o + n) ∧ (p ≤ (y 1).val ∧ (y 1).val < p + m) := by
  rw [Rect.mem_set_unit]
  constructor
  · intro H'
    exact ⟨H' 0, H' 1⟩
  · rintro ⟨h1, h2⟩ a
    match a with
    | ⟨0, _⟩ => exact h1
    | ⟨1, _⟩ => exact h2

/-- One more stored box of cells. -/
theorem Reads.box3 {S : (⟨3, ![H, R, C]⟩ : Shape).Idx → Prop} {g : ℕ → ℕ → ℕ → Val e} {L : List (View.Piece Val ⟨3, ![H, R, C]⟩ e)}
    (hL : Reads S (of3 g) L) (inb) {w : (⟨3, ![1, n, m]⟩ : Shape).Idx → Val e}
    (hw : ∀ (i : Fin n) (j : Fin m), w (ix3 (n0 := 1) (n1 := n) (n2 := m) 0 i j) = g h (o + i.val) (p + j.val)) :
    Reads (fun y => S y ∨ ((y 0).val = h ∧ (o ≤ (y 1).val ∧ (y 1).val < o + n) ∧ (p ≤ (y 2).val ∧ (y 2).val < p + m))) (of3 g)
      (⟨Rect.unit (s := ⟨3, ![H, R, C]⟩) ![h, o, p] (⟨3, ![1, n, m]⟩ : Shape).size inb, w⟩ :: L) :=
  Reads.cons (fun x _ => emb3 inb hw x) hL fun _ hy hn => hy.resolve_right fun h' => hn (mem3.2 h')

theorem Reads.box2 {S : (⟨2, ![R, C]⟩ : Shape).Idx → Prop} {g : ℕ → ℕ → Val e} {L : List (View.Piece Val ⟨2, ![R, C]⟩ e)}
    (hL : Reads S (of2 g) L) (inb) {w : (⟨2, ![n, m]⟩ : Shape).Idx → Val e}
    (hw : ∀ (i : Fin n) (j : Fin m), w (ix2 i j) = g (o + i.val) (p + j.val)) :
    Reads (fun y => S y ∨ ((o ≤ (y 0).val ∧ (y 0).val < o + n) ∧ (p ≤ (y 1).val ∧ (y 1).val < p + m))) (of2 g)
      (⟨Rect.unit (s := ⟨2, ![R, C]⟩) ![o, p] (⟨2, ![n, m]⟩ : Shape).size inb, w⟩ :: L) :=
  Reads.cons (fun x _ => emb2 inb hw x) hL fun _ hy hn => hy.resolve_right fun h' => hn (mem2.2 h')

theorem Reads.none (G : (⟨3, ![H, R, C]⟩ : Shape).Idx → Val e) (L : List (View.Piece Val ⟨3, ![H, R, C]⟩ e)) : Reads (fun _ => False) G L :=
  fun _ h => h.elim

end Box

end Cert.Load

end
-- ==== Proof.Soft.lean ====
/-
  Softmax over the extended reals, free of the maximum it is shifted by.

  Both programs divide exponentials of shifted scores by their sum.  Whatever real number the scores are shifted by, and
  whether the exponential has base e or base 2, the quotient is the same weighted mean: this file brings both forms to
  `mean w L v = (∑ v · w) · L⁻¹`, with real weights `w` and a positive real total `L`.
-/
module

public import Idealize.ShloMosaic.Lib.Pointwise

@[expose] public section

noncomputable section

namespace Cert.Soft

open Idealize.ShloMosaic

/-- The exponential of a score that is a real number or `⊥`, as a real number. -/
def wt (s : EReal) : ℝ := (Ideal.exp s).toReal

theorem wt_bot : wt ⊥ = 0 := by simp [wt]
theorem wt_coe (r : ℝ) : wt (r : EReal) = Real.exp r := by simp [wt]

theorem wt_nonneg (s : EReal) : 0 ≤ wt s := by
  induction s with
  | bot => simp [wt]
  | top => simp [wt]
  | coe r => rw [wt_coe]; positivity

/-- A weighted mean: values times weights, over the total. -/
def mean {ι : Type} [Fintype ι] (w : ι → ℝ) (L : ℝ) (v : ι → EReal) : EReal :=
  (∑ j, v j * (w j : EReal)) * ((L⁻¹ : ℝ) : EReal)

theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient by a nonzero real is a product with its inverse. -/
theorem div_real {y : ℝ} (h : y ≠ 0) (x : EReal) : Ideal.div x (y : EReal) = x * ((y⁻¹ : ℝ) : EReal) := by
  rw [Ideal.div_coe h, one_div]

/-- The exponential of a score less a real shift. -/
theorem exp_shift {s : EReal} (hs : s ≠ ⊤) (M : ℝ) :
    Ideal.exp (s - (M : EReal)) = ((wt s * Real.exp (-M) : ℝ) : EReal) := by
  induction s with
  | bot => simp [wt_bot]
  | top => exact absurd rfl hs
  | coe r => rw [← EReal.coe_sub, Ideal.exp_coe, wt_coe, ← Real.exp_add, sub_eq_add_neg]

/-- The same at base 2, of the score over the logarithm of 2. -/
theorem exp2_shift {s : EReal} (hs : s ≠ ⊤) (M : ℝ) :
    Ideal.exp2 (s * (((Real.log 2)⁻¹ : ℝ) : EReal) - (M : EReal)) = ((wt s * (2 : ℝ) ^ (-M) : ℝ) : EReal) := by
  have h2 : (0 : ℝ) < Real.log 2 := Real.log_pos (by norm_num)
  induction s with
  | bot => rw [EReal.bot_mul_coe_of_pos (by positivity)]; simp [wt_bot]
  | top => exact absurd rfl hs
  | coe r =>
    rw [← EReal.coe_mul, ← EReal.coe_sub, Ideal.exp2_coe, wt_coe]
    congr 1
    show (2 : ℝ) ^ (r * (Real.log 2)⁻¹ - M) = _
    rw [sub_eq_add_neg, Real.rpow_add (by norm_num)]
    congr 1
    rw [Real.rpow_def_of_pos (by norm_num)]
    congr 1
    field_simp

/-- Values times shifted weights over the shifted total: the weighted mean. -/
theorem div_sum {ι : Type} [Fintype ι] (w : ι → ℝ) {L κ : ℝ} (hL : 0 < L) (hκ : 0 < κ) (v : ι → EReal) :
    Ideal.div (∑ j, v j * ((w j * κ : ℝ) : EReal)) ((L * κ : ℝ) : EReal) = mean w L v := by
  rw [div_real (by positivity), mean]
  have h : ∀ j, v j * ((w j * κ : ℝ) : EReal) = v j * (w j : EReal) * (κ : EReal) := fun j => by
    rw [EReal.coe_mul, mul_assoc]
  simp only [h]
  rw [← sum_mul_coe _ _ hκ.le, mul_assoc, ← EReal.coe_mul]
  congr 2
  field_simp

/-- Values times quotients of shifted weights by the shifted total: the weighted mean again. -/
theorem sum_div {ι : Type} [Fintype ι] (w : ι → ℝ) {L κ : ℝ} (hL : 0 < L) (hκ : 0 < κ) (v : ι → EReal) :
    ∑ j, v j * Ideal.div ((w j * κ : ℝ) : EReal) ((L * κ : ℝ) : EReal) = mean w L v := by
  rw [mean, sum_mul_coe _ _ (by positivity)]
  refine Finset.sum_congr rfl fun j _ => ?_
  rw [div_real (by positivity), mul_assoc, ← EReal.coe_mul, ← EReal.coe_mul]
  congr 2
  field_simp

/-- The largest of finitely many scores below `⊤`, one of them or the start a real number, is a real number. -/
theorem fold_max_real {ι : Type} [Fintype ι] (b : EReal) (f : ι → EReal) (hb : b ≠ ⊤) (hf : ∀ i, f i ≠ ⊤)
    (h : (∃ i, f i ≠ ⊥) ∨ b ≠ ⊥) : ∃ M : ℝ, Finset.univ.fold max b f = (M : EReal) := by
  have h1 : Finset.univ.fold max b f ≠ ⊤ := by
    have : Finset.univ.fold max b f < ⊤ := by
      rw [Finset.fold_max_lt]
      exact ⟨lt_top_iff_ne_top.2 hb, fun i _ => lt_top_iff_ne_top.2 (hf i)⟩
    exact this.ne
  have h2 : Finset.univ.fold max b f ≠ ⊥ := by
    have : ⊥ < Finset.univ.fold max b f := by
      rw [Finset.lt_fold_max]
      rcases h with ⟨i, hi⟩ | hb'
      · exact Or.inr ⟨i, Finset.mem_univ i, bot_lt_iff_ne_bot.2 hi⟩
      · exact Or.inl (bot_lt_iff_ne_bot.2 hb')
    exact this.ne'
  exact ⟨_, (EReal.coe_toReal h1 h2).symm⟩

end Cert.Soft

end
-- ==== Proof.Spec.lean ====
/-
  What the layer computes, over the extended reals: one function of the arguments per result, and the
  intermediate quantities both programs are brought to.
-/
module

public import proofs.«01_k».proof.Proof.Soft

@[expose] public section

noncomputable section

namespace Cert.Spec

open Idealize.ShloMosaic Cert.Soft

/-- The arguments that the results depend on. -/
structure Args where
  x : Fin 4 → Fin 8192 → Fin 1024 → EReal
  mkey : Fin 4 → Fin 256 → Fin 256 → EReal
  mval : Fin 4 → Fin 256 → Fin 256 → EReal
  g : Fin 1024 → EReal
  gp : Fin 1024 → EReal
  W : Fin 1024 → Fin 3072 → EReal
  cw : Fin 3 → Fin 384 → EReal
  sk : Fin 6 → EReal
  Wo : Fin 1024 → Fin 1024 → EReal

/-- The arguments the scores are made of are real numbers. -/
structure Finite (a : Args) : Prop where
  mkey : ∀ b m d, ∃ r : ℝ, a.mkey b m d = (r : EReal)
  g : ∀ d, ∃ r : ℝ, a.g d = (r : EReal)
  W : ∀ d e, ∃ r : ℝ, a.W d e = (r : EReal)
  sk : ∀ h, ∃ r : ℝ, a.sk h = (r : EReal)

/-- The number of features, and the small number under the root. -/
def width : EReal := Ideal.ofBits .f32 0x44800000#32
def eps : EReal := Ideal.ofBits .f32 0x358637BD#32

/-- Root-mean-square normalization of a row, times the gain. -/
def rms (v g : Fin 1024 → EReal) (d : Fin 1024) : EReal :=
  v d * Ideal.rsqrt (Ideal.div (∑ k, v k * v k) width + eps) * g d

def silu (z : EReal) : EReal := z * Ideal.div 1 (1 + Ideal.exp (-z))

variable (a : Args)

/-- The input projection of token `t` of sequence `b`: feature `e`. -/
def Z (b : Fin 4) (t : Fin 8192) (e : Fin 3072) : EReal := ∑ d : Fin 1024, rms (a.x b t) a.g d * a.W d e

/-- The convolution's input. -/
def U (b : Fin 4) (t : Fin 8192) (c : Fin 384) : EReal :=
  Z a b t ⟨384 + c.val, by omega⟩ * Z a b t ⟨768 + c.val, by omega⟩

/-- The convolution's input `k` tokens back, zero before the sequence begins. -/
def Uback (k : ℕ) (b : Fin 4) (t : Fin 8192) (c : Fin 384) : EReal :=
  if k ≤ t.val then U a b ⟨t.val - k, by omega⟩ c else 0

def conv (b : Fin 4) (t : Fin 8192) (c : Fin 384) : EReal :=
  a.cw 0 c * Uback a 2 b t c + a.cw 1 c * Uback a 1 b t c + a.cw 2 c * U a b t c

def yconv (b : Fin 4) (t : Fin 8192) (c : Fin 384) : EReal :=
  Z a b t ⟨c, by omega⟩ * conv a b t c * silu (Z a b t ⟨1152 + c.val, by omega⟩)

/-- The slopes of the linear position bias. -/
def slope : Fin 6 → ℝ :=
  ![13316085 / 33554432, 10568983 / 67108864, 1 / 16, 3329021 / 134217728, 10568985 / 1073741824, 1 / 256]

/-- Key `j` of the 256 that query `r` of block `n` can see: in the window of 128 and not before the sequence begins. -/
def Valid (n : Fin 64) (r : Fin 128) (j : Fin 256) : Prop :=
  r.val < j.val ∧ j.val ≤ r.val + 128 ∧ 128 ≤ 128 * n.val + j.val

instance (n : Fin 64) (r : Fin 128) (j : Fin 256) : Decidable (Valid n r j) := by unfold Valid; infer_instance

/-- The projection's entries as real numbers. -/
def zr (b : Fin 4) (t : Fin 8192) (e : Fin 3072) : ℝ := (Z a b t e).toReal

/-- Token of key `j` in the band of block `n` (the token 0 where there is none). -/
def keyTok (n : Fin 64) (j : Fin 256) : Fin 8192 := ⟨128 * n.val + j.val - 128, by omega⟩

/-- Token of query `r` of block `n`. -/
def qTok (n : Fin 64) (r : Fin 128) : Fin 8192 := ⟨128 * n.val + r.val, by omega⟩

/-- The real number a visible key scores. -/
def rawScore (b : Fin 4) (n : Fin 64) (hh : Fin 6) (r : Fin 128) (j : Fin 256) : ℝ :=
  (∑ e : Fin 64, zr a b (keyTok n j) ⟨1920 + (hh.val / 3) * 64 + e.val, by omega⟩
      * zr a b (qTok n r) ⟨1536 + hh.val * 64 + e.val, by omega⟩) * (1 / 8)
    - slope hh * ((r.val : ℝ) + 128 - (j.val : ℝ))

def score (b : Fin 4) (n : Fin 64) (hh : Fin 6) (r : Fin 128) (j : Fin 256) : EReal :=
  if Valid n r j then (rawScore a b n hh r j : EReal) else ⊥

/-- The value of key `j`, zero before the sequence begins. -/
def vBand (b : Fin 4) (n : Fin 64) (kv : Fin 2) (d : Fin 64) (j : Fin 256) : EReal :=
  if 128 ≤ 128 * n.val + j.val then Z a b (keyTok n j) ⟨2048 + kv.val * 64 + d.val, by omega⟩ else 0

/-- Windowed attention with a sink. -/
def swa (b : Fin 4) (n : Fin 64) (hh : Fin 6) (r : Fin 128) (d : Fin 64) : EReal :=
  mean (fun j => wt (score a b n hh r j)) ((∑ j : Fin 256, wt (score a b n hh r j)) + wt (a.sk hh))
    (vBand a b n ⟨hh.val / 3, by omega⟩ d)

def yswa (b : Fin 4) (t : Fin 8192) (c : Fin 384) : EReal :=
  swa a b ⟨t.val / 128, by omega⟩ ⟨c.val / 64, by omega⟩ ⟨t.val % 128, by omega⟩ ⟨c.val % 64, by omega⟩
    * silu (Z a b t ⟨2176 + c.val, by omega⟩)

/-- Score of memory slot `m`. -/
def mscore (b : Fin 4) (t : Fin 8192) (hh : Fin 4) (m : Fin 256) : EReal :=
  (((∑ e : Fin 64, zr a b t ⟨2560 + hh.val * 64 + e.val, by omega⟩ * (a.mkey b m ⟨hh.val * 64 + e.val, by omega⟩).toReal)
      * (1 / 8) : ℝ) : EReal)

/-- Attention over the memory slots. -/
def mem (b : Fin 4) (t : Fin 8192) (hh : Fin 4) (d : Fin 64) : EReal :=
  mean (fun m => wt (mscore a b t hh m)) (∑ m : Fin 256, wt (mscore a b t hh m))
    (fun m => a.mval b m ⟨hh.val * 64 + d.val, by omega⟩)

def ymem (b : Fin 4) (t : Fin 8192) (c : Fin 256) : EReal :=
  mem a b t ⟨c.val / 64, by omega⟩ ⟨c.val % 64, by omega⟩ * silu (Z a b t ⟨2816 + c.val, by omega⟩)

/-- The three mixers' outputs side by side. -/
def ycat (b : Fin 4) (t : Fin 8192) (e : Fin 1024) : EReal :=
  if h : e.val < 384 then yconv a b t ⟨e.val, h⟩
  else if h' : e.val < 768 then yswa a b t ⟨e.val - 384, by omega⟩
  else ymem a b t ⟨e.val - 768, by omega⟩

/-- The output projection. -/
def proj (b : Fin 4) (t : Fin 8192) (d : Fin 1024) : EReal := ∑ e : Fin 1024, ycat a b t e * a.Wo e d

/-- Result 1: the layer's output. -/
def y (b : Fin 4) (t : Fin 8192) (d : Fin 1024) : EReal := a.x b t d + rms (proj a b t) a.gp d

/-- Result 3: the convolution's last two inputs. -/
def convState (b : Fin 4) (i : Fin 2) (c : Fin 384) : EReal := U a b ⟨8190 + i.val, by omega⟩ c

/-- Results 4 and 5: keys and values of the last 128 tokens, features first. -/
def kState (b : Fin 4) (d t : Fin 128) : EReal := Z a b ⟨8064 + t.val, by omega⟩ ⟨1920 + d.val, by omega⟩
def vState (b : Fin 4) (d t : Fin 128) : EReal := Z a b ⟨8064 + t.val, by omega⟩ ⟨2048 + d.val, by omega⟩

/-! ## The projection of finite weights is finite -/

variable {a}

theorem width_eq : width = ((1024 : ℝ) : EReal) := by
  simp [width, Ideal.ofBits, Ideal.ieee, -EReal.coe_mul]; norm_num

theorem eps_pos : ∃ r : ℝ, 0 < r ∧ eps = (r : EReal) :=
  ⟨(8388608 + 407485 : ℝ) * 2 ^ (-43 : ℤ), by positivity, by
    simp [eps, Ideal.ofBits, Ideal.ieee, -EReal.coe_mul]; norm_num⟩

theorem mul_self_nonneg' (x : EReal) : 0 ≤ x * x := by
  induction x with
  | bot => simp
  | top => simp
  | coe r => exact_mod_cast mul_self_nonneg r

/-- A normalized entry is a real number whatever the row: an infinite row has root-mean-square `⊤`, and is scaled to 0. -/
theorem rms_real (v : Fin 1024 → EReal) {g : Fin 1024 → EReal} (d : Fin 1024) (hg : ∃ r : ℝ, g d = (r : EReal)) :
    ∃ r : ℝ, rms v g d = (r : EReal) := by
  obtain ⟨γ, hγ⟩ := hg
  obtain ⟨ε, hε, hεe⟩ := eps_pos
  have h0 : 0 ≤ ∑ k, v k * v k := Finset.sum_nonneg fun k _ => mul_self_nonneg' _
  have h1 : v d * v d ≤ ∑ k, v k * v k :=
    Finset.single_le_sum (f := fun k => v k * v k) (fun k _ => mul_self_nonneg' _) (Finset.mem_univ d)
  unfold rms
  rw [width_eq, hεe, hγ]
  generalize (∑ k, v k * v k) = S at h0 h1
  generalize v d = x at h1
  induction S with
  | bot => simp at h0
  | top =>
    rw [div_real (by norm_num), EReal.top_mul_coe_of_pos (by norm_num), EReal.top_add_coe, Ideal.rsqrt_top, mul_zero, zero_mul]
    exact ⟨0, rfl⟩
  | coe s =>
    have hs : 0 ≤ s := by exact_mod_cast h0
    induction x with
    | bot => simp at h1
    | top => simp at h1
    | coe r =>
      rw [div_real (by norm_num), ← EReal.coe_mul, ← EReal.coe_add, Ideal.rsqrt_coe, if_neg (by push Not; positivity),
        if_neg (by positivity)]
      exact ⟨r * (Real.sqrt (s * 1024⁻¹ + ε))⁻¹ * γ, by rw [EReal.coe_mul, EReal.coe_mul]⟩

theorem Z_real (ha : Finite a) (b : Fin 4) (t : Fin 8192) (e : Fin 3072) : Z a b t e = (zr a b t e : EReal) := by
  have h : ∃ r : ℝ, Z a b t e = (r : EReal) := by
    have hd : ∀ d, ∃ r : ℝ, rms (a.x b t) a.g d * a.W d e = (r : EReal) := fun d => by
      obtain ⟨r, hr⟩ := rms_real (a.x b t) d (ha.g d)
      obtain ⟨w, hw⟩ := ha.W d e
      exact ⟨r * w, by rw [hr, hw, EReal.coe_mul]⟩
    choose f hf using hd
    exact ⟨∑ d, f d, by rw [Z, coe_sum]; exact Finset.sum_congr rfl fun d _ => hf d⟩
  obtain ⟨r, hr⟩ := h
  rw [zr, hr, EReal.toReal_coe]

end Cert.Spec

end
-- ==== Proof.Nat.lean ====
/-
  The layer's quantities at token and feature numbers, as the kernel addresses them: zero outside the arrays, and keys
  and values zero before the sequence begins.
-/
module

public import proofs.«01_k».proof.Proof.Spec

@[expose] public section

noncomputable section

namespace Cert.Spec

open Idealize.ShloMosaic Cert.Soft

/-- Entries by natural numbers, zero outside. -/
def ext1 {n : ℕ} (f : Fin n → EReal) (i : ℕ) : EReal := if h : i < n then f ⟨i, h⟩ else 0
def ext2 {n m : ℕ} (f : Fin n → Fin m → EReal) (i j : ℕ) : EReal := if h : i < n ∧ j < m then f ⟨i, h.1⟩ ⟨j, h.2⟩ else 0

theorem ext1_eq {n : ℕ} (f : Fin n → EReal) {i : ℕ} (h : i < n) : ext1 f i = f ⟨i, h⟩ := dif_pos h
theorem ext2_eq {n m : ℕ} (f : Fin n → Fin m → EReal) {i j : ℕ} (h : i < n) (h' : j < m) : ext2 f i j = f ⟨i, h⟩ ⟨j, h'⟩ := dif_pos ⟨h, h'⟩

variable (a : Args) (b : Fin 4)

/-- The projection's feature `e` of token `t`. -/
def zn (t e : ℕ) : EReal := if h : t < 8192 ∧ e < 3072 then Z a b ⟨t, h.1⟩ ⟨e, h.2⟩ else 0

/-- Keys and values, `u` counted from 128 tokens before the sequence begins. -/
def kn (u e : ℕ) : EReal := if u < 128 then 0 else zn a b (u - 128) (1920 + e)
def vn (u e : ℕ) : EReal := if u < 128 then 0 else zn a b (u - 128) (2048 + e)

/-- The convolution's input, `u` counted from 128 tokens before the sequence begins. -/
def un (u c : ℕ) : EReal := if u < 128 then 0 else zn a b (u - 128) (384 + c) * zn a b (u - 128) (768 + c)

def ycatn (t e : ℕ) : EReal := if h : t < 8192 ∧ e < 1024 then ycat a b ⟨t, h.1⟩ ⟨e, h.2⟩ else 0

def slopen (h : ℕ) : ℝ := if h' : h < 6 then slope ⟨h, h'⟩ else 0

/-- The position bias of key slot `k` for column `c` of a group of three heads, over the logarithm of 2. -/
def biasn (g k c : ℕ) : EReal :=
  ((-(slopen (3 * g + c / 128)) * (Real.log 2)⁻¹ * (((c % 128 : ℕ) : ℝ) + (if c % 128 < k then 128 else 0) - (k : ℝ)) : ℝ) : EReal)

variable {a b}

theorem zn_eq {t e : ℕ} (ht : t < 8192) (he : e < 3072) : zn a b t e = Z a b ⟨t, ht⟩ ⟨e, he⟩ := by
  rw [zn, dif_pos ⟨ht, he⟩]

theorem ycatn_eq {t e : ℕ} (ht : t < 8192) (he : e < 1024) : ycatn a b t e = ycat a b ⟨t, ht⟩ ⟨e, he⟩ := by
  rw [ycatn, dif_pos ⟨ht, he⟩]

theorem zn_real (ha : Finite a) (t e : ℕ) : zn a b t e = ((zn a b t e).toReal : EReal) := by
  unfold zn
  split
  · rw [Z_real ha, EReal.toReal_coe]
  · simp

theorem kn_real (ha : Finite a) (u e : ℕ) : kn a b u e = ((kn a b u e).toReal : EReal) := by
  unfold kn
  split
  · simp
  · exact zn_real ha _ _

theorem zr_eq {t e : ℕ} (ht : t < 8192) (he : e < 3072) : zr a b ⟨t, ht⟩ ⟨e, he⟩ = (zn a b t e).toReal := by
  rw [zn_eq ht he, zr]

end Cert.Spec

end
-- ==== Proof.Swa.lean ====
/-
  Windowed attention of one block of 128 queries and one group of three heads.

  The kernel folds the 256 keys of the band into 128 slots: slot `k` of query `r` is key `k` of the previous block when
  `r < k`, and key `k` of this block otherwise: exactly the keys in the window.  Scores are taken over the logarithm of 2
  and exponentiated at base 2.
-/
module

public import proofs.«01_k».proof.Proof.Nat
public import proofs.«01_k».proof.Proof.Gen.KernelIdeal.Skeleton

@[expose] public section

set_option maxRecDepth 16384

noncomputable section

namespace Cert.Swa

open Idealize.ShloMosaic Idealize.ShloMosaic.TcCoe Cert.KernelIdeal Cert.KernelIdeal.Gen Cert.Soft Cert.Spec

abbrev bandMax (s : FVec Ideal S128x384 .f32) (snk : FVec Ideal S1x384 .f32) : FVec Ideal S1x384 .f32 :=
  maximumf (shapeCast S1x384 (multiReduction .maximumf [0] S384 s 0xFF800000#32 reduces_S128x384_S384 (.inl rfl) rfl) shapeCasts_S384_S1x384) snk

abbrev bandExp (s : FVec Ideal S128x384 .f32) (snk : FVec Ideal S1x384 .f32) : FVec Ideal S128x384 .f32 :=
  exp2 (subf s (broadcastTo S128x384 (bandMax s snk) broadcasts_S1x384_S128x384))

abbrev bandSum (s : FVec Ideal S128x384 .f32) (snk : FVec Ideal S1x384 .f32) : FVec Ideal S1x384 .f32 :=
  addf (shapeCast S1x384 (multiReduction .add [0] S384 (bandExp s snk) 0x00000000#32 reduces_S128x384_S384 (.inl rfl) rfl) shapeCasts_S384_S1x384)
    (exp2 (subf snk (bandMax s snk)))

abbrev unfolded (e : FVec Ideal S128x384 .f32) : FVec Ideal S256x384 .bf16 :=
  truncf .bf16 (concatenate S256x384 0 [⟨S128x384, select k0_pay21 e (broadcast S128x384 (Scalar.ofBits .f32 0x00000000#32))⟩,
    ⟨S128x384, select k0_pay21 (broadcast S128x384 (Scalar.ofBits .f32 0x00000000#32)) e⟩] concatenates_S128x384_S128x384_S256x384_d0) bitsLt_bf16_f32

abbrev bandOut (s : FVec Ideal S128x384 .f32) (snk : FVec Ideal S1x384 .f32) (vb : FVec Ideal S64x256 .bf16) : FVec Ideal S64x384 .f32 :=
  divf (matmul dot_S64x256_S256x384_S64x384_1_0_0_1_n_n none vb (unfolded (bandExp s snk)) (constant S64x384 .f32 0x00000000#32))
    (broadcastTo S64x384 (bandSum s snk) broadcasts_S1x384_S64x384)

theorem rem_apply : ∀ c : Fin 384, (Scalar.select
        (IntOp.andi
          (IntOp.xori
            (IntOp.cmpi CmpIPredicate.slt
              (IntOp.remsi ArithUnit.vector (BitVec.ofNat 32 c.val)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 c.val)
              (Scalar.select (Scalar.cmpi CmpIPredicate.eq 128#32 0#32) 1#32 128#32))
            0#32))
        (IntOp.addi
          (IntOp.remsi ArithUnit.vector (BitVec.ofNat 32 c.val)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 c.val)
          (Scalar.select (Scalar.cmpi CmpIPredicate.eq 128#32 0#32) 1#32 128#32))) = BitVec.ofNat 32 (c.val % 128) := by
  decide +kernel

theorem sgt_apply : ∀ s r : Fin 128, IntOp.cmpi CmpIPredicate.sgt (BitVec.ofNat 32 s.val) (BitVec.ofNat 32 r.val)
    = if r.val < s.val then 1#1 else 0#1 := by
  decide +kernel

theorem mask_apply (s : Fin 128) (c : Fin 384) : k0_pay21 (ix2 s c) = if c.val % 128 < s.val then 1#1 else 0#1 := by
  pointwise [k0_pay21]
  rw [rem_apply]
  exact sgt_apply s ⟨c.val % 128, by omega⟩

/-- The two keys a slot can stand for. -/
def lo (k : Fin 128) : Fin 256 := ⟨k.val, by omega⟩
def hi (k : Fin 128) : Fin 256 := ⟨128 + k.val, by omega⟩

theorem sum_lo_hi {M : Type} [AddCommMonoid M] (f : Fin 256 → M) : ∑ j, f j = ∑ k, f (lo k) + ∑ k, f (hi k) :=
  Fin.sum_univ_add (a := 128) (b := 128) f

theorem neg_inf : Ideal.ofBits .f32 4286578688#32 = ⊥ := by
  simp [Ideal.ofBits, Ideal.ieee]

/-- From folded scores to the weighted mean of the values. -/
theorem band_core {s : FVec Ideal S128x384 .f32} {snk : FVec Ideal S1x384 .f32} {vb : FVec Ideal S64x256 .bf16} (d : Fin 64) (c : Fin 384)
    {score : Fin 256 → EReal} {σ : ℝ}
    (hs : ∀ k : Fin 128, s (ix2 k c) = (if c.val % 128 < k.val then score (lo k) else score (hi k)) * (((Real.log 2)⁻¹ : ℝ) : EReal))
    (hsnk : snk (ix2 0 c) = ((σ : ℝ) : EReal) * (((Real.log 2)⁻¹ : ℝ) : EReal)) (htop : ∀ j, score j ≠ ⊤)
    (hlo : ∀ k : Fin 128, ¬ c.val % 128 < k.val → score (lo k) = ⊥) (hhi : ∀ k : Fin 128, c.val % 128 < k.val → score (hi k) = ⊥) :
    bandOut s snk vb (ix2 d c)
      = mean (fun j => wt (score j)) ((∑ j, wt (score j)) + wt ((σ : ℝ) : EReal)) (fun j => vb (ix2 d j)) := by
  have h2 : (0 : ℝ) < (Real.log 2)⁻¹ := inv_pos.2 (Real.log_pos (by norm_num))
  have hst : ∀ k : Fin 128, s (ix2 k c) ≠ ⊤ := fun k => by
    rw [hs]
    have : ∀ x : EReal, x ≠ ⊤ → x * (((Real.log 2)⁻¹ : ℝ) : EReal) ≠ ⊤ := fun x hx => by
      induction x with
      | bot => rw [EReal.bot_mul_coe_of_pos h2]; exact bot_ne_top
      | top => exact absurd rfl hx
      | coe r => rw [← EReal.coe_mul]; exact EReal.coe_ne_top _
    apply this
    split <;> exact htop _
  obtain ⟨M, hM⟩ : ∃ M : ℝ, max (Finset.univ.fold max ⊥ fun k : Fin 128 => s (ix2 k c)) (snk (ix2 0 c)) = (M : EReal) := by
    have := fold_max_real (snk (ix2 0 c)) (fun k : Fin 128 => s (ix2 k c)) (by rw [hsnk, ← EReal.coe_mul]; exact EReal.coe_ne_top _) hst
      (Or.inr (by rw [hsnk, ← EReal.coe_mul]; exact EReal.coe_ne_bot _))
    obtain ⟨M, h⟩ := this
    refine ⟨M, ?_⟩
    rw [← h]
    have hf : ∀ (x : EReal) (f : Fin 128 → EReal), max (Finset.univ.fold max ⊥ f) x = Finset.univ.fold max x f := by
      intro x f
      apply le_antisymm
      · refine max_le ?_ (Finset.le_fold_max (c := x) |>.2 (Or.inl le_rfl))
        rw [Finset.fold_max_le]
        exact ⟨bot_le, fun i hi => Finset.le_fold_max (c := f i) |>.2 (Or.inr ⟨i, hi, le_rfl⟩)⟩
      · rw [Finset.fold_max_le]
        exact ⟨le_max_right _ _, fun i hi => le_max_of_le_left (Finset.le_fold_max (c := f i) |>.2 (Or.inr ⟨i, hi, le_rfl⟩))⟩
    exact hf _ _
  have he : ∀ k : Fin 128, FloatOps.exp2 (F := Ideal) (s (ix2 k c) - (M : EReal) : EReal)
      = ((wt (if c.val % 128 < k.val then score (lo k) else score (hi k)) * (2 : ℝ) ^ (-M) : ℝ) : EReal) := fun k => by
    rw [hs]
    refine exp2_shift ?_ M
    split <;> exact htop _
  have hsk : FloatOps.exp2 (F := Ideal) (snk (ix2 0 c) - (M : EReal) : EReal) = ((wt ((σ : ℝ) : EReal) * (2 : ℝ) ^ (-M) : ℝ) : EReal) := by
    rw [hsnk]
    exact exp2_shift (EReal.coe_ne_top σ) M
  have hκ : (0 : ℝ) < (2 : ℝ) ^ (-M) := Real.rpow_pos_of_pos (by norm_num) _
  pointwise [bandSum, bandExp]
  simp only [neg_inf, hM, hsk, he, mask_apply]
  rw [show (∑ j, wt (score j)) = ∑ k : Fin 128, wt (if c.val % 128 < k.val then score (lo k) else score (hi k)) from by
    rw [sum_lo_hi, ← Finset.sum_add_distrib]
    refine Finset.sum_congr rfl fun k _ => ?_
    split
    · rw [hhi k ‹_›, wt_bot, add_zero]
    · rw [hlo k ‹_›, wt_bot, zero_add]]
  rw [← coe_sum, ← EReal.coe_add, ← Finset.sum_mul, ← add_mul, ← div_sum _ ?_ hκ]
  · congr 1
    rw [sum_lo_hi]
    congr 1
    · refine Finset.sum_congr rfl fun k _ => ?_
      by_cases h : c.val % 128 < k.val
      · simp only [if_pos h]; rfl
      · simp only [if_neg h, hlo k h, wt_bot, zero_mul, EReal.coe_zero, mul_zero]; rfl
    · refine Finset.sum_congr rfl fun k _ => ?_
      by_cases h : c.val % 128 < k.val
      · simp only [if_pos h, hhi k h, wt_bot, zero_mul, EReal.coe_zero, mul_zero]; rfl
      · simp only [if_neg h]; rfl
  · exact add_pos_of_nonneg_of_pos (Finset.sum_nonneg fun _ _ => wt_nonneg _) (by rw [wt_coe]; exact Real.exp_pos _)

/-! ## The scores -/

section Scores

variable {a : Args} (ha : Finite a) {b : Fin 4} {n : Fin 64}
  {q0 q1 q2 : Vec Ideal S64x128 .f32} {kb : Vec Ideal S256x128 .bf16}

/-- A score without its bias, over the logarithm of 2. -/
def dotn (a : Args) (b : Fin 4) (n : Fin 64) (g : ℕ) (c : Fin 384) (j : ℕ) : ℝ :=
  (∑ e : Fin 64, (kn a b (128 * n.val + j) (64 * g + e.val)).toReal
    * (zn a b (128 * n.val + c.val % 128) (1536 + 64 * (3 * g + c.val / 128) + e.val)).toReal) * (1 / 8)

/-- Queries of three heads side by side. -/
theorem heads {g : ℕ}
    (h0 : ∀ (e : Fin 64) (r : Fin 128), q0 (ix2 e r) = zn a b (128 * n.val + r.val) (1536 + 64 * (3 * g) + e.val))
    (h1 : ∀ (e : Fin 64) (r : Fin 128), q1 (ix2 e r) = zn a b (128 * n.val + r.val) (1536 + 64 * (3 * g + 1) + e.val))
    (h2 : ∀ (e : Fin 64) (r : Fin 128), q2 (ix2 e r) = zn a b (128 * n.val + r.val) (1536 + 64 * (3 * g + 2) + e.val))
    (e : Fin 64) (c : Fin 384) :
    (if h : c.val < 128 then q0 (ix2 e ⟨c.val, h⟩)
      else if h' : c.val - 128 < 128 then q1 (ix2 e ⟨c.val - 128, h'⟩) else q2 (ix2 e ⟨c.val - 128 - 128, by omega⟩))
    = zn a b (128 * n.val + c.val % 128) (1536 + 64 * (3 * g + c.val / 128) + e.val) := by
  split
  · rw [h0]; exact congrArg₂ (zn a b) (by simp only; omega) (by omega)
  · split
    · rw [h1]; exact congrArg₂ (zn a b) (by simp only; omega) (by omega)
    · rw [h2]; exact congrArg₂ (zn a b) (by simp only; omega) (by omega)

theorem scale_eq : Named.named (F := Ideal) κ "qk_scale_log2e" (φ := .f32) 1043900987#32 = (((1 / 8) * (Real.log 2)⁻¹ : ℝ) : EReal) := rfl

include ha in
theorem sum_real {g : ℕ} (f : Fin 64 → EReal) (q : Fin 64 → EReal) (c : Fin 384) (j : Fin 256)
    (hf : ∀ e : Fin 64, f e = kn a b (128 * n.val + j.val) (64 * g + e.val))
    (hq : ∀ e : Fin 64, q e = zn a b (128 * n.val + c.val % 128) (1536 + 64 * (3 * g + c.val / 128) + e.val)) :
    ∑ e, f e * (q e * (((1 / 8) * (Real.log 2)⁻¹ : ℝ) : EReal)) = ((dotn a b n g c j.val * (Real.log 2)⁻¹ : ℝ) : EReal) := by
  rw [dotn, mul_assoc, Finset.sum_mul, coe_sum]
  refine Finset.sum_congr rfl fun e _ => ?_
  rw [hf, hq, kn_real ha, zn_real ha, ← EReal.coe_mul, ← EReal.coe_mul, EReal.toReal_coe, EReal.toReal_coe, mul_assoc]

include ha in
theorem score0
    (h0 : ∀ (e : Fin 64) (r : Fin 128), q0 (ix2 e r) = zn a b (128 * n.val + r.val) (1536 + 64 * (3 * 0) + e.val))
    (h1 : ∀ (e : Fin 64) (r : Fin 128), q1 (ix2 e r) = zn a b (128 * n.val + r.val) (1536 + 64 * (3 * 0 + 1) + e.val))
    (h2 : ∀ (e : Fin 64) (r : Fin 128), q2 (ix2 e r) = zn a b (128 * n.val + r.val) (1536 + 64 * (3 * 0 + 2) + e.val))
    (hk : ∀ (j : Fin 256) (e : Fin 128), kb (ix2 j e) = kn a b (128 * n.val + j.val) e.val) (j : Fin 256) (c : Fin 384) :
    k0_pay36 (F := Ideal) k0_pay22 q0 q1 q2 kb (ix2 j c) = ((dotn a b n 0 c j.val * (Real.log 2)⁻¹ : ℝ) : EReal) := by
  pointwise [k0_pay36, k0_pay22]
  simp only [mul_zero, Finset.sum_const_zero, add_zero, scale_eq]
  exact sum_real ha _ _ c j (fun e => (hk _ _).trans (congrArg (kn a b _) (by simp))) (fun e => heads h0 h1 h2 e c)

include ha in
theorem score1
    (h0 : ∀ (e : Fin 64) (r : Fin 128), q0 (ix2 e r) = zn a b (128 * n.val + r.val) (1536 + 64 * (3 * 1) + e.val))
    (h1 : ∀ (e : Fin 64) (r : Fin 128), q1 (ix2 e r) = zn a b (128 * n.val + r.val) (1536 + 64 * (3 * 1 + 1) + e.val))
    (h2 : ∀ (e : Fin 64) (r : Fin 128), q2 (ix2 e r) = zn a b (128 * n.val + r.val) (1536 + 64 * (3 * 1 + 2) + e.val))
    (hk : ∀ (j : Fin 256) (e : Fin 128), kb (ix2 j e) = kn a b (128 * n.val + j.val) e.val) (j : Fin 256) (c : Fin 384) :
    k0_pay37 (F := Ideal) k0_pay22 q0 q1 q2 kb (ix2 j c) = ((dotn a b n 1 c j.val * (Real.log 2)⁻¹ : ℝ) : EReal) := by
  pointwise [k0_pay37, k0_pay22]
  simp only [mul_zero, Finset.sum_const_zero, zero_add, scale_eq]
  exact sum_real ha _ _ c j (fun e => (hk _ _).trans (congrArg (kn a b _) (by simp))) (fun e => heads h0 h1 h2 e c)

end Scores

/-! ## One group of heads -/

section Group

variable {a : Args} {b : Fin 4} {n : Fin 64} {g : Fin 2}

/-- The head of a column. -/
def headOf (g : Fin 2) (c : Fin 384) : Fin 6 := ⟨3 * g.val + c.val / 128, by omega⟩
def rowOf (c : Fin 384) : Fin 128 := ⟨c.val % 128, by omega⟩

theorem raw_eq (c : Fin 384) (j : Fin 256) (hj : 128 ≤ 128 * n.val + j.val) :
    rawScore a b n (headOf g c) (rowOf c) j
      = dotn a b n g.val c j.val - slopen (3 * g.val + c.val / 128) * (((c.val % 128 : ℕ) : ℝ) + 128 - (j.val : ℝ)) := by
  rw [rawScore, dotn]
  congr 1
  · congr 1
    refine Finset.sum_congr rfl fun e _ => ?_
    rw [kn, if_neg (by omega)]
    congr 1
    · rw [keyTok, zr_eq]
      exact congrArg EReal.toReal (congrArg₂ (zn a b) (by omega) (by simp only [headOf]; omega))
    · rw [qTok, zr_eq]
      exact congrArg EReal.toReal (congrArg₂ (zn a b) rfl (by simp only [headOf]; omega))
  · rw [slopen, dif_pos (by omega)]
    rfl

/-- A folded score with its bias is the score of the key that the slot stands for. -/
theorem fold_eq {sc : FVec Ideal S256x384 .f32} {bl : Vec Ideal S1x128x384 .f32} {pen : EReal}
    (hsc : ∀ (j : Fin 256) (c : Fin 384), sc (ix2 j c) = ((dotn a b n g.val c j.val * (Real.log 2)⁻¹ : ℝ) : EReal))
    (hb : ∀ (k : Fin 128) (c : Fin 384), bl (ix3 (n0 := 1) 0 k c) = biasn g.val k.val c.val)
    (hpen : pen = if n.val = 0 then ⊥ else 0) (k : Fin 128) (c : Fin 384) :
    (if c.val % 128 < k.val then sc (ix2 (lo k) c) else sc (ix2 (hi k) c)) + bl (ix3 (n0 := 1) 0 k c) + (if c.val % 128 < k.val then pen else 0)
      = (if c.val % 128 < k.val then score a b n (headOf g c) (rowOf c) (lo k) else score a b n (headOf g c) (rowOf c) (hi k))
        * (((Real.log 2)⁻¹ : ℝ) : EReal) := by
  have h2 : (0 : ℝ) < (Real.log 2)⁻¹ := inv_pos.2 (Real.log_pos (by norm_num))
  rw [hb, biasn, hpen]
  by_cases h : c.val % 128 < k.val
  · simp only [if_pos h, hsc, ← EReal.coe_add]
    by_cases hn : n.val = 0
    · rw [if_pos hn, EReal.add_bot, score, if_neg (by simp [Valid, lo, hn]), EReal.bot_mul_coe_of_pos h2]
    · rw [if_neg hn, add_zero, score, if_pos ⟨h, by simp only [lo, rowOf]; omega, by omega⟩, raw_eq _ _ (by omega), ← EReal.coe_mul]
      congr 1
      simp only [lo]
      ring
  · simp only [if_neg h, hsc, ← EReal.coe_add]
    rw [add_zero, score, if_pos ⟨by simp only [hi, rowOf]; omega, by simp only [hi, rowOf]; omega, by simp only [hi]; omega⟩,
      raw_eq _ _ (by simp only [hi]; omega), ← EReal.coe_mul]
    congr 1
    simp only [hi]
    push_cast
    ring

/-- The scores of a block that is not the tile's first. -/
abbrev foldPlain (sc : FVec Ideal S256x384 .f32) (bl : Vec Ideal S1x128x384 .f32) : FVec Ideal S128x384 .f32 :=
  addf (select k0_pay21 (extractStridedSlice S128x384 ![0, 0] sc slices_S256x384_o0_0_S128x384)
    (extractStridedSlice S128x384 ![128, 0] sc slices_S256x384_o128_0_S128x384)) (shapeCast S128x384 bl shapeCasts_S1x128x384_S128x384)

theorem plain_apply (sc : FVec Ideal S256x384 .f32) (bl : Vec Ideal S1x128x384 .f32) (k : Fin 128) (c : Fin 384) :
    foldPlain sc bl (ix2 k c)
      = (if c.val % 128 < k.val then sc (ix2 (lo k) c) else sc (ix2 (hi k) c)) + bl (ix3 (n0 := 1) 0 k c) := by
  pointwise
  rw [mask_apply]
  by_cases h : c.val % 128 < k.val
  · simp only [if_pos h]; rfl
  · simp only [if_neg h]; rfl

theorem pen_apply (pen : EReal) (sc : FVec Ideal S256x384 .f32) (bl : Vec Ideal S1x128x384 .f32) (k : Fin 128) (c : Fin 384) :
    k0_pay45 (F := Ideal) pen k0_pay21 sc bl (ix2 k c)
      = (if c.val % 128 < k.val then sc (ix2 (lo k) c) else sc (ix2 (hi k) c)) + bl (ix3 (n0 := 1) 0 k c)
        + (if c.val % 128 < k.val then pen else 0) := by
  pointwise [k0_pay45]
  rw [mask_apply]
  by_cases h : c.val % 128 < k.val
  · simp only [if_pos h]; rfl
  · simp only [if_neg h]; rfl

/-- What a group's three heads give, features by columns. -/
def outn (a : Args) (b : Fin 4) (n : Fin 64) (g : Fin 2) (d : Fin 64) (c : Fin 384) : EReal := swa a b n (headOf g c) (rowOf c) d

theorem band_out (ha : Finite a) {s : FVec Ideal S128x384 .f32} {snk : FVec Ideal S1x384 .f32} {vb : FVec Ideal S64x256 .bf16}
    (hs : ∀ (k : Fin 128) (c : Fin 384), s (ix2 k c) = (if c.val % 128 < k.val then score a b n (headOf g c) (rowOf c) (lo k)
        else score a b n (headOf g c) (rowOf c) (hi k)) * (((Real.log 2)⁻¹ : ℝ) : EReal))
    (hsnk : ∀ c : Fin 384, snk (ix2 0 c) = a.sk (headOf g c) * (((Real.log 2)⁻¹ : ℝ) : EReal))
    (hv : ∀ (d : Fin 64) (j : Fin 256), vb (ix2 d j) = vn a b (128 * n.val + j.val) (64 * g.val + d.val)) (d : Fin 64) (c : Fin 384) :
    bandOut s snk vb (ix2 d c) = outn a b n g d c := by
  obtain ⟨σ, hσ⟩ := ha.sk (headOf g c)
  have hk := hsnk c
  rw [hσ] at hk
  rw [band_core d c (fun k => hs k c) hk, outn, swa, hσ]
  · congr 1
    funext j
    rw [hv, vBand, vn]
    by_cases h : 128 ≤ 128 * n.val + j.val
    · rw [if_neg (by omega), if_pos h, keyTok, zn_eq (by omega) (by omega)]
      congr 2
      simp only [headOf]
      omega
    · rw [if_pos (by omega), if_neg h]
  · intro j
    rw [score]
    split
    · exact EReal.coe_ne_top _
    · exact bot_ne_top
  · intro k hk'
    rw [score, if_neg]
    rintro ⟨h1, _⟩
    exact hk' h1
  · intro k hk'
    rw [score, if_neg]
    rintro ⟨_, h1, _⟩
    simp only [hi, rowOf] at h1
    omega

end Group

end Cert.Swa

end
-- ==== Proof.Group.lean ====
/-
  The pieces of windowed attention: sinks, position bias, penalty, and a group's three heads of a block.
-/
module

public import proofs.«01_k».proof.Proof.Swa

@[expose] public section

set_option maxRecDepth 16384

noncomputable section

namespace Cert.Swa

open Idealize.ShloMosaic Idealize.ShloMosaic.TcCoe Cert.KernelIdeal Cert.KernelIdeal.Gen Cert.Soft Cert.Spec

abbrev columns : IVec S1x384 32 := iota .tc S1x384 32 [1] iota_S1x384_d1_w32

theorem head_apply (c : Fin 384) : k0_pay25 columns 128#32 k0_pay24 (ix2 (n0 := 1) 0 c) = BitVec.ofNat 32 (c.val / 128) := by
  pointwise [k0_pay25, k0_pay24]
  revert c
  decide +kernel

theorem eq_apply : ∀ c : Fin 384,
    IntOp.cmpi CmpIPredicate.eq (BitVec.ofNat 32 (c.val / 128)) 1#32 = (if c.val / 128 = 1 then 1#1 else 0#1)
      ∧ IntOp.cmpi CmpIPredicate.eq (BitVec.ofNat 32 (c.val / 128)) 2#32 = (if c.val / 128 = 2 then 1#1 else 0#1) := by
  decide +kernel

theorem log2e_eq : Named.named (F := Ideal) κ "log2e" (φ := .f32) 0x3FB8AA3B#32 = (((Real.log 2)⁻¹ : ℝ) : EReal) := rfl

section

variable {a : Args} {s0 s1 s2 : Ideal .f32}

theorem sel (c : Fin 384) (g : Fin 2) (h0 : s0 = ext1 a.sk (3 * g.val)) (h1 : s1 = ext1 a.sk (3 * g.val + 1)) (h2 : s2 = ext1 a.sk (3 * g.val + 2)) :
    Scalar.select (if c.val / 128 = 2 then 1#1 else 0#1) s2 (Scalar.select (if c.val / 128 = 1 then 1#1 else 0#1) s1 s0) = a.sk (headOf g c) := by
  have e : ∀ {k : ℕ} (hk : k < 6), k = (headOf g c).val → ext1 a.sk k = a.sk (headOf g c) := fun hk h => by
    rw [ext1_eq _ hk]
    exact congrArg a.sk (Fin.ext h)
  have hh : (headOf g c).val = 3 * g.val + c.val / 128 := rfl
  by_cases k2 : c.val / 128 = 2
  · rw [if_pos k2]
    exact h2.trans (e (by omega) (by omega))
  · rw [if_neg k2]
    by_cases k1 : c.val / 128 = 1
    · rw [if_pos k1]
      exact h1.trans (e (by omega) (by omega))
    · rw [if_neg k1]
      exact h0.trans (e (by omega) (by omega))

theorem sink0 (h0 : s0 = ext1 a.sk 0) (h1 : s1 = ext1 a.sk 1) (h2 : s2 = ext1 a.sk 2) (c : Fin 384) :
    k0_pay26 (F := Ideal) columns 128#32 k0_pay24 s0 s1 s2 (ix2 (n0 := 1) 0 c) = a.sk (headOf 0 c) * (((Real.log 2)⁻¹ : ℝ) : EReal) := by
  pointwise [k0_pay26]
  rw [head_apply, log2e_eq, (eq_apply c).1, (eq_apply c).2]
  exact congrArg (· * _) (sel c 0 h0 h1 h2)

theorem sink1 (h0 : s0 = ext1 a.sk 3) (h1 : s1 = ext1 a.sk 4) (h2 : s2 = ext1 a.sk 5) (c : Fin 384) :
    k0_pay29 (F := Ideal) (k0_pay25 columns 128#32 k0_pay24) (k0_pay27 columns 128#32 k0_pay24 s0 s1) k0_pay28 s2 (ix2 (n0 := 1) 0 c)
      = a.sk (headOf 1 c) * (((Real.log 2)⁻¹ : ℝ) : EReal) := by
  pointwise [k0_pay29, k0_pay27, k0_pay28]
  rw [head_apply, log2e_eq, (eq_apply c).1, (eq_apply c).2]
  exact congrArg (· * _) (sel c 1 h0 h1 h2)

end

theorem dist_apply : ∀ k r : Fin 128, (IntOp.addi (IntOp.subi (BitVec.ofNat 32 r.val) (BitVec.ofNat 32 k.val))
      (Scalar.select (IntOp.cmpi CmpIPredicate.sgt (BitVec.ofNat 32 k.val) (BitVec.ofNat 32 r.val)) 128#32 0#32)).toInt
    = (r.val : ℤ) + (if r.val < k.val then 128 else 0) - k.val := by
  decide +kernel

theorem dist_eq (k r : Fin 128) : k0_pay6 (F := Ideal) (ix2 k r) = (((r.val : ℝ) + (if r.val < k.val then 128 else 0) - (k.val : ℝ) : ℝ) : EReal) := by
  pointwise [k0_pay6]
  show (((BitVec.toInt _ : ℝ)) : EReal) = _
  rw [dist_apply]
  split <;> simp

theorem bias_core (h : Fin 6) (k : Fin 128) (c r : ℕ) (hr : r < 128) (g : ℕ) (hc : c = 128 * (h.val - 3 * g) + r) (hg : 3 * g ≤ h.val) (κv : EReal)
    (hκ : κv = ((-(slope h) * (Real.log 2)⁻¹ : ℝ) : EReal)) :
    κv * k0_pay6 (F := Ideal) (ix2 k ⟨r, hr⟩) = biasn g k.val c := by
  have h1 : 3 * g + c / 128 = h.val := by omega
  have h2 : c % 128 = r := by omega
  rw [dist_eq, hκ, ← EReal.coe_mul, biasn, h1, h2, slopen, dif_pos h.isLt]

theorem slope_named (x : ℝ) : ((-(x * (Real.log 2)⁻¹) : ℝ) : EReal) = ((-x * (Real.log 2)⁻¹ : ℝ) : EReal) := by rw [neg_mul]

theorem bias0 (k r : Fin 128) : k0_pay7 (F := Ideal) (ix3 (n0 := 1) 0 k r) = biasn 0 (0 + k.val) (0 + r.val) := by
  rw [Nat.zero_add, ← bias_core 0 k (0 + r.val) r.val r.isLt 0 (by simp) (by simp) _ (slope_named _)]
  pointwise [k0_pay7]
  rfl

theorem bias1 (k r : Fin 128) : k0_pay8 (F := Ideal) (ix3 (n0 := 1) 0 k r) = biasn 0 (0 + k.val) (128 + r.val) := by
  rw [Nat.zero_add, ← bias_core 1 k (128 + r.val) r.val r.isLt 0 (by simp) (by simp) _ (slope_named _)]
  pointwise [k0_pay8]
  rfl

theorem bias2 (k r : Fin 128) : k0_pay9 (F := Ideal) (ix3 (n0 := 1) 0 k r) = biasn 0 (0 + k.val) (256 + r.val) := by
  rw [Nat.zero_add, ← bias_core 2 k (256 + r.val) r.val r.isLt 0 (by simp) (by simp) _ (slope_named _)]
  pointwise [k0_pay9]
  rfl

theorem bias3 (k r : Fin 128) : k0_pay10 (F := Ideal) (ix3 (n0 := 1) 0 k r) = biasn 1 (0 + k.val) (0 + r.val) := by
  rw [Nat.zero_add, ← bias_core 3 k (0 + r.val) r.val r.isLt 1 (by simp) (by simp) _ (slope_named _)]
  pointwise [k0_pay10]
  rfl

theorem bias4 (k r : Fin 128) : k0_pay11 (F := Ideal) (ix3 (n0 := 1) 0 k r) = biasn 1 (0 + k.val) (128 + r.val) := by
  rw [Nat.zero_add, ← bias_core 4 k (128 + r.val) r.val r.isLt 1 (by simp) (by simp) _ (slope_named _)]
  pointwise [k0_pay11]
  rfl

theorem bias5 (k r : Fin 128) : k0_pay16 (F := Ideal) k0_pay6 (ix3 (n0 := 1) 0 k r) = biasn 1 (0 + k.val) (256 + r.val) := by
  rw [Nat.zero_add, ← bias_core 5 k (256 + r.val) r.val r.isLt 1 (by simp) (by simp) _ (slope_named _)]
  pointwise [k0_pay16]
  rfl

/-- The penalty of the first block of a tile: everything before the sequence begins is out of sight. -/
theorem pen_eq (i : grid0.Coords) : k0_pay20 (F := Ideal) i = if (i 1).val = 0 then ⊥ else 0 := by
  have h : ∀ s : Fin 8, Scalar.cmpi .eq (BitVec.ofNat 32 s.val) 0#32 = if s.val = 0 then 1#1 else 0#1 := by decide +kernel
  show Scalar.select (Scalar.cmpi .eq (BitVec.ofNat 32 (i 1).val) 0#32) (Named.named (F := Ideal) κ "mask" (φ := .f32) 0xF149F2CA#32)
    (Scalar.ofBits .f32 0x00000000#32) = _
  rw [h (i 1)]
  by_cases h0 : (i 1).val = 0
  · rw [if_pos h0, if_pos h0]; rfl
  · rw [if_neg h0, if_neg h0]
    exact Ideal.ofBits_zero_f32

abbrev piece (v : FVec Ideal S64x128 .f32) (z : Vec Ideal S64x128 .f32) : Vec Ideal S1x64x128 .bf16 :=
  shapeCast S1x64x128 (shapeCast S64x128 (truncf (F := Ideal) .bf16 (mulf (F := Ideal) (φ := .f32) v (mulf (F := Ideal) (φ := .f32) z (logistic (F := Ideal) (φ := .f32) z))) bitsLt_bf16_f32)
    shapeCasts_S64x128_S64x128) shapeCasts_S64x128_S1x64x128

abbrev slice0 (v : FVec Ideal S64x384 .f32) : FVec Ideal S64x128 .f32 := extractStridedSlice S64x128 ![0, 0] v slices_S64x384_o0_0_S64x128
abbrev slice1 (v : FVec Ideal S64x384 .f32) : FVec Ideal S64x128 .f32 := extractStridedSlice S64x128 ![0, 128] v slices_S64x384_o0_128_S64x128
abbrev slice2 (v : FVec Ideal S64x384 .f32) : FVec Ideal S64x128 .f32 := extractStridedSlice S64x128 ![0, 256] v slices_S64x384_o0_256_S64x128

variable {a : Args} {b : Fin 4} {n : Fin 64} {g : Fin 2} {T p : ℕ}

theorem piece_apply (v : FVec Ideal S64x128 .f32) (z : Vec Ideal S64x128 .f32) (d : Fin 64) (r : Fin 128) :
    piece v z (ix3 (n0 := 1) 0 d r) = v (ix2 d r) * silu (z (ix2 d r)) := by
  pointwise
  rfl

theorem outn_eq (hT : T + p = 128 * n.val) (d : Fin 64) (r : Fin 128) (i : Fin 3) :
    outn a b n g d ⟨128 * i.val + r.val, by omega⟩ * silu (zn a b (T + (p + r.val)) (2176 + 64 * (3 * g.val + i.val) + d.val))
      = ycatn a b (T + (p + r.val)) (384 + 64 * (3 * g.val + i.val) + d.val) := by
  rw [ycatn_eq (by omega) (by omega), ycat, dif_neg (by simp only; omega), dif_pos (by simp only; omega), yswa, outn, zn_eq (by omega) (by omega)]
  refine congrArg₂ (· * ·) ?_ (congrArg silu (congrArg (Z a b _) (Fin.ext (by simp only; omega))))
  have h1 : (⟨(T + (p + r.val)) / 128, by omega⟩ : Fin 64) = n := Fin.ext (by simp only; omega)
  have h2 : headOf g ⟨128 * i.val + r.val, by omega⟩ = ⟨(384 + 64 * (3 * g.val + i.val) + d.val - 384) / 64, by omega⟩ :=
    Fin.ext (by simp only [headOf]; omega)
  have h3 : rowOf ⟨128 * i.val + r.val, by omega⟩ = ⟨(T + (p + r.val)) % 128, by omega⟩ := Fin.ext (by simp only [rowOf]; omega)
  have h4 : d = ⟨(384 + 64 * (3 * g.val + i.val) + d.val - 384) % 64, by omega⟩ := Fin.ext (by simp only; omega)
  rw [h2, h3]
  congr 1
  exact h1.symm

theorem piece0 {v : FVec Ideal S64x384 .f32} {z : Vec Ideal S64x128 .f32} (hT : T + p = 128 * n.val) (hv : ∀ d c, v (ix2 d c) = outn a b n g d c)
    (hz : ∀ (d : Fin 64) (r : Fin 128), z (ix2 d r) = zn a b (T + (p + r.val)) (2176 + 64 * (3 * g.val + (0 : Fin 3).val) + d.val)) (d : Fin 64) (r : Fin 128) :
    piece (slice0 v) z (ix3 (n0 := 1) 0 d r) = ycatn a b (T + (p + r.val)) (384 + 64 * (3 * g.val + (0 : Fin 3).val) + d.val) := by
  rw [piece_apply, hz, ← outn_eq hT d r 0]
  refine congrArg (· * _) ?_
  rw [← hv]
  pointwise

theorem piece1 {v : FVec Ideal S64x384 .f32} {z : Vec Ideal S64x128 .f32} (hT : T + p = 128 * n.val) (hv : ∀ d c, v (ix2 d c) = outn a b n g d c)
    (hz : ∀ (d : Fin 64) (r : Fin 128), z (ix2 d r) = zn a b (T + (p + r.val)) (2176 + 64 * (3 * g.val + (1 : Fin 3).val) + d.val)) (d : Fin 64) (r : Fin 128) :
    piece (slice1 v) z (ix3 (n0 := 1) 0 d r) = ycatn a b (T + (p + r.val)) (384 + 64 * (3 * g.val + (1 : Fin 3).val) + d.val) := by
  rw [piece_apply, hz, ← outn_eq hT d r 1]
  refine congrArg (· * _) ?_
  rw [← hv]
  pointwise

theorem piece2 {v : FVec Ideal S64x384 .f32} {z : Vec Ideal S64x128 .f32} (hT : T + p = 128 * n.val) (hv : ∀ d c, v (ix2 d c) = outn a b n g d c)
    (hz : ∀ (d : Fin 64) (r : Fin 128), z (ix2 d r) = zn a b (T + (p + r.val)) (2176 + 64 * (3 * g.val + (2 : Fin 3).val) + d.val)) (d : Fin 64) (r : Fin 128) :
    piece (slice2 v) z (ix3 (n0 := 1) 0 d r) = ycatn a b (T + (p + r.val)) (384 + 64 * (3 * g.val + (2 : Fin 3).val) + d.val) := by
  rw [piece_apply, hz, ← outn_eq hT d r 2]
  refine congrArg (· * _) ?_
  rw [← hv]
  pointwise

end Cert.Swa

end
-- ==== Proof.Mem.lean ====
/-
  Attention of 512 queries over the 256 memory slots, one head.
-/
module

public import proofs.«01_k».proof.Proof.Nat
public import proofs.«01_k».proof.Proof.Gen.KernelIdeal.Skeleton

@[expose] public section

set_option maxRecDepth 16384

noncomputable section

namespace Cert.Mem

open Idealize.ShloMosaic Idealize.ShloMosaic.TcCoe Cert.KernelIdeal Cert.KernelIdeal.Gen Cert.Soft Cert.Spec

abbrev zero4 : FVec Ideal S64x512 .bf16 := broadcast S64x512 (Scalar.ofBits .bf16 0x0000#16)

abbrev scaled (q : Vec Ideal S64x512 .f32) : FVec Ideal S64x512 .bf16 :=
  truncf (F := Ideal) .bf16 (mulf (F := Ideal) (φ := .f32) q (broadcast S64x512 (Named.named κ "qk_scale_log2e" 0x3E38AA3B#32))) bitsLt_bf16_f32

abbrev memScore (x0 x1 x2 x3 : FVec Ideal S64x512 .bf16) (mk : Vec Ideal S1x256x256 .bf16) : FVec Ideal S256x512 .f32 :=
  matmul (F := Ideal) (φ₁ := .bf16) (φ₂ := .bf16) dot_S256x256_S256x512_S256x512_1_0_0_1_n_n none (shapeCast S256x256 mk shapeCasts_S1x256x256_S256x256)
    (concatenate S256x512 0 [⟨S64x512, x0⟩, ⟨S64x512, x1⟩, ⟨S64x512, x2⟩, ⟨S64x512, x3⟩] concatenates_S64x512_S64x512_S64x512_S64x512_S256x512_d0)
    (constant S256x512 .f32 0x00000000#32)

abbrev memExp (sc : FVec Ideal S256x512 .f32) : FVec Ideal S256x512 .f32 :=
  exp2 (subf sc (broadcastTo S256x512 (shapeCast S1x512 (multiReduction .maximumf [0] S512 sc 0xFF800000#32 reduces_S256x512_S512 (.inl rfl) rfl)
    shapeCasts_S512_S1x512) broadcasts_S1x512_S256x512))

abbrev memOut (sc : FVec Ideal S256x512 .f32) (mv : Vec Ideal S1x64x256 .bf16) : FVec Ideal S64x512 .f32 :=
  divf (matmul (F := Ideal) (φ₁ := .bf16) (φ₂ := .bf16) dot_S64x256_S256x512_S64x512_1_0_0_1_n_n none (shapeCast S64x256 mv shapeCasts_S1x64x256_S64x256)
      (truncf .bf16 (memExp sc) bitsLt_bf16_f32) (constant S64x512 .f32 0x00000000#32))
    (broadcastTo S64x512 (shapeCast S1x512 (multiReduction .add [0] S512 (memExp sc) 0x00000000#32 reduces_S256x512_S512 (.inl rfl) rfl)
      shapeCasts_S512_S1x512) broadcasts_S1x512_S64x512)

abbrev memPiece (sc : FVec Ideal S256x512 .f32) (mv : Vec Ideal S1x64x256 .bf16) (z : Vec Ideal S64x512 .f32) : Vec Ideal S1x64x512 .bf16 :=
  shapeCast S1x64x512 (shapeCast S64x512 (truncf (F := Ideal) .bf16 (mulf (F := Ideal) (φ := .f32) (memOut sc mv) (mulf (F := Ideal) (φ := .f32) z (logistic (F := Ideal) (φ := .f32) z))) bitsLt_bf16_f32)
    shapeCasts_S64x512_S64x512) shapeCasts_S64x512_S1x64x512

theorem piece_shape {e : FTy} (v : FVec Ideal S64x512 e) (d : Fin 64) (r : Fin 512) :
    shapeCast S1x64x512 (shapeCast S64x512 v shapeCasts_S64x512_S64x512) shapeCasts_S64x512_S1x64x512 (ix3 (n0 := 1) 0 d r) = v (ix2 d r) := by
  pointwise

/-- A sum with terms in one slot of 64 only. -/
theorem sum_slot (o : ℕ) (ho : o + 64 ≤ 256) (f : Fin 256 → EReal) (h0 : ∀ x : Fin 256, ¬(o ≤ x.val ∧ x.val < o + 64) → f x = 0) :
    ∑ x, f x = ∑ e : Fin 64, f ⟨o + e.val, by omega⟩ := by
  symm
  refine Finset.sum_of_injOn (fun e : Fin 64 => (⟨o + e.val, by omega⟩ : Fin 256)) ?_ ?_ ?_ ?_
  · intro e _ e' _ h
    have := congrArg Fin.val h
    exact Fin.ext (by simp only at this; omega)
  · intro e _
    exact Finset.mem_coe.2 (Finset.mem_univ _)
  · intro x _ hx
    refine h0 x fun h => hx ⟨⟨x.val - o, by omega⟩, Finset.mem_coe.2 (Finset.mem_univ _), Fin.ext (by simp only; omega)⟩
  · intro e _
    rfl

theorem neg_inf : Ideal.ofBits .f32 4286578688#32 = ⊥ := by
  simp [Ideal.ofBits, Ideal.ieee]

theorem mem_core {sc : FVec Ideal S256x512 .f32} {mv : Vec Ideal S1x64x256 .bf16} (d : Fin 64) (r : Fin 512) {score : Fin 256 → ℝ}
    (hs : ∀ m : Fin 256, sc (ix2 m r) = (score m : EReal) * (((Real.log 2)⁻¹ : ℝ) : EReal)) :
    memOut sc mv (ix2 d r) = mean (fun m => wt (score m : EReal)) (∑ m, wt (score m : EReal)) (fun m => mv (ix3 (n0 := 1) 0 d m)) := by
  obtain ⟨M, hM⟩ := fold_max_real ⊥ (fun m : Fin 256 => sc (ix2 m r)) bot_ne_top
    (fun m => by rw [hs, ← EReal.coe_mul]; exact EReal.coe_ne_top _)
    (Or.inl ⟨0, by rw [hs, ← EReal.coe_mul]; exact EReal.coe_ne_bot _⟩)
  have he : ∀ m : Fin 256, FloatOps.exp2 (F := Ideal) (sc (ix2 m r) - (M : EReal) : EReal)
      = ((wt (score m : EReal) * (2 : ℝ) ^ (-M) : ℝ) : EReal) := fun m => by
    rw [hs]
    exact exp2_shift (EReal.coe_ne_top _) M
  have hκ : (0 : ℝ) < (2 : ℝ) ^ (-M) := Real.rpow_pos_of_pos (by norm_num) _
  pointwise
  simp only [neg_inf, hM, he]
  rw [← coe_sum, ← Finset.sum_mul, div_sum _ ?_ hκ]
  exact Finset.sum_pos (fun m _ => by rw [wt_coe]; exact Real.exp_pos _) Finset.univ_nonempty

theorem scale_eq : Named.named (F := Ideal) κ "qk_scale_log2e" (φ := .f32) 1043900987#32 = (((1 / 8) * (Real.log 2)⁻¹ : ℝ) : EReal) := rfl

/-- The real number a memory slot scores. -/
def mraw (a : Args) (b : Fin 4) (t : ℕ) (h : Fin 4) (m : Fin 256) : ℝ :=
  (∑ e : Fin 64, (zn a b t (2560 + 64 * h.val + e.val)).toReal * (a.mkey b m ⟨64 * h.val + e.val, by omega⟩).toReal) * (1 / 8)

theorem sum_real {a : Args} (ha : Finite a) {b : Fin 4} {h : Fin 4} {f qe : Fin 64 → EReal} {t : ℕ} {m : Fin 256} (hf : ∀ e, f e = a.mkey b m ⟨64 * h.val + e.val, by omega⟩)
    (hqe : ∀ e : Fin 64, qe e = zn a b t (2560 + 64 * h.val + e.val)) :
    ∑ e, f e * (qe e * (((1 / 8) * (Real.log 2)⁻¹ : ℝ) : EReal)) = (mraw a b t h m : EReal) * (((Real.log 2)⁻¹ : ℝ) : EReal) := by
  rw [← EReal.coe_mul, mraw, mul_assoc, Finset.sum_mul, coe_sum]
  refine Finset.sum_congr rfl fun e _ => ?_
  obtain ⟨x, hx⟩ := ha.mkey b m ⟨64 * h.val + e.val, by omega⟩
  rw [hf, hqe, hx, zn_real ha, EReal.toReal_coe, EReal.toReal_coe, ← EReal.coe_mul, ← EReal.coe_mul]
  congr 1
  ring

section Heads

variable {a : Args} (ha : Finite a) {b : Fin 4} {T : ℕ} {h : Fin 4} {q : Vec Ideal S64x512 .f32} {mk : Vec Ideal S1x256x256 .bf16}
  (hT : T + 512 ≤ 8192)
  (hq : ∀ (e : Fin 64) (r : Fin 512), q (ix2 e r) = zn a b (T + r.val) (2560 + 64 * h.val + e.val))
  (hm : ∀ (m d : Fin 256), mk (ix3 (n0 := 1) 0 m d) = a.mkey b m d)

include hT in
theorem mraw_eq (r : Fin 512) (m : Fin 256) :
    mscore a b ⟨T + r.val, by omega⟩ h m = (mraw a b (T + r.val) h m : EReal) := by
  rw [mscore, mraw]
  congr 3
  refine funext fun e => ?_
  rw [zr_eq]
  congr 1
  · exact congrArg EReal.toReal (congrArg₂ (zn a b) rfl (by omega))
  · exact congrArg (fun d => (a.mkey b m d).toReal) (Fin.ext (by simp only; omega))

include ha hq hm in
theorem score0 (h0 : h = 0) (m : Fin 256) (r : Fin 512) :
    memScore (scaled q) zero4 zero4 zero4 mk (ix2 m r) = (mraw a b (T + r.val) h m : EReal) * (((Real.log 2)⁻¹ : ℝ) : EReal) := by
  subst h0
  pointwise
  simp only [mul_zero, Finset.sum_const_zero, add_zero, zero_add, scale_eq]
  rw [sum_slot 0 (by omega) _ (fun x hx => ?_)]
  · refine (Finset.sum_congr rfl fun e _ => ?_).trans (sum_real ha (f := fun e => mk (ix3 (n0 := 1) 0 m ⟨0 + e.val, by omega⟩)) (qe := fun e => q (ix2 e r)) (fun e => (hm _ _).trans (congrArg (a.mkey b m) (Fin.ext (by simp)))) (fun e => hq _ _))
    refine congrArg _ ?_
    rw [dif_pos (by show 0 + e.val < 64; omega)]
    exact congrArg (fun e => q (ix2 e r) * _) (Fin.ext (by simp only; omega))
  · split_ifs <;> first | omega | exact mul_zero _

include ha hq hm in
theorem score1 (h0 : h = 1) (m : Fin 256) (r : Fin 512) :
    memScore zero4 (scaled q) zero4 zero4 mk (ix2 m r) = (mraw a b (T + r.val) h m : EReal) * (((Real.log 2)⁻¹ : ℝ) : EReal) := by
  subst h0
  pointwise
  simp only [mul_zero, Finset.sum_const_zero, add_zero, zero_add, scale_eq]
  rw [sum_slot 64 (by omega) _ (fun x hx => ?_)]
  · refine (Finset.sum_congr rfl fun e _ => ?_).trans (sum_real ha (f := fun e => mk (ix3 (n0 := 1) 0 m ⟨64 + e.val, by omega⟩)) (qe := fun e => q (ix2 e r)) (fun e => (hm _ _).trans (congrArg (a.mkey b m) (Fin.ext (by simp)))) (fun e => hq _ _))
    refine congrArg _ ?_
    rw [dif_neg (by show ¬64 + e.val < 64; omega), dif_pos (by show 64 + e.val - 64 < 64; omega)]
    exact congrArg (fun e => q (ix2 e r) * _) (Fin.ext (by simp only; omega))
  · split_ifs <;> first | omega | exact mul_zero _

include ha hq hm in
theorem score2 (h0 : h = 2) (m : Fin 256) (r : Fin 512) :
    memScore zero4 zero4 (scaled q) zero4 mk (ix2 m r) = (mraw a b (T + r.val) h m : EReal) * (((Real.log 2)⁻¹ : ℝ) : EReal) := by
  subst h0
  pointwise
  simp only [mul_zero, Finset.sum_const_zero, add_zero, zero_add, scale_eq]
  rw [sum_slot 128 (by omega) _ (fun x hx => ?_)]
  · refine (Finset.sum_congr rfl fun e _ => ?_).trans (sum_real ha (f := fun e => mk (ix3 (n0 := 1) 0 m ⟨128 + e.val, by omega⟩)) (qe := fun e => q (ix2 e r)) (fun e => (hm _ _).trans (congrArg (a.mkey b m) (Fin.ext (by simp)))) (fun e => hq _ _))
    refine congrArg _ ?_
    rw [dif_neg (by show ¬128 + e.val < 64; omega), dif_neg (by show ¬128 + e.val - 64 < 64; omega), dif_pos (by show 128 + e.val - 64 - 64 < 64; omega)]
    exact congrArg (fun e => q (ix2 e r) * _) (Fin.ext (by simp only; omega))
  · split_ifs <;> first | omega | exact mul_zero _

include ha hq hm in
theorem score3 (h0 : h = 3) (m : Fin 256) (r : Fin 512) :
    memScore zero4 zero4 zero4 (scaled q) mk (ix2 m r) = (mraw a b (T + r.val) h m : EReal) * (((Real.log 2)⁻¹ : ℝ) : EReal) := by
  subst h0
  pointwise
  simp only [mul_zero, Finset.sum_const_zero, add_zero, zero_add, scale_eq]
  rw [sum_slot 192 (by omega) _ (fun x hx => ?_)]
  · refine (Finset.sum_congr rfl fun e _ => ?_).trans (sum_real ha (f := fun e => mk (ix3 (n0 := 1) 0 m ⟨192 + e.val, by omega⟩)) (qe := fun e => q (ix2 e r)) (fun e => (hm _ _).trans (congrArg (a.mkey b m) (Fin.ext (by simp)))) (fun e => hq _ _))
    refine congrArg _ ?_
    rw [dif_neg (by show ¬192 + e.val < 64; omega), dif_neg (by show ¬192 + e.val - 64 < 64; omega), dif_neg (by show ¬192 + e.val - 64 - 64 < 64; omega)]
    exact congrArg (fun e => q (ix2 e r) * _) (Fin.ext (by simp only; omega))
  · split_ifs <;> first | omega | exact mul_zero _

include hT in
/-- What a head stores: the mixers' outputs of its features. -/
theorem mem_piece {sc : FVec Ideal S256x512 .f32} {mv : Vec Ideal S1x64x256 .bf16} {z : Vec Ideal S64x512 .f32}
    (hs : ∀ (m : Fin 256) (r : Fin 512), sc (ix2 m r) = (mraw a b (T + r.val) h m : EReal) * (((Real.log 2)⁻¹ : ℝ) : EReal))
    (hv : ∀ (d : Fin 64) (m : Fin 256), mv (ix3 (n0 := 1) 0 d m) = a.mval b m ⟨64 * h.val + d.val, by omega⟩)
    (hz : ∀ (d : Fin 64) (r : Fin 512), z (ix2 d r) = zn a b (T + r.val) (2816 + 64 * h.val + d.val)) (d : Fin 64) (r : Fin 512) :
    memPiece sc mv z (ix3 (n0 := 1) 0 d r) = ycatn a b (T + r.val) (768 + 64 * h.val + d.val) := by
  have h1 : memPiece sc mv z (ix3 (n0 := 1) 0 d r) = memOut sc mv (ix2 d r) * silu (z (ix2 d r)) := by
    exact (piece_shape _ d r).trans (by pointwise; rfl)
  rw [h1, mem_core d r (fun m => hs m r), hz, ycatn_eq (by omega) (by omega), ycat, dif_neg (by simp only; omega), dif_neg (by simp only; omega), ymem,
    zn_eq (by omega) (by omega), mem]
  congr 1
  · congr 1
    · funext m
      rw [← mraw_eq hT]
      exact congrArg (fun x => wt (mscore a b _ x m)) (Fin.ext (by simp only; omega))
    · refine Finset.sum_congr rfl fun m _ => ?_
      rw [← mraw_eq hT]
      exact congrArg (fun x => wt (mscore a b _ x m)) (Fin.ext (by simp only; omega))
    · funext m
      rw [hv]
      exact congrArg (a.mval b m) (Fin.ext (by simp only; omega))
  · exact congrArg silu (congrArg (Z a b _) (Fin.ext (by simp only; omega)))

end Heads

end Cert.Mem

end
-- ==== Proof.Conv.lean ====
/-
  The short convolution of a half tile.
-/
module

public import proofs.«01_k».proof.Proof.Nat
public import proofs.«01_k».proof.Proof.Gen.KernelIdeal.Skeleton

@[expose] public section

set_option maxRecDepth 16384

noncomputable section

namespace Cert.Conv

open Idealize.ShloMosaic Idealize.ShloMosaic.TcCoe Cert.KernelIdeal Cert.KernelIdeal.Gen Cert.Soft Cert.Spec

theorem un_back {a : Args} {b : Fin 4} {t k : ℕ} (ht : t < 8192) (hk : k ≤ 128) (c : Fin 384) :
    un a b (t + 128 - k) c.val = Uback a k b ⟨t, ht⟩ c := by
  unfold un Uback
  by_cases h : k ≤ t
  · rw [if_neg (by omega), if_pos h, zn_eq (by omega) (by omega), zn_eq (by omega) (by omega), U]
    exact congrArg₂ (fun x y => Z a b x _ * Z a b y _) (Fin.ext (by simp only; omega)) (Fin.ext (by simp only; omega))
  · rw [if_pos (by omega), if_neg h]

theorem un_back' {a : Args} {b : Fin 4} {t : ℕ} (ht : t < 8192) (c : Fin 384) : un a b (t + 128) c.val = U a b ⟨t, ht⟩ c := by
  rw [un, if_neg (by omega), zn_eq (by omega) (by omega), zn_eq (by omega) (by omega), U]
  rfl

section

variable {a : Args} {b : Fin 4} {T : ℕ} {prev : Vec Ideal S384x128 .f32} {u1 u2 : Vec Ideal S384x512 .f32}
  (hp : ∀ (c : Fin 384) (p : Fin 128), prev (ix2 c p) = un a b (T + p.val) c.val)
  (h1 : ∀ (c : Fin 384) (r : Fin 512), u1 (ix2 c r) = zn a b (T + r.val) (384 + c.val))
  (h2 : ∀ (c : Fin 384) (r : Fin 512), u2 (ix2 c r) = zn a b (T + r.val) (768 + c.val))

include h1 h2 in
theorem u_eq (c : Fin 384) (r : Fin 512) : k0_pay40 (F := Ideal) u1 u2 (ix2 c r) = un a b (T + 128 + r.val) c.val := by
  show u1 (ix2 c r) * u2 (ix2 c r) = _
  rw [h1, h2, un, if_neg (by omega), show T + 128 + r.val - 128 = T + r.val by omega]

include hp h1 h2 in
theorem cat_eq (c : Fin 384) (p : Fin 640) : k0_pay41 (F := Ideal) prev u1 u2 (ix2 c p) = un a b (T + p.val) c.val := by
  pointwise [k0_pay41]
  by_cases h : p.val < 128
  · rw [dif_pos h]
    exact hp _ _
  · rw [dif_neg h, u_eq h1 h2]
    exact congrArg (fun t => un a b t c.val) (by simp only; omega)

include hp h1 h2 in
theorem back2 (w : FVec Ideal S384x3 .f32) (c : Fin 384) (r : Fin 512) :
    k0_pay42 (F := Ideal) w prev u1 u2 (ix2 c r) = w (ix2 c 0) * un a b (T + 126 + r.val) c.val := by
  have h := cat_eq hp h1 h2 c ⟨126 + r.val, by omega⟩
  pointwise [k0_pay42]
  refine congrArg _ (((congrArg (fun p => k0_pay41 prev u1 u2 (ix2 c p)) (Fin.ext ?_)).trans h).trans (congrArg (fun t => un a b t c.val) ?_))
  · simp only; omega
  · simp only; omega

include hp h1 h2 in
theorem conv_piece {cw : Vec Ideal S384x3 .f32} {cu z : Vec Ideal S384x512 .f32} (hT : T + 512 ≤ 8192)
    (hw : ∀ (c : Fin 384) (k : Fin 3), cw (ix2 c k) = a.cw k c)
    (hc : ∀ (c : Fin 384) (r : Fin 512), cu (ix2 c r) = zn a b (T + r.val) c.val)
    (hz : ∀ (c : Fin 384) (r : Fin 512), z (ix2 c r) = zn a b (T + r.val) (1152 + c.val)) (c : Fin 384) (r : Fin 512) :
    k0_pay43 (F := Ideal) (k0_pay23 cw) (k0_pay40 u1 u2) (k0_pay41 prev u1 u2) (k0_pay42 (k0_pay23 cw) prev u1 u2) cu z (ix3 (n0 := 1) 0 c r)
      = ycatn a b (T + r.val) c.val := by
  have e2 := back2 hp h1 h2 (k0_pay23 cw) c r
  have e0 := u_eq h1 h2 c r
  have h := cat_eq hp h1 h2 c ⟨127 + r.val, by omega⟩
  have hcw : ∀ k : Fin 3, k0_pay23 (F := Ideal) cw (ix2 c k) = a.cw k c := fun k => by
    pointwise [k0_pay23]
    exact hw c k
  have h' : k0_pay41 (F := Ideal) prev u1 u2 (ix2 c ⟨(128 + r.val + 640 - 1) % 640, Nat.mod_lt _ (by omega)⟩) = un a b (T + 127 + r.val) c.val :=
    ((congrArg (fun p => k0_pay41 (F := Ideal) prev u1 u2 (ix2 c p)) (Fin.ext (by simp only; omega))).trans h).trans
      (congrArg (fun t => un a b t c.val) (by simp only; omega))
  pointwise [k0_pay43]
  rw [e2, e0, h', hcw, hcw, hcw, hc, hz, ycatn_eq (by omega) (by omega), ycat, dif_pos c.isLt, yconv, zn_eq (by omega) (by omega),
    zn_eq (by omega) (by omega), conv, ← un_back (k := 2) (by omega) (by omega), ← un_back (k := 1) (by omega) (by omega),
    ← un_back' (by omega)]
  exact congrArg₂ (· * ·) (congrArg₂ (· * ·) rfl (congrArg₂ (· + ·) (congrArg₂ (· + ·)
    (congrArg (fun t => a.cw 0 c * un a b t c.val) (by omega)) (congrArg (fun t => a.cw 1 c * un a b t c.val) (by omega)))
    (congrArg (fun t => a.cw 2 c * un a b t c.val) (by omega)))) rfl

end

end Cert.Conv

end
-- ==== Proof.Proj.lean ====
/-
  The projections of a half tile: normalization and input projection, keys and values, output projection and residual.
-/
module

public import proofs.«01_k».proof.Proof.Nat
public import proofs.«01_k».proof.Proof.Gen.KernelIdeal.Skeleton

@[expose] public section

set_option maxRecDepth 16384

noncomputable section

namespace Cert.Proj

open Idealize.ShloMosaic Idealize.ShloMosaic.TcCoe Cert.KernelIdeal Cert.KernelIdeal.Gen Cert.Soft Cert.Spec

theorem norm_eq {a : Args} {b : Fin 4} {T : ℕ} {x : Vec Ideal S1x512x1024 .f32} {g : Vec Ideal S1x1024 .f32} (hT : T + 512 ≤ 8192)
    (hx : ∀ (r : Fin 512) (d : Fin 1024), x (ix3 (n0 := 1) 0 r d) = a.x b ⟨T + r.val, by omega⟩ d)
    (hg : ∀ d : Fin 1024, g (ix2 (n0 := 1) 0 d) = a.g d) (r : Fin 512) (d : Fin 1024) :
    k0_pay12 (F := Ideal) x g (ix2 r d) = rms (a.x b ⟨T + r.val, by omega⟩) a.g d := by
  pointwise [k0_pay12]
  simp only [hx, hg]
  rfl

/-- A chunk of 512 features of the input projection. -/
theorem chunk_eq {a : Args} {b : Fin 4} {T o : ℕ} {x : Vec Ideal S1x512x1024 .f32} {g : Vec Ideal S1x1024 .f32} {w : Vec Ideal S512x1024 .bf16}
    (hT : T + 512 ≤ 8192) (ho : o + 512 ≤ 3072)
    (hx : ∀ (r : Fin 512) (d : Fin 1024), x (ix3 (n0 := 1) 0 r d) = a.x b ⟨T + r.val, by omega⟩ d)
    (hg : ∀ d : Fin 1024, g (ix2 (n0 := 1) 0 d) = a.g d)
    (hw : ∀ (e : Fin 512) (d : Fin 1024), w (ix2 e d) = a.W d ⟨o + e.val, by omega⟩) (e r : Fin 512) :
    k0_pay133 (F := Ideal) (k0_pay12 x g) w (ix3 (n0 := 1) 0 e r) = zn a b (T + r.val) (o + e.val) := by
  have h := fun d => norm_eq hT hx hg r d
  rw [zn_eq (by omega) (by omega), Z]
  generalize k0_pay12 (F := Ideal) x g = v at h
  pointwise [k0_pay133]
  simp only [h, hw]
  exact Finset.sum_congr rfl fun d _ => mul_comm _ _

theorem key_eq (z : Vec Ideal S128x512 .f32) (r : Fin 512) (e : Fin 128) : k0_pay34 (F := Ideal) z (ix2 r e) = z (ix2 e r) := by
  pointwise [k0_pay34]

theorem val_eq (z : Vec Ideal S128x512 .f32) (e : Fin 128) (r : Fin 512) : k0_pay35 (F := Ideal) z (ix2 e r) = z (ix2 e r) := by
  pointwise [k0_pay35]

theorem zero_eq (i j : Fin 128) : k0_pay17 (F := Ideal) (ix2 i j) = 0 := by
  pointwise [k0_pay17]

theorem zero_eq' (i : Fin 384) (j : Fin 128) : k0_pay19 (F := Ideal) (ix2 i j) = 0 := by
  pointwise [k0_pay19]

theorem proj_eq {a : Args} {b : Fin 4} {T : ℕ} {v : Vec Ideal S1x1024x512 .bf16} {w : Vec Ideal S1024x1024 .bf16} (hT : T + 512 ≤ 8192)
    (hv : ∀ (e : Fin 1024) (r : Fin 512), v (ix3 (n0 := 1) 0 e r) = ycatn a b (T + r.val) e.val)
    (hw : ∀ e d : Fin 1024, w (ix2 e d) = a.Wo e d) (r : Fin 512) (d : Fin 1024) :
    k0_pay299 (F := Ideal) v w (ix2 r d) = proj a b ⟨T + r.val, by omega⟩ d := by
  pointwise [k0_pay299]
  simp only [hv, hw]
  exact Finset.sum_congr rfl fun e _ => by rw [ycatn_eq (by omega) e.isLt]

abbrev outBlock (o : FVec Ideal S128x1024 .f32) (x : Vec Ideal S1x128x1024 .f32) (g : Vec Ideal S1x1024 .f32) : FVec Ideal S1x128x1024 .f32 :=
  shapeCast S1x128x1024 (addf (F := Ideal) (φ := .f32) (shapeCast S128x1024 x shapeCasts_S1x128x1024_S128x1024)
    (mulf (mulf o (broadcastTo S128x1024 (rsqrt (addf (divf (shapeCast S128x1 (multiReduction .add [1] S128 (mulf o o) 0x00000000#32
        reduces_S128x1024_S128 (.inl rfl) rfl) shapeCasts_S128_S128x1) (broadcast S128x1 (Scalar.ofBits .f32 0x44800000#32)))
        (broadcast S128x1 (Scalar.ofBits .f32 0x358637BD#32)))) broadcasts_S128x1_S128x1024))
      (broadcastTo S128x1024 (shapeCast S1x1024 g shapeCasts_S1x1024_S1x1024) broadcasts_S1x1024_S128x1024))) shapeCasts_S128x1024_S1x128x1024

theorem out_eq {a : Args} {b : Fin 4} {T : ℕ} {o : FVec Ideal S128x1024 .f32} {x : Vec Ideal S1x128x1024 .f32} {g : Vec Ideal S1x1024 .f32}
    (hT : T + 128 ≤ 8192) (ho : ∀ (r : Fin 128) (d : Fin 1024), o (ix2 r d) = proj a b ⟨T + r.val, by omega⟩ d)
    (hx : ∀ (r : Fin 128) (d : Fin 1024), x (ix3 (n0 := 1) 0 r d) = a.x b ⟨T + r.val, by omega⟩ d)
    (hg : ∀ d : Fin 1024, g (ix2 (n0 := 1) 0 d) = a.gp d) (r : Fin 128) (d : Fin 1024) :
    outBlock o x g (ix3 (n0 := 1) 0 r d) = y a b ⟨T + r.val, by omega⟩ d := by
  pointwise
  simp only [ho, hx, hg]
  rfl

end Cert.Proj

end
-- ==== Proof.Blocks.lean ====
/-
  What the kernel stores, in terms of the layer, when its loads read what they should: one lemma per kind of store.
-/
module

public import proofs.«01_k».proof.Proof.Load
public import proofs.«01_k».proof.Proof.Group
public import proofs.«01_k».proof.Proof.Mem
public import proofs.«01_k».proof.Proof.Conv
public import proofs.«01_k».proof.Proof.Proj

@[expose] public section

set_option maxRecDepth 16384

noncomputable section

namespace Cert.Blocks

open Idealize.ShloMosaic Idealize.ShloMosaic.TcCoe Cert.KernelIdeal Cert.KernelIdeal.Gen Cert.Soft Cert.Spec Cert.Load Cert.Swa Cert.Mem Cert.Conv
  Cert.Proj

variable {a : Args} {b : Fin 4} {h T : ℕ}

/-! ## The input projection -/

theorem norm_half {T' p : ℕ} (hT : T' + p = T) (hT' : T + 512 ≤ 8192) {x : Vec Ideal S1x512x1024 .f32} {g : Vec Ideal S1x1024 .f32}
    (hx : ∀ (r : Fin 512) (d : Fin 1024), x (ix3 (n0 := 1) 0 r d) = ext2 (a.x b) (T' + (p + r.val)) (0 + d.val))
    (hg : ∀ (i : Fin 1) (d : Fin 1024), g (ix2 i d) = ext1 a.g (0 + d.val)) (r : Fin 512) (d : Fin 1024) :
    k0_pay12 (F := Ideal) x g (ix2 r d) = rms (a.x b ⟨T + r.val, by omega⟩) a.g d := by
  refine norm_eq hT' (fun r d => ?_) (fun d => ?_) r d
  · rw [hx, ext2_eq _ (by omega) (by omega)]
    exact congrArg₂ (a.x b) (Fin.ext (by simp only; omega)) (Fin.ext (by simp only; omega))
  · rw [hg, ext1_eq _ (by omega)]
    exact congrArg a.g (Fin.ext (by simp only; omega))

theorem chunk {o : ℕ} {n : FVec Ideal S512x1024 .bf16} {w : Vec Ideal S512x1024 .bf16} (hT : T + 512 ≤ 8192) (ho : o + 512 ≤ 3072)
    (hn : ∀ (r : Fin 512) (d : Fin 1024), n (ix2 r d) = rms (a.x b ⟨T + r.val, by omega⟩) a.g d)
    (hw : ∀ (e : Fin 512) (d : Fin 1024), w (ix2 e d) = ext2 a.W (0 + d.val) (o + e.val)) (e r : Fin 512) :
    k0_pay133 (F := Ideal) n w (ix3 (n0 := 1) 0 e r) = zn a b (T + (0 + r.val)) (o + e.val) := by
  rw [zn_eq (by omega) (by omega), Z]
  pointwise [k0_pay133]
  simp only [hn, hw, Nat.zero_add]
  exact Finset.sum_congr rfl fun d _ => (mul_comm _ _).trans (congrArg (rms (a.x b _) a.g d * ·) (ext2_eq a.W d.isLt _))

/-- Six chunks of features fill a half of the projection's buffer. -/
theorem zt_six {gz : ℕ → ℕ → ℕ → EReal} (hgz : ∀ e r, gz h e r = zn a b (T + r) e) {S : S2x3072x512.Idx → Prop}
    {L : List (View.Piece (Elt Ideal) S2x3072x512 .f32)} (hL : Reads S (of3 gz) L) (hT : T + 512 ≤ 8192) {n : FVec Ideal S512x1024 .bf16}
    {w0 w1 w2 w3 w4 w5 : Vec Ideal S512x1024 .bf16}
    (hn : ∀ (r : Fin 512) (d : Fin 1024), n (ix2 r d) = rms (a.x b ⟨T + r.val, by omega⟩) a.g d)
    (hw0 : ∀ (e : Fin 512) (d : Fin 1024), w0 (ix2 e d) = ext2 a.W (0 + d.val) (0 + e.val))
    (hw1 : ∀ (e : Fin 512) (d : Fin 1024), w1 (ix2 e d) = ext2 a.W (0 + d.val) (512 + e.val))
    (hw2 : ∀ (e : Fin 512) (d : Fin 1024), w2 (ix2 e d) = ext2 a.W (0 + d.val) (1024 + e.val))
    (hw3 : ∀ (e : Fin 512) (d : Fin 1024), w3 (ix2 e d) = ext2 a.W (0 + d.val) (1536 + e.val))
    (hw4 : ∀ (e : Fin 512) (d : Fin 1024), w4 (ix2 e d) = ext2 a.W (0 + d.val) (2048 + e.val))
    (hw5 : ∀ (e : Fin 512) (d : Fin 1024), w5 (ix2 e d) = ext2 a.W (0 + d.val) (2560 + e.val))
    (i0) (i1) (i2) (i3) (i4) (i5) :
    Reads (fun y => (y 0).val = h) (of3 gz) (⟨Rect.unit (s := S2x3072x512) ![h, 2560, 0] S1x512x512.size i5, k0_pay133 (F := Ideal) n w5⟩
      :: ⟨Rect.unit (s := S2x3072x512) ![h, 2048, 0] S1x512x512.size i4, k0_pay133 (F := Ideal) n w4⟩
      :: ⟨Rect.unit (s := S2x3072x512) ![h, 1536, 0] S1x512x512.size i3, k0_pay133 (F := Ideal) n w3⟩
      :: ⟨Rect.unit (s := S2x3072x512) ![h, 1024, 0] S1x512x512.size i2, k0_pay133 (F := Ideal) n w2⟩
      :: ⟨Rect.unit (s := S2x3072x512) ![h, 512, 0] S1x512x512.size i1, k0_pay133 (F := Ideal) n w1⟩
      :: ⟨Rect.unit (s := S2x3072x512) ![h, 0, 0] S1x512x512.size i0, k0_pay133 (F := Ideal) n w0⟩
      :: L) := by
  refine Reads.mono ((((((hL.box3 i0 ?_).box3 i1 ?_).box3 i2 ?_).box3 i3 ?_).box3 i4 ?_).box3 i5 ?_) fun y hy => ?_
  · exact fun e r => (chunk hT (by omega) hn hw0 e r).trans (hgz _ _).symm
  · exact fun e r => (chunk hT (by omega) hn hw1 e r).trans (hgz _ _).symm
  · exact fun e r => (chunk hT (by omega) hn hw2 e r).trans (hgz _ _).symm
  · exact fun e r => (chunk hT (by omega) hn hw3 e r).trans (hgz _ _).symm
  · exact fun e r => (chunk hT (by omega) hn hw4 e r).trans (hgz _ _).symm
  · exact fun e r => (chunk hT (by omega) hn hw5 e r).trans (hgz _ _).symm
  · have h1 : (y 1).val < 3072 := (y 1).isLt
    have h2 : (y 2).val < 512 := (y 2).isLt
    by_cases c0 : (y 1).val < 512
    · exact Or.inl (Or.inl (Or.inl (Or.inl (Or.inl (Or.inr ⟨hy, by omega, by omega⟩)))))
    by_cases c1 : (y 1).val < 1024
    · exact Or.inl (Or.inl (Or.inl (Or.inl (Or.inr ⟨hy, by omega, by omega⟩))))
    by_cases c2 : (y 1).val < 1536
    · exact Or.inl (Or.inl (Or.inl (Or.inr ⟨hy, by omega, by omega⟩)))
    by_cases c3 : (y 1).val < 2048
    · exact Or.inl (Or.inl (Or.inr ⟨hy, by omega, by omega⟩))
    by_cases c4 : (y 1).val < 2560
    · exact Or.inl (Or.inr ⟨hy, by omega, by omega⟩)
    · exact Or.inr ⟨hy, by omega, by omega⟩

/-! ## Keys and values -/

theorem key_store {u o : ℕ} (hu : u + o = T + 128) {z : Vec Ideal S128x512 .f32}
    (hz : ∀ (e : Fin 128) (r : Fin 512), z (ix2 e r) = zn a b (T + (0 + r.val)) (1920 + e.val)) (r : Fin 512) (e : Fin 128) :
    k0_pay34 (F := Ideal) z (ix2 r e) = kn a b (u + (o + r.val)) (0 + e.val) := by
  rw [key_eq, hz, kn, if_neg (by omega)]
  exact congrArg₂ (zn a b) (by omega) (by omega)

theorem val_store {u o : ℕ} (hu : u + o = T + 128) {z : Vec Ideal S128x512 .f32}
    (hz : ∀ (e : Fin 128) (r : Fin 512), z (ix2 e r) = zn a b (T + (0 + r.val)) (2048 + e.val)) (e : Fin 128) (r : Fin 512) :
    k0_pay35 (F := Ideal) z (ix2 e r) = vn a b (u + (o + r.val)) (0 + e.val) := by
  rw [val_eq, hz, vn, if_neg (by omega)]
  exact congrArg₂ (zn a b) (by omega) (by omega)

theorem key_zero {u : ℕ} (hu : u = 0) (r e : Fin 128) : k0_pay17 (F := Ideal) (ix2 r e) = kn a b (u + (0 + r.val)) (0 + e.val) := by
  rw [zero_eq, kn, if_pos (by omega)]

theorem val_zero {u : ℕ} (hu : u = 0) (e r : Fin 128) : k0_pay18 (F := Ideal) (ix2 e r) = vn a b (u + (0 + r.val)) (0 + e.val) :=
  (zero_eq e r).trans (by rw [vn, if_pos (by omega)])

theorem conv_zero {u : ℕ} (hu : u = 0) (c : Fin 384) (p : Fin 128) : k0_pay19 (F := Ideal) (ix2 c p) = un a b (u + (0 + p.val)) (0 + c.val) := by
  rw [zero_eq', un, if_pos (by omega)]

theorem last_eq (v : FVec Ideal S384x128 .f32) (c : Fin 384) (p : Fin 128) : k0_pay312 (F := Ideal) v (ix2 c p) = v (ix2 c p) := by
  pointwise [k0_pay312]

theorem copy_eq (v : Vec Ideal S128x128 .bf16) (r e : Fin 128) : k0_pay2 (F := Ideal) v (ix2 r e) = v (ix2 r e) := by
  pointwise [k0_pay2]

theorem copy_eq' (v : Vec Ideal S128x128 .bf16) (r e : Fin 128) : k0_pay3 (F := Ideal) v (ix2 r e) = v (ix2 r e) := by
  pointwise [k0_pay3]

theorem state_eq (v : Vec Ideal S1x128x128 .f32) (r e : Fin 128) : k0_pay4 (F := Ideal) v (ix3 (n0 := 1) 0 r e) = v (ix3 (n0 := 1) 0 r e) := by
  pointwise [k0_pay4]

theorem state_eq' (v : Vec Ideal S1x128x128 .f32) (r e : Fin 128) : k0_pay5 (F := Ideal) v (ix3 (n0 := 1) 0 r e) = v (ix3 (n0 := 1) 0 r e) := by
  pointwise [k0_pay5]

theorem cstate_eq (v : FVec Ideal S384x128 .f32) (i : Fin 2) (c : Fin 384) :
    k0_pay1 (F := Ideal) (k0_pay313 v) (ix3 (n0 := 1) 0 i c) = v (ix2 c ⟨126 + i.val, by omega⟩) := by
  pointwise [k0_pay1, k0_pay313]

/-- The last 128 columns of the convolution's input, for the next half tile. -/
theorem tail_eq {T' : ℕ} (hT : T' = T + 512) {u1 u2 : Vec Ideal S384x512 .f32}
    (h1 : ∀ (c : Fin 384) (r : Fin 512), u1 (ix2 c r) = zn a b (T + (0 + r.val)) (384 + c.val))
    (h2 : ∀ (c : Fin 384) (r : Fin 512), u2 (ix2 c r) = zn a b (T + (0 + r.val)) (768 + c.val)) (c : Fin 384) (p : Fin 128) :
    k0_pay44 (F := Ideal) (k0_pay40 u1 u2) (ix2 c p) = un a b (T' + (0 + p.val)) (0 + c.val) := by
  have e : k0_pay44 (F := Ideal) (k0_pay40 u1 u2) (ix2 c p) = k0_pay40 (F := Ideal) u1 u2 (ix2 c ⟨384 + p.val, by omega⟩) := by
    pointwise [k0_pay44]
  rw [e, u_eq (T := T) (fun c r => (h1 c r).trans (congrArg₂ (zn a b) (by omega) rfl)) (fun c r => (h2 c r).trans (congrArg₂ (zn a b) (by omega) rfl))]
  exact congrArg₂ (un a b) (by simp only; omega) (by omega)

/-- The table of position biases, stored box by box. -/
theorem bias_reads (i0) (i1) (i2) (i3) (i4) (i5) : Reads (Val := Elt Ideal) (e := .f32) (fun _ => True) (of3 biasn)
    [⟨Rect.unit (s := S2x128x384) ![1, 0, 256] S1x128x128.size i5, k0_pay16 (F := Ideal) k0_pay6⟩,
      ⟨Rect.unit (s := S2x128x384) ![1, 0, 128] S1x128x128.size i4, (k0_pay11 : FVec Ideal S1x128x128 .f32)⟩,
      ⟨Rect.unit (s := S2x128x384) ![1, 0, 0] S1x128x128.size i3, (k0_pay10 : FVec Ideal S1x128x128 .f32)⟩,
      ⟨Rect.unit (s := S2x128x384) ![0, 0, 256] S1x128x128.size i2, (k0_pay9 : FVec Ideal S1x128x128 .f32)⟩,
      ⟨Rect.unit (s := S2x128x384) ![0, 0, 128] S1x128x128.size i1, (k0_pay8 : FVec Ideal S1x128x128 .f32)⟩,
      ⟨Rect.unit (s := S2x128x384) ![0, 0, 0] S1x128x128.size i0, (k0_pay7 : FVec Ideal S1x128x128 .f32)⟩] := by
  refine Reads.mono (((((((Reads.none _ []).box3 i0 bias0).box3 i1 bias1).box3 i2 bias2).box3 i3 bias3).box3 i4 bias4).box3 i5 bias5) fun y _ => ?_
  have h0 : (y 0).val < 2 := (y 0).isLt
  have h1 : (y 1).val < 128 := (y 1).isLt
  have h2 : (y 2).val < 384 := (y 2).isLt
  by_cases c : (y 0).val = 0
  · by_cases c0 : (y 2).val < 128
    · exact Or.inl (Or.inl (Or.inl (Or.inl (Or.inl (Or.inr ⟨c, by omega, by omega⟩)))))
    by_cases c1 : (y 2).val < 256
    · exact Or.inl (Or.inl (Or.inl (Or.inl (Or.inr ⟨c, by omega, by omega⟩))))
    · exact Or.inl (Or.inl (Or.inl (Or.inr ⟨c, by omega, by omega⟩)))
  · by_cases c0 : (y 2).val < 128
    · exact Or.inl (Or.inl (Or.inr ⟨by omega, by omega, by omega⟩))
    by_cases c1 : (y 2).val < 256
    · exact Or.inl (Or.inr ⟨by omega, by omega, by omega⟩)
    · exact Or.inr ⟨by omega, by omega, by omega⟩

/-! ## The mixers -/

section Mixers

variable {gy : ℕ → ℕ → ℕ → EReal} (hgy : ∀ e r, gy h e r = ycatn a b (T + r) e) {S : S2x1024x512.Idx → Prop}
  {L : List (View.Piece (Elt Ideal) S2x1024x512 .bf16)}

include hgy in
theorem conv_reads (hL : Reads S (of3 gy) L) (hT : T + 512 ≤ 8192) {prev : Vec Ideal S384x128 .f32} {u1 u2 cu z : Vec Ideal S384x512 .f32}
    {cw : Vec Ideal S384x3 .f32} (hp : ∀ (c : Fin 384) (p : Fin 128), prev (ix2 c p) = un a b (T + (0 + p.val)) (0 + c.val))
    (h1 : ∀ (c : Fin 384) (r : Fin 512), u1 (ix2 c r) = zn a b (T + (0 + r.val)) (384 + c.val))
    (h2 : ∀ (c : Fin 384) (r : Fin 512), u2 (ix2 c r) = zn a b (T + (0 + r.val)) (768 + c.val))
    (hw : ∀ (c : Fin 384) (k : Fin 3), cw (ix2 c k) = ext2 a.cw (0 + k.val) (0 + c.val))
    (hc : ∀ (c : Fin 384) (r : Fin 512), cu (ix2 c r) = zn a b (T + (0 + r.val)) (0 + c.val))
    (hz : ∀ (c : Fin 384) (r : Fin 512), z (ix2 c r) = zn a b (T + (0 + r.val)) (1152 + c.val)) (inb) :
    Reads (fun y => S y ∨ ((y 0).val = h ∧ (y 1).val < 384)) (of3 gy)
      (⟨Rect.unit (s := S2x1024x512) ![h, 0, 0] S1x384x512.size inb, k0_pay43 (F := Ideal) (k0_pay23 cw) (k0_pay40 u1 u2) (k0_pay41 prev u1 u2)
        (k0_pay42 (k0_pay23 cw) prev u1 u2) cu z⟩ :: L) := by
  refine Reads.mono (hL.box3 inb fun c r => (conv_piece (a := a) (b := b) (T := T) ?_ ?_ ?_ hT ?_ ?_ ?_ c r).trans ?_) fun y hy => ?_
  · exact fun c p => (hp c p).trans (congrArg₂ (un a b) (by omega) (by omega))
  · exact fun c r => (h1 c r).trans (congrArg₂ (zn a b) (by omega) rfl)
  · exact fun c r => (h2 c r).trans (congrArg₂ (zn a b) (by omega) rfl)
  · exact fun c k => (hw c k).trans ((ext2_eq a.cw (by omega) (by omega)).trans (congrArg₂ a.cw (Fin.ext (by simp)) (Fin.ext (by simp))))
  · exact fun c r => (hc c r).trans (congrArg₂ (zn a b) (by omega) (by omega))
  · exact fun c r => (hz c r).trans (congrArg₂ (zn a b) (by omega) rfl)
  · exact ((hgy _ _).trans (congrArg₂ (ycatn a b) (by omega) (by omega))).symm
  · have h2 : (y 2).val < 512 := (y 2).isLt
    exact hy.imp id fun h => ⟨h.1, by omega, by omega⟩

include hgy in
theorem mem_reads (hL : Reads S (of3 gy) L) (hT : T + 512 ≤ 8192) {sc0 sc1 sc2 sc3 : FVec Ideal S256x512 .f32}
    {mv0 mv1 mv2 mv3 : Vec Ideal S1x64x256 .bf16} {z0 z1 z2 z3 : Vec Ideal S64x512 .f32}
    (hs0 : ∀ (m : Fin 256) (r : Fin 512), sc0 (ix2 m r) = (mraw a b (T + r.val) 0 m : EReal) * (((Real.log 2)⁻¹ : ℝ) : EReal))
    (hs1 : ∀ (m : Fin 256) (r : Fin 512), sc1 (ix2 m r) = (mraw a b (T + r.val) 1 m : EReal) * (((Real.log 2)⁻¹ : ℝ) : EReal))
    (hs2 : ∀ (m : Fin 256) (r : Fin 512), sc2 (ix2 m r) = (mraw a b (T + r.val) 2 m : EReal) * (((Real.log 2)⁻¹ : ℝ) : EReal))
    (hs3 : ∀ (m : Fin 256) (r : Fin 512), sc3 (ix2 m r) = (mraw a b (T + r.val) 3 m : EReal) * (((Real.log 2)⁻¹ : ℝ) : EReal))
    (hv0 : ∀ (d : Fin 64) (m : Fin 256), mv0 (ix3 (n0 := 1) 0 d m) = ext2 (a.mval b) (0 + m.val) (0 + d.val))
    (hv1 : ∀ (d : Fin 64) (m : Fin 256), mv1 (ix3 (n0 := 1) 0 d m) = ext2 (a.mval b) (0 + m.val) (64 + d.val))
    (hv2 : ∀ (d : Fin 64) (m : Fin 256), mv2 (ix3 (n0 := 1) 0 d m) = ext2 (a.mval b) (0 + m.val) (128 + d.val))
    (hv3 : ∀ (d : Fin 64) (m : Fin 256), mv3 (ix3 (n0 := 1) 0 d m) = ext2 (a.mval b) (0 + m.val) (192 + d.val))
    (hz0 : ∀ (d : Fin 64) (r : Fin 512), z0 (ix2 d r) = zn a b (T + (0 + r.val)) (2816 + d.val))
    (hz1 : ∀ (d : Fin 64) (r : Fin 512), z1 (ix2 d r) = zn a b (T + (0 + r.val)) (2880 + d.val))
    (hz2 : ∀ (d : Fin 64) (r : Fin 512), z2 (ix2 d r) = zn a b (T + (0 + r.val)) (2944 + d.val))
    (hz3 : ∀ (d : Fin 64) (r : Fin 512), z3 (ix2 d r) = zn a b (T + (0 + r.val)) (3008 + d.val))
    (i0) (i1) (i2) (i3) :
    Reads (fun y => S y ∨ ((y 0).val = h ∧ 768 ≤ (y 1).val)) (of3 gy) (⟨Rect.unit (s := S2x1024x512) ![h, 960, 0] S1x64x512.size i3, memPiece sc3 mv3 z3⟩
      :: ⟨Rect.unit (s := S2x1024x512) ![h, 896, 0] S1x64x512.size i2, memPiece sc2 mv2 z2⟩
      :: ⟨Rect.unit (s := S2x1024x512) ![h, 832, 0] S1x64x512.size i1, memPiece sc1 mv1 z1⟩
      :: ⟨Rect.unit (s := S2x1024x512) ![h, 768, 0] S1x64x512.size i0, memPiece sc0 mv0 z0⟩
      :: L) := by
  have e : ∀ {k : Fin 4} {o p : ℕ} {sc : FVec Ideal S256x512 .f32} {mv : Vec Ideal S1x64x256 .bf16} {z : Vec Ideal S64x512 .f32}
      (_ : ∀ (m : Fin 256) (r : Fin 512), sc (ix2 m r) = (mraw a b (T + r.val) k m : EReal) * (((Real.log 2)⁻¹ : ℝ) : EReal))
      (_ : ∀ (d : Fin 64) (m : Fin 256), mv (ix3 (n0 := 1) 0 d m) = ext2 (a.mval b) (0 + m.val) (p + d.val))
      (_ : ∀ (d : Fin 64) (r : Fin 512), z (ix2 d r) = zn a b (T + (0 + r.val)) (o + 2048 + d.val))
      (_ : o = 768 + 64 * k.val) (_ : p = 64 * k.val) (d : Fin 64) (r : Fin 512),
      memPiece sc mv z (ix3 (n0 := 1) 0 d r) = gy h (o + d.val) (0 + r.val) := fun hs hv hz ho hp d r => by
    refine (mem_piece hT hs (fun d m => (hv d m).trans ((ext2_eq (a.mval b) (by omega) (by omega)).trans
      (congrArg₂ (a.mval b) (Fin.ext (by simp)) (Fin.ext (by simp only; omega)))))
      (fun d r => (hz d r).trans (congrArg₂ (zn a b) (by omega) (by omega))) d r).trans ?_
    rw [hgy]
    exact congrArg₂ (ycatn a b) (by omega) (by omega)
  refine Reads.mono ((((hL.box3 i0 ?_).box3 i1 ?_).box3 i2 ?_).box3 i3 ?_) fun y hy => ?_
  · exact e hs0 hv0 hz0 rfl rfl
  · exact e hs1 hv1 hz1 rfl rfl
  · exact e hs2 hv2 hz2 rfl rfl
  · exact e hs3 hv3 hz3 rfl rfl
  · have h1 : (y 1).val < 1024 := (y 1).isLt
    have h2 : (y 2).val < 512 := (y 2).isLt
    rcases hy with hy | ⟨hy, hy'⟩
    · exact Or.inl (Or.inl (Or.inl (Or.inl hy)))
    by_cases c0 : (y 1).val < 832
    · exact Or.inl (Or.inl (Or.inl (Or.inr ⟨hy, by omega, by omega⟩)))
    by_cases c1 : (y 1).val < 896
    · exact Or.inl (Or.inl (Or.inr ⟨hy, by omega, by omega⟩))
    by_cases c2 : (y 1).val < 960
    · exact Or.inl (Or.inr ⟨hy, by omega, by omega⟩)
    · exact Or.inr ⟨hy, by omega, by omega⟩

include hgy in
theorem swa_reads (hL : Reads S (of3 gy) L) {p : ℕ} {n : Fin 64} (hT : T + p = 128 * n.val) {v0 v1 : FVec Ideal S64x384 .f32}
    (hv0 : ∀ d c, v0 (ix2 d c) = outn a b n 0 d c) (hv1 : ∀ d c, v1 (ix2 d c) = outn a b n 1 d c) {z0 z1 z2 z3 z4 z5 : Vec Ideal S64x128 .f32}
    (hz0 : ∀ (d : Fin 64) (r : Fin 128), z0 (ix2 d r) = zn a b (T + (p + r.val)) (2176 + d.val))
    (hz1 : ∀ (d : Fin 64) (r : Fin 128), z1 (ix2 d r) = zn a b (T + (p + r.val)) (2240 + d.val))
    (hz2 : ∀ (d : Fin 64) (r : Fin 128), z2 (ix2 d r) = zn a b (T + (p + r.val)) (2304 + d.val))
    (hz3 : ∀ (d : Fin 64) (r : Fin 128), z3 (ix2 d r) = zn a b (T + (p + r.val)) (2368 + d.val))
    (hz4 : ∀ (d : Fin 64) (r : Fin 128), z4 (ix2 d r) = zn a b (T + (p + r.val)) (2432 + d.val))
    (hz5 : ∀ (d : Fin 64) (r : Fin 128), z5 (ix2 d r) = zn a b (T + (p + r.val)) (2496 + d.val))
    (i0) (i1) (i2) (i3) (i4) (i5) :
    Reads (fun y => S y ∨ ((y 0).val = h ∧ (384 ≤ (y 1).val ∧ (y 1).val < 768) ∧ (p ≤ (y 2).val ∧ (y 2).val < p + 128))) (of3 gy) (⟨Rect.unit (s := S2x1024x512) ![h, 704, p] S1x64x128.size i5, piece (slice2 v1) z5⟩
      :: ⟨Rect.unit (s := S2x1024x512) ![h, 640, p] S1x64x128.size i4, piece (slice1 v1) z4⟩
      :: ⟨Rect.unit (s := S2x1024x512) ![h, 576, p] S1x64x128.size i3, piece (slice0 v1) z3⟩
      :: ⟨Rect.unit (s := S2x1024x512) ![h, 512, p] S1x64x128.size i2, piece (slice2 v0) z2⟩
      :: ⟨Rect.unit (s := S2x1024x512) ![h, 448, p] S1x64x128.size i1, piece (slice1 v0) z1⟩
      :: ⟨Rect.unit (s := S2x1024x512) ![h, 384, p] S1x64x128.size i0, piece (slice0 v0) z0⟩
      :: L) := by
  refine Reads.mono ((((((hL.box3 i0 ?_).box3 i1 ?_).box3 i2 ?_).box3 i3 ?_).box3 i4 ?_).box3 i5 ?_) fun y hy => ?_
  · exact fun d r => (piece0 hT hv0 hz0 d r).trans (hgy _ _).symm
  · exact fun d r => (piece1 hT hv0 hz1 d r).trans (hgy _ _).symm
  · exact fun d r => (piece2 hT hv0 hz2 d r).trans (hgy _ _).symm
  · exact fun d r => (piece0 hT hv1 hz3 d r).trans (hgy _ _).symm
  · exact fun d r => (piece1 hT hv1 hz4 d r).trans (hgy _ _).symm
  · exact fun d r => (piece2 hT hv1 hz5 d r).trans (hgy _ _).symm
  · rcases hy with hy | ⟨hy, hy', hy2⟩
    · exact Or.inl (Or.inl (Or.inl (Or.inl (Or.inl (Or.inl hy)))))
    by_cases c0 : (y 1).val < 448
    · exact Or.inl (Or.inl (Or.inl (Or.inl (Or.inl (Or.inr ⟨hy, by omega, by omega⟩)))))
    by_cases c1 : (y 1).val < 512
    · exact Or.inl (Or.inl (Or.inl (Or.inl (Or.inr ⟨hy, by omega, by omega⟩))))
    by_cases c2 : (y 1).val < 576
    · exact Or.inl (Or.inl (Or.inl (Or.inr ⟨hy, by omega, by omega⟩)))
    by_cases c3 : (y 1).val < 640
    · exact Or.inl (Or.inl (Or.inr ⟨hy, by omega, by omega⟩))
    by_cases c4 : (y 1).val < 704
    · exact Or.inl (Or.inr ⟨hy, by omega, by omega⟩)
    · exact Or.inr ⟨hy, by omega, by omega⟩

end Mixers

/-! ## A group's heads -/

section Groups

variable (ha : Finite a) {p u o : ℕ} {n : Fin 64} {q0 q1 q2 : Vec Ideal S64x128 .f32} {kb : Vec Ideal S256x128 .bf16}
  {bl : Vec Ideal S1x128x384 .f32} {snk : FVec Ideal S1x384 .f32} {vb : Vec Ideal S64x256 .bf16} {pen : EReal}

include ha in
theorem group0 (hT : T + p = 128 * n.val) (hu : u + o = 128 * n.val) (hn : 0 < n.val)
    (h0 : ∀ (e : Fin 64) (r : Fin 128), q0 (ix2 e r) = zn a b (T + (p + r.val)) (1536 + e.val))
    (h1 : ∀ (e : Fin 64) (r : Fin 128), q1 (ix2 e r) = zn a b (T + (p + r.val)) (1600 + e.val))
    (h2 : ∀ (e : Fin 64) (r : Fin 128), q2 (ix2 e r) = zn a b (T + (p + r.val)) (1664 + e.val))
    (hk : ∀ (j : Fin 256) (e : Fin 128), kb (ix2 j e) = kn a b (u + (o + j.val)) (0 + e.val))
    (hb : ∀ (k : Fin 128) (c : Fin 384), bl (ix3 (n0 := 1) 0 k c) = biasn 0 (0 + k.val) (0 + c.val))
    (hs : ∀ c : Fin 384, snk (ix2 (n0 := 1) 0 c) = a.sk (headOf 0 c) * (((Real.log 2)⁻¹ : ℝ) : EReal))
    (hv : ∀ (d : Fin 64) (j : Fin 256), vb (ix2 d j) = vn a b (u + (o + j.val)) (0 + d.val)) (d : Fin 64) (c : Fin 384) :
    bandOut (foldPlain (k0_pay36 (F := Ideal) k0_pay22 q0 q1 q2 kb) bl) snk vb (ix2 d c) = outn a b n 0 d c := by
  refine band_out ha (g := 0) (fun k c => ?_) hs (fun d j => (hv d j).trans (congrArg₂ (vn a b) (by omega) rfl)) d c
  have hsc := Swa.score0 (n := n) ha (fun e r => (h0 e r).trans (congrArg₂ (zn a b) (by omega) rfl)) (fun e r => (h1 e r).trans (congrArg₂ (zn a b) (by omega) rfl))
    (fun e r => (h2 e r).trans (congrArg₂ (zn a b) (by omega) rfl)) (fun j e => (hk j e).trans (congrArg₂ (kn a b) (by omega) (by omega)))
  rw [plain_apply, ← fold_eq (g := 0) (pen := 0) hsc (fun k c => (hb k c).trans (congrArg₂ (biasn _) (by omega) (by omega))) (by rw [if_neg (by omega)])]
  simp

include ha in
theorem group0_pen (hT : T + p = 128 * n.val) (hu : u + o = 128 * n.val) (hpen : pen = if n.val = 0 then ⊥ else 0)
    (h0 : ∀ (e : Fin 64) (r : Fin 128), q0 (ix2 e r) = zn a b (T + (p + r.val)) (1536 + e.val))
    (h1 : ∀ (e : Fin 64) (r : Fin 128), q1 (ix2 e r) = zn a b (T + (p + r.val)) (1600 + e.val))
    (h2 : ∀ (e : Fin 64) (r : Fin 128), q2 (ix2 e r) = zn a b (T + (p + r.val)) (1664 + e.val))
    (hk : ∀ (j : Fin 256) (e : Fin 128), kb (ix2 j e) = kn a b (u + (o + j.val)) (0 + e.val))
    (hb : ∀ (k : Fin 128) (c : Fin 384), bl (ix3 (n0 := 1) 0 k c) = biasn 0 (0 + k.val) (0 + c.val))
    (hs : ∀ c : Fin 384, snk (ix2 (n0 := 1) 0 c) = a.sk (headOf 0 c) * (((Real.log 2)⁻¹ : ℝ) : EReal))
    (hv : ∀ (d : Fin 64) (j : Fin 256), vb (ix2 d j) = vn a b (u + (o + j.val)) (0 + d.val)) (d : Fin 64) (c : Fin 384) :
    bandOut (k0_pay45 (F := Ideal) pen k0_pay21 (k0_pay36 (F := Ideal) k0_pay22 q0 q1 q2 kb) bl) snk vb (ix2 d c) = outn a b n 0 d c := by
  refine band_out ha (g := 0) (fun k c => ?_) hs (fun d j => (hv d j).trans (congrArg₂ (vn a b) (by omega) rfl)) d c
  have hsc := Swa.score0 (n := n) ha (fun e r => (h0 e r).trans (congrArg₂ (zn a b) (by omega) rfl)) (fun e r => (h1 e r).trans (congrArg₂ (zn a b) (by omega) rfl))
    (fun e r => (h2 e r).trans (congrArg₂ (zn a b) (by omega) rfl)) (fun j e => (hk j e).trans (congrArg₂ (kn a b) (by omega) (by omega)))
  exact (pen_apply _ _ _ k c).trans (fold_eq (g := 0) hsc (fun k c => (hb k c).trans (congrArg₂ (biasn _) (by omega) (by omega))) hpen k c)

include ha in
theorem group1 (hT : T + p = 128 * n.val) (hu : u + o = 128 * n.val) (hn : 0 < n.val)
    (h0 : ∀ (e : Fin 64) (r : Fin 128), q0 (ix2 e r) = zn a b (T + (p + r.val)) (1728 + e.val))
    (h1 : ∀ (e : Fin 64) (r : Fin 128), q1 (ix2 e r) = zn a b (T + (p + r.val)) (1792 + e.val))
    (h2 : ∀ (e : Fin 64) (r : Fin 128), q2 (ix2 e r) = zn a b (T + (p + r.val)) (1856 + e.val))
    (hk : ∀ (j : Fin 256) (e : Fin 128), kb (ix2 j e) = kn a b (u + (o + j.val)) (0 + e.val))
    (hb : ∀ (k : Fin 128) (c : Fin 384), bl (ix3 (n0 := 1) 0 k c) = biasn 1 (0 + k.val) (0 + c.val))
    (hs : ∀ c : Fin 384, snk (ix2 (n0 := 1) 0 c) = a.sk (headOf 1 c) * (((Real.log 2)⁻¹ : ℝ) : EReal))
    (hv : ∀ (d : Fin 64) (j : Fin 256), vb (ix2 d j) = vn a b (u + (o + j.val)) (64 + d.val)) (d : Fin 64) (c : Fin 384) :
    bandOut (foldPlain (k0_pay37 (F := Ideal) k0_pay22 q0 q1 q2 kb) bl) snk vb (ix2 d c) = outn a b n 1 d c := by
  refine band_out ha (g := 1) (fun k c => ?_) hs (fun d j => (hv d j).trans (congrArg₂ (vn a b) (by omega) rfl)) d c
  have hsc := Swa.score1 (n := n) ha (fun e r => (h0 e r).trans (congrArg₂ (zn a b) (by omega) rfl)) (fun e r => (h1 e r).trans (congrArg₂ (zn a b) (by omega) rfl))
    (fun e r => (h2 e r).trans (congrArg₂ (zn a b) (by omega) rfl)) (fun j e => (hk j e).trans (congrArg₂ (kn a b) (by omega) (by omega)))
  rw [plain_apply, ← fold_eq (g := 1) (pen := 0) hsc (fun k c => (hb k c).trans (congrArg₂ (biasn _) (by omega) (by omega))) (by rw [if_neg (by omega)])]
  simp

include ha in
theorem group1_pen (hT : T + p = 128 * n.val) (hu : u + o = 128 * n.val) (hpen : pen = if n.val = 0 then ⊥ else 0)
    (h0 : ∀ (e : Fin 64) (r : Fin 128), q0 (ix2 e r) = zn a b (T + (p + r.val)) (1728 + e.val))
    (h1 : ∀ (e : Fin 64) (r : Fin 128), q1 (ix2 e r) = zn a b (T + (p + r.val)) (1792 + e.val))
    (h2 : ∀ (e : Fin 64) (r : Fin 128), q2 (ix2 e r) = zn a b (T + (p + r.val)) (1856 + e.val))
    (hk : ∀ (j : Fin 256) (e : Fin 128), kb (ix2 j e) = kn a b (u + (o + j.val)) (0 + e.val))
    (hb : ∀ (k : Fin 128) (c : Fin 384), bl (ix3 (n0 := 1) 0 k c) = biasn 1 (0 + k.val) (0 + c.val))
    (hs : ∀ c : Fin 384, snk (ix2 (n0 := 1) 0 c) = a.sk (headOf 1 c) * (((Real.log 2)⁻¹ : ℝ) : EReal))
    (hv : ∀ (d : Fin 64) (j : Fin 256), vb (ix2 d j) = vn a b (u + (o + j.val)) (64 + d.val)) (d : Fin 64) (c : Fin 384) :
    bandOut (k0_pay45 (F := Ideal) pen k0_pay21 (k0_pay37 (F := Ideal) k0_pay22 q0 q1 q2 kb) bl) snk vb (ix2 d c) = outn a b n 1 d c := by
  refine band_out ha (g := 1) (fun k c => ?_) hs (fun d j => (hv d j).trans (congrArg₂ (vn a b) (by omega) rfl)) d c
  have hsc := Swa.score1 (n := n) ha (fun e r => (h0 e r).trans (congrArg₂ (zn a b) (by omega) rfl)) (fun e r => (h1 e r).trans (congrArg₂ (zn a b) (by omega) rfl))
    (fun e r => (h2 e r).trans (congrArg₂ (zn a b) (by omega) rfl)) (fun j e => (hk j e).trans (congrArg₂ (kn a b) (by omega) (by omega)))
  exact (pen_apply _ _ _ k c).trans (fold_eq (g := 1) hsc (fun k c => (hb k c).trans (congrArg₂ (biasn _) (by omega) (by omega))) hpen k c)

end Groups

/-! ## The memory's scores -/

section Memory

variable (ha : Finite a) {q : Vec Ideal S64x512 .f32} {mk : Vec Ideal S1x256x256 .bf16}

include ha in
theorem mem0 (hq : ∀ (e : Fin 64) (r : Fin 512), q (ix2 e r) = zn a b (T + (0 + r.val)) (2560 + e.val))
    (hm : ∀ (m d : Fin 256), mk (ix3 (n0 := 1) 0 m d) = ext2 (a.mkey b) (0 + m.val) (0 + d.val)) (m : Fin 256) (r : Fin 512) :
    memScore (scaled q) zero4 zero4 zero4 mk (ix2 m r) = (mraw a b (T + r.val) 0 m : EReal) * (((Real.log 2)⁻¹ : ℝ) : EReal) :=
  Mem.score0 ha (fun e r => (hq e r).trans (congrArg₂ (zn a b) (by omega) rfl))
    (fun m d => (hm m d).trans ((ext2_eq (a.mkey b) (by omega) (by omega)).trans (congrArg₂ (a.mkey b) (Fin.ext (by simp)) (Fin.ext (by simp))))) rfl m r

include ha in
theorem mem1 (hq : ∀ (e : Fin 64) (r : Fin 512), q (ix2 e r) = zn a b (T + (0 + r.val)) (2624 + e.val))
    (hm : ∀ (m d : Fin 256), mk (ix3 (n0 := 1) 0 m d) = ext2 (a.mkey b) (0 + m.val) (0 + d.val)) (m : Fin 256) (r : Fin 512) :
    memScore zero4 (scaled q) zero4 zero4 mk (ix2 m r) = (mraw a b (T + r.val) 1 m : EReal) * (((Real.log 2)⁻¹ : ℝ) : EReal) :=
  Mem.score1 ha (fun e r => (hq e r).trans (congrArg₂ (zn a b) (by omega) rfl))
    (fun m d => (hm m d).trans ((ext2_eq (a.mkey b) (by omega) (by omega)).trans (congrArg₂ (a.mkey b) (Fin.ext (by simp)) (Fin.ext (by simp))))) rfl m r

include ha in
theorem mem2 (hq : ∀ (e : Fin 64) (r : Fin 512), q (ix2 e r) = zn a b (T + (0 + r.val)) (2688 + e.val))
    (hm : ∀ (m d : Fin 256), mk (ix3 (n0 := 1) 0 m d) = ext2 (a.mkey b) (0 + m.val) (0 + d.val)) (m : Fin 256) (r : Fin 512) :
    memScore zero4 zero4 (scaled q) zero4 mk (ix2 m r) = (mraw a b (T + r.val) 2 m : EReal) * (((Real.log 2)⁻¹ : ℝ) : EReal) :=
  Mem.score2 ha (fun e r => (hq e r).trans (congrArg₂ (zn a b) (by omega) rfl))
    (fun m d => (hm m d).trans ((ext2_eq (a.mkey b) (by omega) (by omega)).trans (congrArg₂ (a.mkey b) (Fin.ext (by simp)) (Fin.ext (by simp))))) rfl m r

include ha in
theorem mem3 (hq : ∀ (e : Fin 64) (r : Fin 512), q (ix2 e r) = zn a b (T + (0 + r.val)) (2752 + e.val))
    (hm : ∀ (m d : Fin 256), mk (ix3 (n0 := 1) 0 m d) = ext2 (a.mkey b) (0 + m.val) (0 + d.val)) (m : Fin 256) (r : Fin 512) :
    memScore zero4 zero4 zero4 (scaled q) mk (ix2 m r) = (mraw a b (T + r.val) 3 m : EReal) * (((Real.log 2)⁻¹ : ℝ) : EReal) :=
  Mem.score3 ha (fun e r => (hq e r).trans (congrArg₂ (zn a b) (by omega) rfl))
    (fun m d => (hm m d).trans ((ext2_eq (a.mkey b) (by omega) (by omega)).trans (congrArg₂ (a.mkey b) (Fin.ext (by simp)) (Fin.ext (by simp))))) rfl m r

end Memory

/-! ## The output projection -/

theorem proj_half (hT : T + 512 ≤ 8192) {v : Vec Ideal S1x1024x512 .bf16} {w : Vec Ideal S1024x1024 .bf16}
    (hv : ∀ (e : Fin 1024) (r : Fin 512), v (ix3 (n0 := 1) 0 e r) = ycatn a b (T + (0 + r.val)) (0 + e.val))
    (hw : ∀ e d : Fin 1024, w (ix2 e d) = ext2 a.Wo (0 + e.val) (0 + d.val)) (r : Fin 512) (d : Fin 1024) :
    k0_pay299 (F := Ideal) v w (ix2 r d) = proj a b ⟨T + r.val, by omega⟩ d :=
  proj_eq hT (fun e r => (hv e r).trans (congrArg₂ (ycatn a b) (by omega) (by omega)))
    (fun e d => (hw e d).trans ((ext2_eq a.Wo (by omega) (by omega)).trans (congrArg₂ a.Wo (Fin.ext (by simp)) (Fin.ext (by simp))))) r d

abbrev rows0 (v : FVec Ideal S512x1024 .f32) : FVec Ideal S128x1024 .f32 := extractStridedSlice S128x1024 ![0, 0] v slices_S512x1024_o0_0_S128x1024
abbrev rows1 (v : FVec Ideal S512x1024 .f32) : FVec Ideal S128x1024 .f32 := extractStridedSlice S128x1024 ![128, 0] v slices_S512x1024_o128_0_S128x1024
abbrev rows2 (v : FVec Ideal S512x1024 .f32) : FVec Ideal S128x1024 .f32 := extractStridedSlice S128x1024 ![256, 0] v slices_S512x1024_o256_0_S128x1024
abbrev rows3 (v : FVec Ideal S512x1024 .f32) : FVec Ideal S128x1024 .f32 := extractStridedSlice S128x1024 ![384, 0] v slices_S512x1024_o384_0_S128x1024

/-- The four blocks of rows of a half tile's output. -/
theorem out_reads {T0 o : ℕ} (hT0 : T0 + o = T) (hT : T + 512 ≤ 8192) {S : S1x1024x1024.Idx → Prop}
    {L : List (View.Piece (Elt Ideal) S1x1024x1024 .f32)} (hL : Reads S (of3 fun _ r d => ext2 (y a b) (T0 + r) d) L)
    {v : FVec Ideal S512x1024 .f32} {x0 x1 x2 x3 : Vec Ideal S1x128x1024 .f32} {g0 g1 g2 g3 : Vec Ideal S1x1024 .f32}
    (hv : ∀ (r : Fin 512) (d : Fin 1024), v (ix2 r d) = proj a b ⟨T + r.val, by omega⟩ d)
    (hx0 : ∀ (r : Fin 128) (d : Fin 1024), x0 (ix3 (n0 := 1) 0 r d) = ext2 (a.x b) (T0 + (o + 0 + r.val)) (0 + d.val))
    (hx1 : ∀ (r : Fin 128) (d : Fin 1024), x1 (ix3 (n0 := 1) 0 r d) = ext2 (a.x b) (T0 + (o + 128 + r.val)) (0 + d.val))
    (hx2 : ∀ (r : Fin 128) (d : Fin 1024), x2 (ix3 (n0 := 1) 0 r d) = ext2 (a.x b) (T0 + (o + 256 + r.val)) (0 + d.val))
    (hx3 : ∀ (r : Fin 128) (d : Fin 1024), x3 (ix3 (n0 := 1) 0 r d) = ext2 (a.x b) (T0 + (o + 384 + r.val)) (0 + d.val))
    (hg0 : ∀ (i : Fin 1) (d : Fin 1024), g0 (ix2 i d) = ext1 a.gp (0 + d.val))
    (hg1 : ∀ (i : Fin 1) (d : Fin 1024), g1 (ix2 i d) = ext1 a.gp (0 + d.val))
    (hg2 : ∀ (i : Fin 1) (d : Fin 1024), g2 (ix2 i d) = ext1 a.gp (0 + d.val))
    (hg3 : ∀ (i : Fin 1) (d : Fin 1024), g3 (ix2 i d) = ext1 a.gp (0 + d.val))
    (i0) (i1) (i2) (i3) :
    Reads (fun y => S y ∨ (o ≤ (y 1).val ∧ (y 1).val < o + 512)) (of3 fun _ r d => ext2 (y a b) (T0 + r) d) (⟨Rect.unit (s := S1x1024x1024) ![0, o + 384, 0] S1x128x1024.size i3, outBlock (rows3 v) x3 g3⟩
      :: ⟨Rect.unit (s := S1x1024x1024) ![0, o + 256, 0] S1x128x1024.size i2, outBlock (rows2 v) x2 g2⟩
      :: ⟨Rect.unit (s := S1x1024x1024) ![0, o + 128, 0] S1x128x1024.size i1, outBlock (rows1 v) x1 g1⟩
      :: ⟨Rect.unit (s := S1x1024x1024) ![0, o + 0, 0] S1x128x1024.size i0, outBlock (rows0 v) x0 g0⟩
      :: L) := by
  have e : ∀ {k : ℕ} {v' : FVec Ideal S128x1024 .f32} {x : Vec Ideal S1x128x1024 .f32} {g : Vec Ideal S1x1024 .f32} (hk : k + 128 ≤ 512)
      (_ : ∀ (r : Fin 128) (d : Fin 1024), v' (ix2 r d) = v (ix2 ⟨k + r.val, by omega⟩ d))
      (_ : ∀ (r : Fin 128) (d : Fin 1024), x (ix3 (n0 := 1) 0 r d) = ext2 (a.x b) (T0 + (o + k + r.val)) (0 + d.val))
      (_ : ∀ (i : Fin 1) (d : Fin 1024), g (ix2 i d) = ext1 a.gp (0 + d.val)) (r : Fin 128) (d : Fin 1024),
      outBlock v' x g (ix3 (n0 := 1) 0 r d) = ext2 (y a b) (T0 + (o + k + r.val)) (0 + d.val) := fun {k} _ _ _ hk hv' hx hg r d => by
    rw [ext2_eq _ (by omega) (by omega)]
    refine (out_eq (a := a) (b := b) (T := T + k) (by omega) (fun r d => ?_) (fun r d => ?_) (fun d => ?_) r d).trans ?_
    · rw [hv', hv]
      exact congrArg (fun t => proj a b t d) (Fin.ext (by simp only; omega))
    · rw [hx, ext2_eq _ (by omega) (by omega)]
      exact congrArg₂ (a.x b) (Fin.ext (by simp only; omega)) (Fin.ext (by simp only; omega))
    · rw [hg, ext1_eq _ (by omega)]
      exact congrArg a.gp (Fin.ext (by simp only; omega))
    · exact congrArg₂ (y a b) (Fin.ext (by simp only; omega)) (Fin.ext (by simp only; omega))
  refine Reads.mono ((((hL.box3 i0 ?_).box3 i1 ?_).box3 i2 ?_).box3 i3 ?_) fun y hy => ?_
  · exact e (k := 0) (by omega) (fun r d => by pointwise) hx0 hg0
  · exact e (k := 128) (by omega) (fun r d => by pointwise) hx1 hg1
  · exact e (k := 256) (by omega) (fun r d => by pointwise) hx2 hg2
  · exact e (k := 384) (by omega) (fun r d => by pointwise) hx3 hg3
  · have h0 : (y 0).val < 1 := (y 0).isLt
    have h2 : (y 2).val < 1024 := (y 2).isLt
    rcases hy with hy | hy
    · exact Or.inl (Or.inl (Or.inl (Or.inl hy)))
    by_cases c0 : (y 1).val < o + 128
    · exact Or.inl (Or.inl (Or.inl (Or.inr ⟨by omega, by omega, by omega⟩)))
    by_cases c1 : (y 1).val < o + 256
    · exact Or.inl (Or.inl (Or.inr ⟨by omega, by omega, by omega⟩))
    by_cases c2 : (y 1).val < o + 384
    · exact Or.inl (Or.inr ⟨by omega, by omega, by omega⟩)
    · exact Or.inr ⟨by omega, by omega, by omega⟩

end Cert.Blocks

end
-- ==== Proof.Point.lean ====
/-
  What the buffers hold at a grid point, as functions of natural coordinates.
-/
module

public import proofs.«01_k».proof.Proof.Blocks

@[expose] public section

noncomputable section

namespace Cert.Point

open Idealize.ShloMosaic Idealize.ShloMosaic.TcCoe Cert.KernelIdeal Cert.KernelIdeal.Gen Cert.Soft Cert.Spec Cert.Load

/-- The tokens, the projection, the keys, values and convolution inputs (128 tokens back), and the mixers' outputs, from token `t` on. -/
abbrev gx (a : Args) (b : Fin 4) (t : ℕ) : ℕ → ℕ → ℕ → EReal := fun _ r d => ext2 (a.x b) (t + r) d
abbrev gz (a : Args) (b : Fin 4) (t : ℕ) : ℕ → ℕ → ℕ → EReal := fun h e r => zn a b (t + 512 * h + r) e
abbrev gk (a : Args) (b : Fin 4) (t : ℕ) : ℕ → ℕ → EReal := fun r e => kn a b (t + r) e
abbrev gv (a : Args) (b : Fin 4) (t : ℕ) : ℕ → ℕ → EReal := fun e r => vn a b (t + r) e
abbrev gu (a : Args) (b : Fin 4) (t : ℕ) : ℕ → ℕ → EReal := fun c r => un a b (t + r) c
abbrev gy (a : Args) (b : Fin 4) (t : ℕ) : ℕ → ℕ → ℕ → EReal := fun h e r => ycatn a b (t + 512 * h + r) e
abbrev gout (a : Args) (b : Fin 4) (t : ℕ) : ℕ → ℕ → ℕ → EReal := fun _ r d => ext2 (y a b) (t + r) d
abbrev gcs (a : Args) (b : Fin 4) (t : ℕ) : ℕ → ℕ → ℕ → EReal := fun _ i c => un a b (t + 1150 + i) c
abbrev gks (a : Args) (b : Fin 4) (t : ℕ) : ℕ → ℕ → ℕ → EReal := fun _ e r => zn a b (t + 896 + r) (1920 + e)
abbrev gvs (a : Args) (b : Fin 4) (t : ℕ) : ℕ → ℕ → ℕ → EReal := fun _ e r => zn a b (t + 896 + r) (2048 + e)
abbrev ggain (f : Fin 1024 → EReal) : ℕ → ℕ → EReal := fun _ d => ext1 f d
abbrev gw (a : Args) : ℕ → ℕ → EReal := fun e d => ext2 a.W d e
abbrev gcw (a : Args) : ℕ → ℕ → EReal := fun c k => ext2 a.cw k c
abbrev gmk (a : Args) (b : Fin 4) : ℕ → ℕ → ℕ → EReal := fun _ m d => ext2 (a.mkey b) m d
abbrev gmv (a : Args) (b : Fin 4) : ℕ → ℕ → ℕ → EReal := fun _ d m => ext2 (a.mval b) m d
abbrev gwo (a : Args) : ℕ → ℕ → EReal := fun e d => ext2 a.Wo e d

/-- The input blocks of the tile that begins at token `t` of sequence `b`. -/
structure Inputs (a : Args) (b : Fin 4) (t : ℕ) (x0 : Vec Ideal S1x1024x1024 .f32) (x2 x3 : Vec Ideal S1x1024 .f32)
    (x4 : Vec Ideal S3072x1024 .bf16) (x5 : Vec Ideal S384x3 .f32) (x6 : Vec Ideal S6 .f32) (x7 x8 : Vec Ideal S1x256x256 .bf16)
    (x9 : Vec Ideal S1024x1024 .bf16) : Prop where
  x0 : ∀ y, (y 0).val = 0 → x0 y = of3 (gx a b t) y
  x2 : ∀ y, x2 y = of2 (ggain a.g) y
  x3 : ∀ y, x3 y = of2 (ggain a.gp) y
  x4 : ∀ y, x4 y = of2 (gw a) y
  x5 : ∀ y, x5 y = of2 (gcw a) y
  x6 : ∀ y, x6 y = ext1 a.sk (y 0).val
  x7 : ∀ y, (y 0).val = 0 → x7 y = of3 (gmk a b) y
  x8 : ∀ y, (y 0).val = 0 → x8 y = of3 (gmv a b) y
  x9 : ∀ y, x9 y = of2 (gwo a) y

variable {sig : RefSig} {κ : Kind} {sp : Space} {Val : EltTy → Type} [∀ e, Nonempty (Val e)] {e : EltTy}

/-- A load of one cell of a buffer held as `X`. -/
theorem at1 {R o : ℕ} {g : ℕ → Val e} {X : (⟨1, ![R]⟩ : Shape).Idx → Val e} (hX : ∀ y, X y = g (y 0).val) {mr : Memref sig κ sp ⟨1, ![R]⟩ e}
    (hm : mr.IsWhole) (inb) (x : (⟨1, ![1]⟩ : Shape).Idx) :
    View.readAt Val mr.view (Rect.unit (s := ⟨1, ![R]⟩) ![o] (⟨1, ![1]⟩ : Shape).size inb).toLoadRect (hm.unread X) x = g o := by
  refine (congrFun (Memref.IsWhole.read_unread hm X) _).trans ((hX _).trans (congrArg g ?_))
  have h : (x 0).val < 1 := (x 0).isLt
  show ((Rect.unit (s := ⟨1, ![R]⟩) ![o] (⟨1, ![1]⟩ : Shape).size inb).emb x 0).val = _
  rw [Rect.emb_apply]
  show o + 1 * (x 0).val = _
  omega

theorem not_mem3 {H R C h h' R' C' o p : ℕ} {inb} {y : (⟨3, ![H, R, C]⟩ : Shape).Idx} (hy : (y 0).val = h) (hh : h ≠ h') :
    y ∉ (Rect.unit (s := ⟨3, ![H, R, C]⟩) ![h', o, p] (⟨3, ![1, R', C']⟩ : Shape).size inb).set := fun hm => hh (hy.symm.trans (mem3.1 hm).1)

theorem Reads.none2 {R C : ℕ} (G : (⟨2, ![R, C]⟩ : Shape).Idx → Val e) (L : List (View.Piece Val ⟨2, ![R, C]⟩ e)) : Reads (fun _ => False) G L :=
  fun _ h => h.elim

/-- The pieces of a half tile's mixers' outputs are all of it. -/
theorem half_cover {h : ℕ} {S : Prop} {y : S2x1024x512.Idx} (hy : (y 0).val = h) :
    (((((S ∨ ((y 0).val = h ∧ (y 1).val < 384))
      ∨ ((y 0).val = h ∧ (384 ≤ (y 1).val ∧ (y 1).val < 768) ∧ (0 ≤ (y 2).val ∧ (y 2).val < 0 + 128)))
      ∨ ((y 0).val = h ∧ (384 ≤ (y 1).val ∧ (y 1).val < 768) ∧ (128 ≤ (y 2).val ∧ (y 2).val < 128 + 128)))
      ∨ ((y 0).val = h ∧ (384 ≤ (y 1).val ∧ (y 1).val < 768) ∧ (256 ≤ (y 2).val ∧ (y 2).val < 256 + 128)))
      ∨ ((y 0).val = h ∧ (384 ≤ (y 1).val ∧ (y 1).val < 768) ∧ (384 ≤ (y 2).val ∧ (y 2).val < 384 + 128)))
      ∨ ((y 0).val = h ∧ 768 ≤ (y 1).val) := by
  have h2 : (y 2).val < 512 := (y 2).isLt
  by_cases c0 : (y 1).val < 384
  · exact Or.inl (Or.inl (Or.inl (Or.inl (Or.inl (Or.inr ⟨hy, c0⟩)))))
  by_cases c1 : 768 ≤ (y 1).val
  · exact Or.inr ⟨hy, c1⟩
  by_cases d0 : (y 2).val < 128
  · exact Or.inl (Or.inl (Or.inl (Or.inl (Or.inr ⟨hy, by omega, by omega⟩))))
  by_cases d1 : (y 2).val < 256
  · exact Or.inl (Or.inl (Or.inl (Or.inr ⟨hy, by omega, by omega⟩)))
  by_cases d2 : (y 2).val < 384
  · exact Or.inl (Or.inl (Or.inr ⟨hy, by omega, by omega⟩))
  · exact Or.inl (Or.inr ⟨hy, by omega, by omega⟩)

end Cert.Point

end
-- ==== Proof.Inputs.lean ====
/-
  The input blocks of a grid point, read off the arguments.
-/
module

public import proofs.«01_k».proof.Proof.Point
public import proofs.«01_k».proof.Proof.Gen.KernelIdeal.Frame.Runs
public meta import Idealize.ShloMosaic.Lib.StableHlo.ReadAt
public import Idealize.ShloMosaic.Lib.StableHlo.ReadAt
public import Idealize.ShloMosaic.Lib.Pipeline.ValueKit

@[expose] public section

set_option maxRecDepth 16384

noncomputable section

namespace Cert.Inputs

open Idealize.ShloMosaic Idealize.ShloMosaic.TcCoe Cert.KernelIdeal Cert.KernelIdeal.Gen Cert.Soft Cert.Spec Cert.Load Cert.Point

/-- The arguments a core finds in memory. -/
def args (m : (ℓ : Loc nD τ sig) → Buf (Elt Ideal) ℓ) (c : Dev nD) : Args where
  x := fun b t d => (m ((c : Thread nD τ).loc main_arg0) : Vec Ideal S4x8192x1024 .f32) (ix3 b t d)
  mkey := fun b i d => (m ((c : Thread nD τ).loc main_arg1) : Vec Ideal S4x256x256 .f32) (ix3 b i d)
  mval := fun b i d => (m ((c : Thread nD τ).loc main_arg2) : Vec Ideal S4x256x256 .f32) (ix3 b i d)
  g := fun d => (m ((c : Thread nD τ).loc main_arg3) : Vec Ideal S1x1024 .f32) (ix2 0 d)
  gp := fun d => (m ((c : Thread nD τ).loc main_arg4) : Vec Ideal S1x1024 .f32) (ix2 0 d)
  W := fun d e => (m ((c : Thread nD τ).loc main_arg5) : Vec Ideal S1x1024x3072 .f32) (ix3 0 d e)
  cw := fun k e => (m ((c : Thread nD τ).loc main_arg6) : Vec Ideal S1x3x384 .f32) (ix3 0 k e)
  sk := fun h => (m ((c : Thread nD τ).loc main_arg7) : Vec Ideal S1x6 .f32) (ix2 0 h)
  Wo := fun e d => (m ((c : Thread nD τ).loc main_arg8) : Vec Ideal S1x1024x1024 .f32) (ix3 0 e d)

variable (m : (ℓ : Loc nD τ sig) → Buf (Elt Ideal) ℓ) (c : Dev nD)

theorem gain_at (d : Fin 1024) : (V m c main_v1 : Vec Ideal S1x1024 .f32) (ix2 0 d) = (args m c).g d := by
  unfold V
  after_reads_at
  rfl

theorem post_at (d : Fin 1024) : (V m c main_v3 : Vec Ideal S1x1024 .f32) (ix2 0 d) = (args m c).gp d := by
  unfold V
  after_reads_at
  rfl

theorem w_at (d : Fin 1024) (e : Fin 3072) : (V m c main_v6 : Vec Ideal S3072x1024 .bf16) (ix2 e d) = (args m c).W d e := by
  unfold V
  after_reads_at
  rfl

theorem cw_at (e : Fin 384) (k : Fin 3) : (V m c main_v14 : Vec Ideal S384x3 .f32) (ix2 e k) = (args m c).cw k e := by
  unfold V
  after_reads_at
  rfl

theorem sk_at (h : Fin 6) : (V m c main_v7 : Vec Ideal S6 .f32) (ix1 h) = (args m c).sk h := by
  unfold V
  after_reads_at
  rfl

theorem mk_at (b : Fin 4) (i d : Fin 256) : (V m c main_v10 : Vec Ideal S4x256x256 .bf16) (ix3 b i d) = (args m c).mkey b i d := by
  unfold V
  after_reads_at
  rfl

theorem mv_at (b : Fin 4) (d i : Fin 256) : (V m c main_v12 : Vec Ideal S4x256x256 .bf16) (ix3 b d i) = (args m c).mval b i d := by
  unfold V
  after_reads_at
  rfl

theorem wo_at (e d : Fin 1024) : (V m c main_v9 : Vec Ideal S1024x1024 .bf16) (ix2 e d) = (args m c).Wo e d := by
  unfold V
  after_reads_at
  rfl

theorem index0 : ∀ t : Fin cfg0.N, win0_0.index t = ![t.val / 8, t.val % 8, 0] := by decide +kernel
theorem index1 : ∀ t : Fin cfg0.N, win0_1.index t = ![min (t.val + 1) 31 / 8, 2 * (min (t.val + 1) 31 % 8), 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index9 : ∀ t : Fin cfg0.N, win0_9.index t = ![0, 0] := by decide +kernel
theorem index6 : ∀ t : Fin cfg0.N, win0_6.index t = ![0] := by decide +kernel
theorem index7 : ∀ t : Fin cfg0.N, win0_7.index t = ![t.val / 8, 0, 0] := by decide +kernel
theorem index8 : ∀ t : Fin cfg0.N, win0_8.index t = ![t.val / 8, 0, 0] := by decide +kernel

/-- The sequence that tile `n` lies in. -/
def seq (n : ℕ) (h : n < 32) : Fin 4 := ⟨n / 8, by omega⟩

theorem x0_at (t : Fin cfg0.N) (b : Fin 4) (hb : b.val = t.val / 8) (y : S1x1024x1024.Idx) (h : (y 0).val = 0) :
    (iblk m c 0 t : Vec Ideal S1x1024x1024 .f32) y = of3 (gx (args m c) b (1024 * (t.val % 8))) y := by
  have h1 : (y 1).val < 1024 := (y 1).isLt
  have h2 : (y 2).val < 1024 := (y 2).isLt
  blk_simp [iblk, index0]
  rw [V_main_arg0]
  unfold of3 gx
  rw [ext2_eq _ (by omega) h2]
  show m _ _ = m _ _
  refine congrArg _ ?_
  blk_ext [index0]
  all_goals first | omega | (simp only [ix3]; omega) | skip

theorem x1_at (t : Fin cfg0.N) (b : Fin 4) (n : ℕ) (hn : n = min (t.val + 1) 31) (hb : b.val = n / 8) (y : S1x512x1024.Idx) (h : (y 0).val = 0) :
    (iblk m c 1 t : Vec Ideal S1x512x1024 .f32) y = of3 (gx (args m c) b (1024 * (n % 8))) y := by
  have h1 : (y 1).val < 512 := (y 1).isLt
  have h2 : (y 2).val < 1024 := (y 2).isLt
  blk_simp [iblk, index1]
  rw [V_main_arg0]
  unfold of3 gx
  rw [ext2_eq _ (by omega) h2]
  show m _ _ = m _ _
  refine congrArg _ ?_
  blk_ext [index1]
  all_goals first | omega | (simp only [ix3]; omega) | skip

theorem x2_at (t : Fin cfg0.N) (y : S1x1024.Idx) : (iblk m c 2 t : Vec Ideal S1x1024 .f32) y = of2 (ggain (args m c).g) y := by
  have h0 : (y 0).val < 1 := (y 0).isLt
  have h1 : (y 1).val < 1024 := (y 1).isLt
  blk_simp [iblk, index2]
  unfold of2 ggain
  rw [ext1_eq _ h1]
  refine (congrArg _ (?_ : _ = ix2 0 ⟨_, h1⟩)).trans (gain_at m c _)
  blk_ext [index2]
  all_goals first | omega | skip

theorem x3_at (t : Fin cfg0.N) (y : S1x1024.Idx) : (iblk m c 3 t : Vec Ideal S1x1024 .f32) y = of2 (ggain (args m c).gp) y := by
  have h0 : (y 0).val < 1 := (y 0).isLt
  have h1 : (y 1).val < 1024 := (y 1).isLt
  blk_simp [iblk, index3]
  unfold of2 ggain
  rw [ext1_eq _ h1]
  refine (congrArg _ (?_ : _ = ix2 0 ⟨_, h1⟩)).trans (post_at m c _)
  blk_ext [index3]
  all_goals first | omega | skip

theorem x4_at (t : Fin cfg0.N) (y : S3072x1024.Idx) : (iblk m c 4 t : Vec Ideal S3072x1024 .bf16) y = of2 (gw (args m c)) y := by
  have h0 : (y 0).val < 3072 := (y 0).isLt
  have h1 : (y 1).val < 1024 := (y 1).isLt
  blk_simp [iblk, index4]
  unfold of2 gw
  rw [ext2_eq _ h1 h0]
  refine (congrArg _ (?_ : _ = ix2 ⟨_, h0⟩ ⟨_, h1⟩)).trans (w_at m c _ _)
  blk_ext [index4]
  all_goals first | omega | skip

theorem x5_at (t : Fin cfg0.N) (y : S384x3.Idx) : (iblk m c 5 t : Vec Ideal S384x3 .f32) y = of2 (gcw (args m c)) y := by
  have h0 : (y 0).val < 384 := (y 0).isLt
  have h1 : (y 1).val < 3 := (y 1).isLt
  blk_simp [iblk, index5]
  unfold of2 gcw
  rw [ext2_eq _ h1 h0]
  refine (congrArg _ (?_ : _ = ix2 ⟨_, h0⟩ ⟨_, h1⟩)).trans (cw_at m c _ _)
  blk_ext [index5]
  all_goals first | omega | skip

theorem x9_at (t : Fin cfg0.N) (y : S1024x1024.Idx) : (iblk m c 9 t : Vec Ideal S1024x1024 .bf16) y = of2 (gwo (args m c)) y := by
  have h0 : (y 0).val < 1024 := (y 0).isLt
  have h1 : (y 1).val < 1024 := (y 1).isLt
  blk_simp [iblk, index9]
  unfold of2 gwo
  rw [ext2_eq _ h0 h1]
  refine (congrArg _ (?_ : _ = ix2 ⟨_, h0⟩ ⟨_, h1⟩)).trans (wo_at m c _ _)
  blk_ext [index9]
  all_goals first | omega | skip

theorem x6_at (t : Fin cfg0.N) (y : S6.Idx) : (iblk m c 6 t : Vec Ideal S6 .f32) y = ext1 (args m c).sk (y 0).val := by
  have h0 : (y 0).val < 6 := (y 0).isLt
  blk_simp [iblk, index6]
  rw [ext1_eq _ h0]
  refine (congrArg _ (?_ : _ = ix1 ⟨_, h0⟩)).trans (sk_at m c _)
  blk_ext [index6]
  all_goals first | omega | skip

theorem x7_at (t : Fin cfg0.N) (b : Fin 4) (hb : b.val = t.val / 8) (y : S1x256x256.Idx) (h : (y 0).val = 0) :
    (iblk m c 7 t : Vec Ideal S1x256x256 .bf16) y = of3 (gmk (args m c) b) y := by
  have h1 : (y 1).val < 256 := (y 1).isLt
  have h2 : (y 2).val < 256 := (y 2).isLt
  blk_simp [iblk, index7]
  unfold of3 gmk
  rw [ext2_eq _ h1 h2]
  refine (congrArg _ (?_ : _ = ix3 b ⟨_, h1⟩ ⟨_, h2⟩)).trans (mk_at m c _ _ _)
  blk_ext [index7]
  all_goals first | omega | skip

theorem x8_at (t : Fin cfg0.N) (b : Fin 4) (hb : b.val = t.val / 8) (y : S1x256x256.Idx) (h : (y 0).val = 0) :
    (iblk m c 8 t : Vec Ideal S1x256x256 .bf16) y = of3 (gmv (args m c) b) y := by
  have h1 : (y 1).val < 256 := (y 1).isLt
  have h2 : (y 2).val < 256 := (y 2).isLt
  blk_simp [iblk, index8]
  unfold of3 gmv
  rw [ext2_eq _ h2 h1]
  refine (congrArg _ (?_ : _ = ix3 b ⟨_, h1⟩ ⟨_, h2⟩)).trans (mv_at m c _ _ _)
  blk_ext [index8]
  all_goals first | omega | skip

/-- Point `t`'s input blocks are those of its tile. -/
theorem inputs (t : Fin cfg0.N) (b : Fin 4) (hb : b.val = t.val / 8) :
    Inputs (args m c) b (1024 * (t.val % 8)) (iblk m c 0 t) (iblk m c 2 t) (iblk m c 3 t) (iblk m c 4 t) (iblk m c 5 t) (iblk m c 6 t)
      (iblk m c 7 t) (iblk m c 8 t) (iblk m c 9 t) :=
  ⟨x0_at m c t b hb, x2_at m c t, x3_at m c t, x4_at m c t, x5_at m c t, x6_at m c t, x7_at m c t b hb, x8_at m c t b hb, x9_at m c t⟩

end Cert.Inputs

end
-- ==== Proof.CaseA.lean ====
/-
  What the kernel leaves at the first tile of the first sequence.
-/
module

public import proofs.«01_k».proof.Proof.Point
public import proofs.«01_k».proof.Proof.Gen.KernelIdeal.Frame.RunA

@[expose] public section

set_option maxRecDepth 16384

noncomputable section

namespace Cert.CaseA

open Idealize.ShloMosaic Idealize.ShloMosaic.TcCoe Cert.KernelIdeal Cert.KernelIdeal.Gen Cert.Soft Cert.Spec Cert.Load Cert.Swa Cert.Mem Cert.Conv
  Cert.Proj Cert.Blocks Cert.Point

variable {c : Dev nD} {i : grid0.Coords} {arg2 : Memref sig .tc .vmem S1x1024x1024 .f32} {harg2 : arg2.IsWhole} {arg3 : Memref sig .tc .vmem S1x512x1024 .f32} {harg3 : arg3.IsWhole} {arg4 : Memref sig .tc .vmem S1x1024 .f32} {harg4 : arg4.IsWhole} {arg5 : Memref sig .tc .vmem S1x1024 .f32} {harg5 : arg5.IsWhole} {arg6 : Memref sig .tc .vmem S3072x1024 .bf16} {harg6 : arg6.IsWhole} {arg7 : Memref sig .tc .vmem S384x3 .f32} {harg7 : arg7.IsWhole} {arg8 : Memref sig .tc .smem S6 .f32} {harg8 : arg8.IsWhole} {arg9 : Memref sig .tc .vmem S1x256x256 .bf16} {harg9 : arg9.IsWhole} {arg10 : Memref sig .tc .vmem S1x256x256 .bf16} {harg10 : arg10.IsWhole} {arg11 : Memref sig .tc .vmem S1024x1024 .bf16} {harg11 : arg11.IsWhole} {arg13 : Memref sig .tc .vmem S1x1024x1024 .f32} {harg13 : arg13.IsWhole} {arg14 : Memref sig .tc .vmem S1x2x384 .f32} {harg14 : arg14.IsWhole} {arg15 : Memref sig .tc .vmem S1x128x128 .f32} {harg15 : arg15.IsWhole} {arg16 : Memref sig .tc .vmem S1x128x128 .f32} {harg16 : arg16.IsWhole} {arg17 : Memref sig .tc .vmem S2x3072x512 .f32} {harg17 : arg17.IsWhole} {arg18 : Memref sig .tc .vmem S2x1024x512 .bf16} {harg18 : arg18.IsWhole} {arg19 : Memref sig .tc .vmem S1152x128 .bf16} {harg19 : arg19.IsWhole} {arg20 : Memref sig .tc .vmem S128x1152 .bf16} {harg20 : arg20.IsWhole} {arg21 : Memref sig .tc .vmem S384x128 .f32} {harg21 : arg21.IsWhole} {arg22 : Memref sig .tc .vmem S2x128x384 .f32} {harg22 : arg22.IsWhole}
  {hc0 : cond0_0 i} {hc1 : cond0_1 i} {hc2 : cond0_2 i}
  {x0 : Vec Ideal S1x1024x1024 .f32} {x1 : Vec Ideal S1x512x1024 .f32} {x2 x3 : Vec Ideal S1x1024 .f32} {x4 : Vec Ideal S3072x1024 .bf16} {x5 : Vec Ideal S384x3 .f32} {x6 : Vec Ideal S6 .f32} {x7 x8 : Vec Ideal S1x256x256 .bf16} {x9 : Vec Ideal S1024x1024 .bf16}
  {a : Args} {b b' : Fin 4} {s t' : ℕ} (hI : Inputs a b (1024 * s) x0 x2 x3 x4 x5 x6 x7 x8 x9)
  (hx1 : ∀ y, (y 0).val = 0 → x1 y = of3 (gx a b' t') y) (ha : Finite a) (ht' : t' + 512 ≤ 8192) (hi : (i 1).val = s)
  (hs : s = 0)

/-! ## The projection -/

include hI hs in
theorem z0 : Reads (fun y => (y 0).val = 0) (of3 (gz a b (1024 * s))) (kernelRun0_A.sl.HS0_6 (F := Ideal) c arg2 harg2 arg4 harg4 arg6 harg6 x0 x2 x4) := by
  refine zt_six (a := a) (b := b) (T := 1024 * s + 512 * 0) (fun _ _ => rfl) (Reads.none _ []) (by omega) (norm_half (T' := 1024 * s) (p := 0) (by omega) (by omega) ?_ ?_) ?_ ?_ ?_ ?_ ?_ ?_ _ _ _ _ _ _
  · exact fun i j => at3 hI.x0 harg2 _ i j
  · exact fun i j => at2 hI.x2 harg4 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j

include hI hs in
theorem z1 : Reads (fun y => (y 0).val = 1) (of3 (gz a b (1024 * s))) (kernelRun0_A.sl.HS0_12 (F := Ideal) c arg2 harg2 arg4 harg4 arg6 harg6 x0 x2 x4) := by
  refine zt_six (a := a) (b := b) (T := 1024 * s + 512 * 1) (fun _ _ => rfl) (Reads.none _ _) (by omega) (norm_half (T' := 1024 * s) (p := 512) (by omega) (by omega) ?_ ?_) ?_ ?_ ?_ ?_ ?_ ?_ _ _ _ _ _ _
  · exact fun i j => at3 hI.x0 harg2 _ i j
  · exact fun i j => at2 hI.x2 harg4 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j

include hI hx1 ht' in
theorem znext : Reads (fun y => (y 0).val = 0) (of3 (gz a b' t')) (kernelRun0_A.sl.HS0_18 (F := Ideal) c arg2 harg2 arg3 harg3 arg4 harg4 arg6 harg6 x0 x1 x2 x4) := by
  refine zt_six (a := a) (b := b') (T := t' + 512 * 0) (fun _ _ => rfl) (Reads.none _ _) (by omega) (norm_half (T' := t') (p := 0) (by omega) (by omega) ?_ ?_) ?_ ?_ ?_ ?_ ?_ ?_ _ _ _ _ _ _
  · exact fun i j => at3 hx1 harg3 _ i j
  · exact fun i j => at2 hI.x2 harg4 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j

include hI hs in
theorem z1_1 : Reads (fun y => (y 0).val = 1) (of3 (gz a b (1024 * s))) (kernelRun0_A.sl.HS0_13 (F := Ideal) c arg2 harg2 arg3 harg3 arg4 harg4 arg6 harg6 x0 x1 x2 x4) := by
  refine Reads.skip (z1 hI hs) fun y hy => ?_
  exact not_mem3 (inb := inb_S2x3072x512_S1x512x512_0_0_0) hy (by decide)

include hI hs in
theorem z1_2 : Reads (fun y => (y 0).val = 1) (of3 (gz a b (1024 * s))) (kernelRun0_A.sl.HS0_14 (F := Ideal) c arg2 harg2 arg3 harg3 arg4 harg4 arg6 harg6 x0 x1 x2 x4) := by
  refine Reads.skip (z1_1 hI hs) fun y hy => ?_
  exact not_mem3 (inb := inb_S2x3072x512_S1x512x512_0_512_0) hy (by decide)

include hI hs in
theorem z1_3 : Reads (fun y => (y 0).val = 1) (of3 (gz a b (1024 * s))) (kernelRun0_A.sl.HS0_15 (F := Ideal) c arg2 harg2 arg3 harg3 arg4 harg4 arg6 harg6 x0 x1 x2 x4) := by
  refine Reads.skip (z1_2 hI hs) fun y hy => ?_
  exact not_mem3 (inb := inb_S2x3072x512_S1x512x512_0_1024_0) hy (by decide)

include hI hs in
theorem z1_4 : Reads (fun y => (y 0).val = 1) (of3 (gz a b (1024 * s))) (kernelRun0_A.sl.HS0_16 (F := Ideal) c arg2 harg2 arg3 harg3 arg4 harg4 arg6 harg6 x0 x1 x2 x4) := by
  refine Reads.skip (z1_3 hI hs) fun y hy => ?_
  exact not_mem3 (inb := inb_S2x3072x512_S1x512x512_0_1536_0) hy (by decide)

include hI hs in
theorem z1_5 : Reads (fun y => (y 0).val = 1) (of3 (gz a b (1024 * s))) (kernelRun0_A.sl.HS0_17 (F := Ideal) c arg2 harg2 arg3 harg3 arg4 harg4 arg6 harg6 x0 x1 x2 x4) := by
  refine Reads.skip (z1_4 hI hs) fun y hy => ?_
  exact not_mem3 (inb := inb_S2x3072x512_S1x512x512_0_2048_0) hy (by decide)

include hI hs in
theorem z1_6 : Reads (fun y => (y 0).val = 1) (of3 (gz a b (1024 * s))) (kernelRun0_A.sl.HS0_18 (F := Ideal) c arg2 harg2 arg3 harg3 arg4 harg4 arg6 harg6 x0 x1 x2 x4) := by
  refine Reads.skip (z1_5 hI hs) fun y hy => ?_
  exact not_mem3 (inb := inb_S2x3072x512_S1x512x512_0_2560_0) hy (by decide)

include hI hs in
theorem z0_1 : Reads (fun y => (y 0).val = 0) (of3 (gz a b (1024 * s))) (kernelRun0_A.sl.HS0_7 (F := Ideal) c arg2 harg2 arg4 harg4 arg6 harg6 x0 x2 x4) := by
  refine Reads.skip (z0 hI hs) fun y hy => ?_
  exact not_mem3 (inb := inb_S2x3072x512_S1x512x512_1_0_0) hy (by decide)

include hI hs in
theorem z0_2 : Reads (fun y => (y 0).val = 0) (of3 (gz a b (1024 * s))) (kernelRun0_A.sl.HS0_8 (F := Ideal) c arg2 harg2 arg4 harg4 arg6 harg6 x0 x2 x4) := by
  refine Reads.skip (z0_1 hI hs) fun y hy => ?_
  exact not_mem3 (inb := inb_S2x3072x512_S1x512x512_1_512_0) hy (by decide)

include hI hs in
theorem z0_3 : Reads (fun y => (y 0).val = 0) (of3 (gz a b (1024 * s))) (kernelRun0_A.sl.HS0_9 (F := Ideal) c arg2 harg2 arg4 harg4 arg6 harg6 x0 x2 x4) := by
  refine Reads.skip (z0_2 hI hs) fun y hy => ?_
  exact not_mem3 (inb := inb_S2x3072x512_S1x512x512_1_1024_0) hy (by decide)

include hI hs in
theorem z0_4 : Reads (fun y => (y 0).val = 0) (of3 (gz a b (1024 * s))) (kernelRun0_A.sl.HS0_10 (F := Ideal) c arg2 harg2 arg4 harg4 arg6 harg6 x0 x2 x4) := by
  refine Reads.skip (z0_3 hI hs) fun y hy => ?_
  exact not_mem3 (inb := inb_S2x3072x512_S1x512x512_1_1536_0) hy (by decide)

include hI hs in
theorem z0_5 : Reads (fun y => (y 0).val = 0) (of3 (gz a b (1024 * s))) (kernelRun0_A.sl.HS0_11 (F := Ideal) c arg2 harg2 arg4 harg4 arg6 harg6 x0 x2 x4) := by
  refine Reads.skip (z0_4 hI hs) fun y hy => ?_
  exact not_mem3 (inb := inb_S2x3072x512_S1x512x512_1_2048_0) hy (by decide)

include hI hs in
theorem z0_6 : Reads (fun y => (y 0).val = 0) (of3 (gz a b (1024 * s))) (kernelRun0_A.sl.HS0_12 (F := Ideal) c arg2 harg2 arg4 harg4 arg6 harg6 x0 x2 x4) := by
  refine Reads.skip (z0_5 hI hs) fun y hy => ?_
  exact not_mem3 (inb := inb_S2x3072x512_S1x512x512_1_2560_0) hy (by decide)

/-! ## Keys, values and the convolution's last inputs -/

include hI hs in
theorem k1 : Reads (fun y => 0 ≤ (y 0).val ∧ (y 0).val < 640) (of2 (gk a b (1024 * s))) (kernelRun0_A.sl.HS2_2 (F := Ideal) c arg2 harg2 arg4 harg4 arg6 harg6 arg17 x0 x2 x4) := by
  refine Reads.mono (((Reads.none2 _ []).box2 _ (key_zero (by omega))).box2 _ (key_store (T := 1024 * s + 512 * 0) (by omega) ?_)) fun y hy => ?_
  · exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  · have h1 : (y 1).val < 128 := (y 1).isLt
    by_cases c0 : (y 0).val < 128
    · exact Or.inl (Or.inr ⟨by omega, by omega⟩)
    · exact Or.inr ⟨by omega, by omega⟩

include hI hs in
theorem v1 : Reads (fun y => 0 ≤ (y 1).val ∧ (y 1).val < 640) (of2 (gv a b (1024 * s))) (kernelRun0_A.sl.HS3_2 (F := Ideal) c arg2 harg2 arg4 harg4 arg6 harg6 arg17 x0 x2 x4) := by
  refine Reads.mono (((Reads.none2 _ []).box2 _ (val_zero (by omega))).box2 _ (val_store (T := 1024 * s + 512 * 0) (by omega) ?_)) fun y hy => ?_
  · exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  · have h1 : (y 0).val < 128 := (y 0).isLt
    by_cases c0 : (y 1).val < 128
    · exact Or.inl (Or.inr ⟨by omega, by omega⟩)
    · exact Or.inr ⟨by omega, by omega⟩

include hI hs in
theorem k2 : Reads (fun y => 0 ≤ (y 0).val ∧ (y 0).val < 1152) (of2 (gk a b (1024 * s))) (kernelRun0_A.sl.HS2_3 (F := Ideal) c arg2 harg2 arg4 harg4 arg6 harg6 arg17 x0 x2 x4) := by
  refine Reads.mono ((k1 hI hs).box2 _ (key_store (T := 1024 * s + 512 * 1) (by omega) ?_)) fun y hy => ?_
  · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h1 : (y 1).val < 128 := (y 1).isLt
    by_cases c0 : (y 0).val < 640
    · exact Or.inl ⟨by omega, by omega⟩
    · exact Or.inr ⟨by omega, by omega⟩

include hI hs in
theorem v2 : Reads (fun y => 0 ≤ (y 1).val ∧ (y 1).val < 1152) (of2 (gv a b (1024 * s))) (kernelRun0_A.sl.HS3_3 (F := Ideal) c arg2 harg2 arg4 harg4 arg6 harg6 arg17 x0 x2 x4) := by
  refine Reads.mono ((v1 hI hs).box2 _ (val_store (T := 1024 * s + 512 * 1) (by omega) ?_)) fun y hy => ?_
  · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h1 : (y 0).val < 128 := (y 0).isLt
    by_cases c0 : (y 1).val < 640
    · exact Or.inl ⟨by omega, by omega⟩
    · exact Or.inr ⟨by omega, by omega⟩

include hs in
theorem u0 : Reads (fun _ => True) (of2 (gu a b (1024 * s))) (kernelRun0_A.sl.HS4_1 (F := Ideal) ) := by
  refine Reads.mono ((Reads.none2 _ []).box2 _ (conv_zero (by omega))) fun y _ => ?_
  have h0 : (y 0).val < 384 := (y 0).isLt
  have h1 : (y 1).val < 128 := (y 1).isLt
  exact Or.inr ⟨by omega, by omega⟩

/-! ## The mixers -/

include hI ha hi hs in
theorem y0 : Reads (fun y => (y 0).val = 0) (of3 (gy a b (1024 * s))) (kernelRun0_A.sl.HS1_29 (F := Ideal) c i arg2 harg2 arg4 harg4 arg6 harg6 arg7 harg7 arg8 harg8 arg9 harg9 arg10 harg10 arg17 arg19 arg20 arg21 arg22 x0 x2 x4 x5 x6 x7 x8) := by
  refine Reads.mono (mem_reads (a := a) (b := b) (T := 1024 * s + 512 * 0) (fun _ _ => rfl) (swa_reads (a := a) (b := b) (T := 1024 * s + 512 * 0) (fun _ _ => rfl) (swa_reads (a := a) (b := b) (T := 1024 * s + 512 * 0) (fun _ _ => rfl) (swa_reads (a := a) (b := b) (T := 1024 * s + 512 * 0) (fun _ _ => rfl) (swa_reads (a := a) (b := b) (T := 1024 * s + 512 * 0) (fun _ _ => rfl) (conv_reads (a := a) (b := b) (T := 1024 * s + 512 * 0) (fun _ _ => rfl) (Reads.none _ _) (by omega) ?cp ?c1 ?c2 ?cw ?cc ?cz _) (p := 0) (n := ⟨8 * s + 0, by omega⟩) (by show _ = 128 * (8 * s + 0); omega) ?v00 ?v01 ?z00 ?z01 ?z02 ?z03 ?z04 ?z05 _ _ _ _ _ _) (p := 128) (n := ⟨8 * s + 1, by omega⟩) (by show _ = 128 * (8 * s + 1); omega) ?v10 ?v11 ?z10 ?z11 ?z12 ?z13 ?z14 ?z15 _ _ _ _ _ _) (p := 256) (n := ⟨8 * s + 2, by omega⟩) (by show _ = 128 * (8 * s + 2); omega) ?v20 ?v21 ?z20 ?z21 ?z22 ?z23 ?z24 ?z25 _ _ _ _ _ _) (p := 384) (n := ⟨8 * s + 3, by omega⟩) (by show _ = 128 * (8 * s + 3); omega) ?v30 ?v31 ?z30 ?z31 ?z32 ?z33 ?z34 ?z35 _ _ _ _ _ _) (by omega) ?m0 ?m1 ?m2 ?m3 ?mv0 ?mv1 ?mv2 ?mv3 ?mz0 ?mz1 ?mz2 ?mz3 _ _ _ _) ?cover
  case cp => exact fun i j => cov2 (u0 hs) _ _ (fun _ _ => trivial) i j
  case c1 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case c2 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case cc => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case cz => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case cw => exact fun i j => at2 hI.x5 harg7 _ i j
  case v00 =>
    refine group0_pen ha (T := 1024 * s + 512 * 0) (p := 0) (u := 1024 * s) (o := 0) (n := ⟨8 * s + 0, by omega⟩) (by show _ = 128 * (8 * s + 0); omega) (by show _ = 128 * (8 * s + 0); omega) ((pen_eq i).trans (if_congr (by show (i 1).val = 0 ↔ 8 * s + 0 = 0; omega) rfl rfl)) ?h0 ?h1 ?h2 ?hk ?hb ?hs ?hv
    case h0 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h1 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h2 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case hk => exact fun i j => cov2 (k1 hI hs) _ _ (fun y hy => by omega) i j
    case hb => exact fun i j => cov3 ((bias_reads _ _ _ _ _ _).mono fun _ _ => trivial) _ _ i j
    case hs => exact fun c => sink0 (at1 hI.x6 harg8 _ _) (at1 hI.x6 harg8 _ _) (at1 hI.x6 harg8 _ _) c
    case hv => exact fun i j => cov2 (v1 hI hs) _ _ (fun y hy => by omega) i j
  case v01 =>
    refine group1_pen ha (T := 1024 * s + 512 * 0) (p := 0) (u := 1024 * s) (o := 0) (n := ⟨8 * s + 0, by omega⟩) (by show _ = 128 * (8 * s + 0); omega) (by show _ = 128 * (8 * s + 0); omega) ((pen_eq i).trans (if_congr (by show (i 1).val = 0 ↔ 8 * s + 0 = 0; omega) rfl rfl)) ?h0 ?h1 ?h2 ?hk ?hb ?hs ?hv
    case h0 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h1 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h2 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case hk => exact fun i j => cov2 (k1 hI hs) _ _ (fun y hy => by omega) i j
    case hb => exact fun i j => cov3 ((bias_reads _ _ _ _ _ _).mono fun _ _ => trivial) _ _ i j
    case hs => exact fun c => sink1 (at1 hI.x6 harg8 _ _) (at1 hI.x6 harg8 _ _) (at1 hI.x6 harg8 _ _) c
    case hv => exact fun i j => cov2 (v1 hI hs) _ _ (fun y hy => by omega) i j
  case z00 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z01 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z02 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z03 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z04 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z05 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case v10 =>
    refine group0 ha (T := 1024 * s + 512 * 0) (p := 128) (u := 1024 * s) (o := 128) (n := ⟨8 * s + 1, by omega⟩) (by show _ = 128 * (8 * s + 1); omega) (by show _ = 128 * (8 * s + 1); omega) (by show 0 < 8 * s + 1; omega) ?h0 ?h1 ?h2 ?hk ?hb ?hs ?hv
    case h0 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h1 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h2 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case hk => exact fun i j => cov2 (k1 hI hs) _ _ (fun y hy => by omega) i j
    case hb => exact fun i j => cov3 ((bias_reads _ _ _ _ _ _).mono fun _ _ => trivial) _ _ i j
    case hs => exact fun c => sink0 (at1 hI.x6 harg8 _ _) (at1 hI.x6 harg8 _ _) (at1 hI.x6 harg8 _ _) c
    case hv => exact fun i j => cov2 (v1 hI hs) _ _ (fun y hy => by omega) i j
  case v11 =>
    refine group1 ha (T := 1024 * s + 512 * 0) (p := 128) (u := 1024 * s) (o := 128) (n := ⟨8 * s + 1, by omega⟩) (by show _ = 128 * (8 * s + 1); omega) (by show _ = 128 * (8 * s + 1); omega) (by show 0 < 8 * s + 1; omega) ?h0 ?h1 ?h2 ?hk ?hb ?hs ?hv
    case h0 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h1 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h2 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case hk => exact fun i j => cov2 (k1 hI hs) _ _ (fun y hy => by omega) i j
    case hb => exact fun i j => cov3 ((bias_reads _ _ _ _ _ _).mono fun _ _ => trivial) _ _ i j
    case hs => exact fun c => sink1 (at1 hI.x6 harg8 _ _) (at1 hI.x6 harg8 _ _) (at1 hI.x6 harg8 _ _) c
    case hv => exact fun i j => cov2 (v1 hI hs) _ _ (fun y hy => by omega) i j
  case z10 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z11 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z12 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z13 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z14 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z15 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case v20 =>
    refine group0 ha (T := 1024 * s + 512 * 0) (p := 256) (u := 1024 * s) (o := 256) (n := ⟨8 * s + 2, by omega⟩) (by show _ = 128 * (8 * s + 2); omega) (by show _ = 128 * (8 * s + 2); omega) (by show 0 < 8 * s + 2; omega) ?h0 ?h1 ?h2 ?hk ?hb ?hs ?hv
    case h0 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h1 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h2 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case hk => exact fun i j => cov2 (k1 hI hs) _ _ (fun y hy => by omega) i j
    case hb => exact fun i j => cov3 ((bias_reads _ _ _ _ _ _).mono fun _ _ => trivial) _ _ i j
    case hs => exact fun c => sink0 (at1 hI.x6 harg8 _ _) (at1 hI.x6 harg8 _ _) (at1 hI.x6 harg8 _ _) c
    case hv => exact fun i j => cov2 (v1 hI hs) _ _ (fun y hy => by omega) i j
  case v21 =>
    refine group1 ha (T := 1024 * s + 512 * 0) (p := 256) (u := 1024 * s) (o := 256) (n := ⟨8 * s + 2, by omega⟩) (by show _ = 128 * (8 * s + 2); omega) (by show _ = 128 * (8 * s + 2); omega) (by show 0 < 8 * s + 2; omega) ?h0 ?h1 ?h2 ?hk ?hb ?hs ?hv
    case h0 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h1 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h2 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case hk => exact fun i j => cov2 (k1 hI hs) _ _ (fun y hy => by omega) i j
    case hb => exact fun i j => cov3 ((bias_reads _ _ _ _ _ _).mono fun _ _ => trivial) _ _ i j
    case hs => exact fun c => sink1 (at1 hI.x6 harg8 _ _) (at1 hI.x6 harg8 _ _) (at1 hI.x6 harg8 _ _) c
    case hv => exact fun i j => cov2 (v1 hI hs) _ _ (fun y hy => by omega) i j
  case z20 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z21 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z22 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z23 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z24 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z25 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case v30 =>
    refine group0 ha (T := 1024 * s + 512 * 0) (p := 384) (u := 1024 * s) (o := 384) (n := ⟨8 * s + 3, by omega⟩) (by show _ = 128 * (8 * s + 3); omega) (by show _ = 128 * (8 * s + 3); omega) (by show 0 < 8 * s + 3; omega) ?h0 ?h1 ?h2 ?hk ?hb ?hs ?hv
    case h0 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h1 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h2 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case hk => exact fun i j => cov2 (k1 hI hs) _ _ (fun y hy => by omega) i j
    case hb => exact fun i j => cov3 ((bias_reads _ _ _ _ _ _).mono fun _ _ => trivial) _ _ i j
    case hs => exact fun c => sink0 (at1 hI.x6 harg8 _ _) (at1 hI.x6 harg8 _ _) (at1 hI.x6 harg8 _ _) c
    case hv => exact fun i j => cov2 (v1 hI hs) _ _ (fun y hy => by omega) i j
  case v31 =>
    refine group1 ha (T := 1024 * s + 512 * 0) (p := 384) (u := 1024 * s) (o := 384) (n := ⟨8 * s + 3, by omega⟩) (by show _ = 128 * (8 * s + 3); omega) (by show _ = 128 * (8 * s + 3); omega) (by show 0 < 8 * s + 3; omega) ?h0 ?h1 ?h2 ?hk ?hb ?hs ?hv
    case h0 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h1 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case h2 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case hk => exact fun i j => cov2 (k1 hI hs) _ _ (fun y hy => by omega) i j
    case hb => exact fun i j => cov3 ((bias_reads _ _ _ _ _ _).mono fun _ _ => trivial) _ _ i j
    case hs => exact fun c => sink1 (at1 hI.x6 harg8 _ _) (at1 hI.x6 harg8 _ _) (at1 hI.x6 harg8 _ _) c
    case hv => exact fun i j => cov2 (v1 hI hs) _ _ (fun y hy => by omega) i j
  case z30 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z31 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z32 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z33 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z34 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case z35 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case m0 =>
    refine mem0 ha (T := 1024 * s + 512 * 0) ?q ?k
    case q => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case k => exact fun i j => at3 hI.x7 harg9 _ i j
  case mv0 => exact fun i j => at3 hI.x8 harg10 _ i j
  case mz0 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case m1 =>
    refine mem1 ha (T := 1024 * s + 512 * 0) ?q ?k
    case q => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case k => exact fun i j => at3 hI.x7 harg9 _ i j
  case mv1 => exact fun i j => at3 hI.x8 harg10 _ i j
  case mz1 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case m2 =>
    refine mem2 ha (T := 1024 * s + 512 * 0) ?q ?k
    case q => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case k => exact fun i j => at3 hI.x7 harg9 _ i j
  case mv2 => exact fun i j => at3 hI.x8 harg10 _ i j
  case mz2 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case m3 =>
    refine mem3 ha (T := 1024 * s + 512 * 0) ?q ?k
    case q => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    case k => exact fun i j => at3 hI.x7 harg9 _ i j
  case mv3 => exact fun i j => at3 hI.x8 harg10 _ i j
  case mz3 => exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case cover =>
    intro y hy
    exact half_cover hy

include hI ha hs in
theorem y1 : Reads (fun y => (y 0).val = 1) (of3 (gy a b (1024 * s))) (kernelRun0_A.sl.HS1_58 (F := Ideal) c i arg2 harg2 arg3 harg3 arg4 harg4 arg6 harg6 arg7 harg7 arg8 harg8 arg9 harg9 arg10 harg10 arg17 arg19 arg20 arg21 arg22 x0 x1 x2 x4 x5 x6 x7 x8) := by
  refine Reads.mono (mem_reads (a := a) (b := b) (T := 1024 * s + 512 * 1) (fun _ _ => rfl) (swa_reads (a := a) (b := b) (T := 1024 * s + 512 * 1) (fun _ _ => rfl) (swa_reads (a := a) (b := b) (T := 1024 * s + 512 * 1) (fun _ _ => rfl) (swa_reads (a := a) (b := b) (T := 1024 * s + 512 * 1) (fun _ _ => rfl) (swa_reads (a := a) (b := b) (T := 1024 * s + 512 * 1) (fun _ _ => rfl) (conv_reads (a := a) (b := b) (T := 1024 * s + 512 * 1) (fun _ _ => rfl) (Reads.none _ _) (by omega) ?cp ?c1 ?c2 ?cw ?cc ?cz _) (p := 0) (n := ⟨8 * s + 4, by omega⟩) (by show _ = 128 * (8 * s + 4); omega) ?v00 ?v01 ?z00 ?z01 ?z02 ?z03 ?z04 ?z05 _ _ _ _ _ _) (p := 128) (n := ⟨8 * s + 5, by omega⟩) (by show _ = 128 * (8 * s + 5); omega) ?v10 ?v11 ?z10 ?z11 ?z12 ?z13 ?z14 ?z15 _ _ _ _ _ _) (p := 256) (n := ⟨8 * s + 6, by omega⟩) (by show _ = 128 * (8 * s + 6); omega) ?v20 ?v21 ?z20 ?z21 ?z22 ?z23 ?z24 ?z25 _ _ _ _ _ _) (p := 384) (n := ⟨8 * s + 7, by omega⟩) (by show _ = 128 * (8 * s + 7); omega) ?v30 ?v31 ?z30 ?z31 ?z32 ?z33 ?z34 ?z35 _ _ _ _ _ _) (by omega) ?m0 ?m1 ?m2 ?m3 ?mv0 ?mv1 ?mv2 ?mv3 ?mz0 ?mz1 ?mz2 ?mz3 _ _ _ _) ?cover
  case cp =>
    refine tail_eq (a := a) (b := b) (T := 1024 * s + 512 * 0) (by omega) ?_ ?_
    · exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
    · exact fun i j => zt_cov (Val := Elt Ideal) (e := .f32) (g := gz a b (1024 * s)) (by with_reducible first | exact z0 hI hs | exact z0_1 hI hs | exact z0_2 hI hs | exact z0_3 hI hs | exact z0_4 hI hs | exact z0_5 hI hs | exact z0_6 hI hs) _ _ _ i j
  case c1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case c2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cc => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cz => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cw => exact fun i j => at2 hI.x5 harg7 _ i j
  case v00 =>
    refine group0 ha (T := 1024 * s + 512 * 1) (p := 0) (u := 1024 * s) (o := 512) (n := ⟨8 * s + 4, by omega⟩) (by show _ = 128 * (8 * s + 4); omega) (by show _ = 128 * (8 * s + 4); omega) (by show 0 < 8 * s + 4; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs) _ _ (fun y hy => by omega) i j
    case hb => exact fun i j => cov3 ((bias_reads _ _ _ _ _ _).mono fun _ _ => trivial) _ _ i j
    case hs => exact fun c => sink0 (at1 hI.x6 harg8 _ _) (at1 hI.x6 harg8 _ _) (at1 hI.x6 harg8 _ _) c
    case hv => exact fun i j => cov2 (v2 hI hs) _ _ (fun y hy => by omega) i j
  case v01 =>
    refine group1 ha (T := 1024 * s + 512 * 1) (p := 0) (u := 1024 * s) (o := 512) (n := ⟨8 * s + 4, by omega⟩) (by show _ = 128 * (8 * s + 4); omega) (by show _ = 128 * (8 * s + 4); omega) (by show 0 < 8 * s + 4; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs) _ _ (fun y hy => by omega) i j
    case hb => exact fun i j => cov3 ((bias_reads _ _ _ _ _ _).mono fun _ _ => trivial) _ _ i j
    case hs => exact fun c => sink1 (at1 hI.x6 harg8 _ _) (at1 hI.x6 harg8 _ _) (at1 hI.x6 harg8 _ _) c
    case hv => exact fun i j => cov2 (v2 hI hs) _ _ (fun y hy => by omega) i j
  case z00 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z01 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z02 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z03 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z04 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z05 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case v10 =>
    refine group0 ha (T := 1024 * s + 512 * 1) (p := 128) (u := 1024 * s) (o := 640) (n := ⟨8 * s + 5, by omega⟩) (by show _ = 128 * (8 * s + 5); omega) (by show _ = 128 * (8 * s + 5); omega) (by show 0 < 8 * s + 5; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs) _ _ (fun y hy => by omega) i j
    case hb => exact fun i j => cov3 ((bias_reads _ _ _ _ _ _).mono fun _ _ => trivial) _ _ i j
    case hs => exact fun c => sink0 (at1 hI.x6 harg8 _ _) (at1 hI.x6 harg8 _ _) (at1 hI.x6 harg8 _ _) c
    case hv => exact fun i j => cov2 (v2 hI hs) _ _ (fun y hy => by omega) i j
  case v11 =>
    refine group1 ha (T := 1024 * s + 512 * 1) (p := 128) (u := 1024 * s) (o := 640) (n := ⟨8 * s + 5, by omega⟩) (by show _ = 128 * (8 * s + 5); omega) (by show _ = 128 * (8 * s + 5); omega) (by show 0 < 8 * s + 5; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs) _ _ (fun y hy => by omega) i j
    case hb => exact fun i j => cov3 ((bias_reads _ _ _ _ _ _).mono fun _ _ => trivial) _ _ i j
    case hs => exact fun c => sink1 (at1 hI.x6 harg8 _ _) (at1 hI.x6 harg8 _ _) (at1 hI.x6 harg8 _ _) c
    case hv => exact fun i j => cov2 (v2 hI hs) _ _ (fun y hy => by omega) i j
  case z10 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z11 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z12 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z13 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z14 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z15 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case v20 =>
    refine group0 ha (T := 1024 * s + 512 * 1) (p := 256) (u := 1024 * s) (o := 768) (n := ⟨8 * s + 6, by omega⟩) (by show _ = 128 * (8 * s + 6); omega) (by show _ = 128 * (8 * s + 6); omega) (by show 0 < 8 * s + 6; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs) _ _ (fun y hy => by omega) i j
    case hb => exact fun i j => cov3 ((bias_reads _ _ _ _ _ _).mono fun _ _ => trivial) _ _ i j
    case hs => exact fun c => sink0 (at1 hI.x6 harg8 _ _) (at1 hI.x6 harg8 _ _) (at1 hI.x6 harg8 _ _) c
    case hv => exact fun i j => cov2 (v2 hI hs) _ _ (fun y hy => by omega) i j
  case v21 =>
    refine group1 ha (T := 1024 * s + 512 * 1) (p := 256) (u := 1024 * s) (o := 768) (n := ⟨8 * s + 6, by omega⟩) (by show _ = 128 * (8 * s + 6); omega) (by show _ = 128 * (8 * s + 6); omega) (by show 0 < 8 * s + 6; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs) _ _ (fun y hy => by omega) i j
    case hb => exact fun i j => cov3 ((bias_reads _ _ _ _ _ _).mono fun _ _ => trivial) _ _ i j
    case hs => exact fun c => sink1 (at1 hI.x6 harg8 _ _) (at1 hI.x6 harg8 _ _) (at1 hI.x6 harg8 _ _) c
    case hv => exact fun i j => cov2 (v2 hI hs) _ _ (fun y hy => by omega) i j
  case z20 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z21 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z22 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z23 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z24 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z25 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case v30 =>
    refine group0 ha (T := 1024 * s + 512 * 1) (p := 384) (u := 1024 * s) (o := 896) (n := ⟨8 * s + 7, by omega⟩) (by show _ = 128 * (8 * s + 7); omega) (by show _ = 128 * (8 * s + 7); omega) (by show 0 < 8 * s + 7; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs) _ _ (fun y hy => by omega) i j
    case hb => exact fun i j => cov3 ((bias_reads _ _ _ _ _ _).mono fun _ _ => trivial) _ _ i j
    case hs => exact fun c => sink0 (at1 hI.x6 harg8 _ _) (at1 hI.x6 harg8 _ _) (at1 hI.x6 harg8 _ _) c
    case hv => exact fun i j => cov2 (v2 hI hs) _ _ (fun y hy => by omega) i j
  case v31 =>
    refine group1 ha (T := 1024 * s + 512 * 1) (p := 384) (u := 1024 * s) (o := 896) (n := ⟨8 * s + 7, by omega⟩) (by show _ = 128 * (8 * s + 7); omega) (by show _ = 128 * (8 * s + 7); omega) (by show 0 < 8 * s + 7; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs) _ _ (fun y hy => by omega) i j
    case hb => exact fun i j => cov3 ((bias_reads _ _ _ _ _ _).mono fun _ _ => trivial) _ _ i j
    case hs => exact fun c => sink1 (at1 hI.x6 harg8 _ _) (at1 hI.x6 harg8 _ _) (at1 hI.x6 harg8 _ _) c
    case hv => exact fun i j => cov2 (v2 hI hs) _ _ (fun y hy => by omega) i j
  case z30 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z31 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z32 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z33 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z34 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z35 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m0 =>
    refine mem0 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv0 => exact fun i j => at3 hI.x8 harg10 _ i j
  case mz0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m1 =>
    refine mem1 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv1 => exact fun i j => at3 hI.x8 harg10 _ i j
  case mz1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m2 =>
    refine mem2 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv2 => exact fun i j => at3 hI.x8 harg10 _ i j
  case mz2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m3 =>
    refine mem3 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv3 => exact fun i j => at3 hI.x8 harg10 _ i j
  case mz3 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cover =>
    intro y hy
    exact half_cover hy

/-! ## The outputs -/

include hI ha hi hs in
theorem out : Reads (fun _ => True) (of3 (gout a b (1024 * s))) (kernelRun0_A (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9).1 := by
  refine Reads.mono (out_reads (a := a) (b := b) (T := 1024 * s + 512 * 1) (T0 := 1024 * s) (o := 512) (by omega) (by omega) (out_reads (a := a) (b := b) (T := 1024 * s + 512 * 0) (T0 := 1024 * s) (o := 0) (by omega) (by omega) (Reads.none _ []) (proj_half (T := 1024 * s + 512 * 0) (by omega) (fun i j => cov3 (y0 hI ha hi hs) _ _ i j) fun i j => at2 hI.x9 harg11 _ i j) (fun i j => at3 hI.x0 harg2 _ i j) (fun i j => at3 hI.x0 harg2 _ i j) (fun i j => at3 hI.x0 harg2 _ i j) (fun i j => at3 hI.x0 harg2 _ i j) (fun i j => at2 hI.x3 harg5 _ i j) (fun i j => at2 hI.x3 harg5 _ i j) (fun i j => at2 hI.x3 harg5 _ i j) (fun i j => at2 hI.x3 harg5 _ i j) _ _ _ _) (proj_half (T := 1024 * s + 512 * 1) (by omega) (fun i j => cov3 (y1 hI ha hs) _ _ i j) fun i j => at2 hI.x9 harg11 _ i j) (fun i j => at3 hI.x0 harg2 _ i j) (fun i j => at3 hI.x0 harg2 _ i j) (fun i j => at3 hI.x0 harg2 _ i j) (fun i j => at3 hI.x0 harg2 _ i j) (fun i j => at2 hI.x3 harg5 _ i j) (fun i j => at2 hI.x3 harg5 _ i j) (fun i j => at2 hI.x3 harg5 _ i j) (fun i j => at2 hI.x3 harg5 _ i j) _ _ _ _) fun y _ => ?_
  have h1 : (y 1).val < 1024 := (y 1).isLt
  by_cases c0 : (y 1).val < 512
  · exact Or.inl (Or.inr ⟨by omega, by omega⟩)
  · exact Or.inr ⟨by omega, by omega⟩

include hI hs in
theorem cstate : Reads (fun _ => True) (of3 (gcs a b (1024 * s))) (kernelRun0_A (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9).2.1 := by
  refine Reads.mono ((Reads.none _ []).box3 _ fun i j => (cstate_eq _ i j).trans ?_) fun y _ => ?_
  · refine (tail_eq (a := a) (b := b) (T := 1024 * s + 512 * 1) rfl ?_ ?_ j _).trans (congrArg₂ (un a b) (by simp only; omega) rfl)
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h0 : (y 0).val < 1 := (y 0).isLt
    have h1 : (y 1).val < 2 := (y 1).isLt
    have h2 : (y 2).val < 384 := (y 2).isLt
    exact Or.inr ⟨by omega, by omega, by omega⟩

include hI hs in
theorem kstate : Reads (fun _ => True) (of3 (gks a b (1024 * s))) (kernelRun0_A (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9).2.2.1 := by
  refine Reads.mono ((Reads.none _ []).box3 _ fun i j => (state_eq _ i j).trans ((cov3 (z1_6 hI hs) _ _ i j).trans (congrArg₂ (zn a b) ?_ ?_))) fun y _ => ?_
  · show 1024 * s + 512 * 1 + (384 + j.val) = 1024 * s + 896 + (0 + j.val)
    omega
  · show _ + i.val = _ + (0 + i.val)
    omega
  · have h0 : (y 0).val < 1 := (y 0).isLt
    have h1 : (y 1).val < 128 := (y 1).isLt
    have h2 : (y 2).val < 128 := (y 2).isLt
    exact Or.inr ⟨by omega, by omega, by omega⟩

include hI hs in
theorem vstate : Reads (fun _ => True) (of3 (gvs a b (1024 * s))) (kernelRun0_A (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9).2.2.2.1 := by
  refine Reads.mono ((Reads.none _ []).box3 _ fun i j => (state_eq' _ i j).trans ((cov3 (z1_6 hI hs) _ _ i j).trans (congrArg₂ (zn a b) ?_ ?_))) fun y _ => ?_
  · show 1024 * s + 512 * 1 + (384 + j.val) = 1024 * s + 896 + (0 + j.val)
    omega
  · show _ + i.val = _ + (0 + i.val)
    omega
  · have h0 : (y 0).val < 1 := (y 0).isLt
    have h1 : (y 1).val < 128 := (y 1).isLt
    have h2 : (y 2).val < 128 := (y 2).isLt
    exact Or.inr ⟨by omega, by omega, by omega⟩

/-! ## What the next tile finds -/

include hI hx1 ht' in
theorem next_zt : Reads (fun y => (y 0).val = 0) (of3 (gz a b' t')) (kernelRun0_A (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9).2.2.2.2.1 := znext hI hx1 ht'

include hI hs in
theorem next_k : Reads (fun y => (y 0).val < 128) (of2 (gk a b (1024 * (s + 1)))) (kernelRun0_A (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9).2.2.2.2.2.1 := by
  refine Reads.mono ((Reads.none2 _ _).box2 _ fun i j => (copy_eq _ i j).trans ((cov2 (k2 hI hs) _ _ (fun y hy => by omega) i j).trans (congrArg₂ (kn a b) ?_ rfl))) fun y hy => ?_
  · show 1024 * s + (1024 + i.val) = 1024 * (s + 1) + (0 + i.val)
    omega
  · have h1 : (y 1).val < 128 := (y 1).isLt
    exact Or.inr ⟨by omega, by omega⟩

include hI hs in
theorem next_v : Reads (fun y => (y 1).val < 128) (of2 (gv a b (1024 * (s + 1)))) (kernelRun0_A (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9).2.2.2.2.2.2.1 := by
  refine Reads.mono ((Reads.none2 _ _).box2 _ fun i j => (copy_eq' _ i j).trans ((cov2 (v2 hI hs) _ _ (fun y hy => by omega) i j).trans (congrArg₂ (vn a b) ?_ rfl))) fun y hy => ?_
  · show 1024 * s + (1024 + j.val) = 1024 * (s + 1) + (0 + j.val)
    omega
  · have h1 : (y 0).val < 128 := (y 0).isLt
    exact Or.inr ⟨by omega, by omega⟩

include hI hs in
theorem next_u : Reads (fun _ => True) (of2 (gu a b (1024 * (s + 1)))) (kernelRun0_A (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9).2.2.2.2.2.2.2.1 := by
  refine Reads.mono ((Reads.none2 _ _).box2 _ fun i j => (last_eq _ i j).trans ?_) fun y _ => ?_
  · refine (tail_eq (a := a) (b := b) (T := 1024 * s + 512 * 1) rfl ?_ ?_ i j).trans (congrArg₂ (un a b) (by omega) rfl)
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h0 : (y 0).val < 384 := (y 0).isLt
    have h1 : (y 1).val < 128 := (y 1).isLt
    exact Or.inr ⟨by omega, by omega⟩

theorem next_bias : Reads (fun _ => True) (of3 biasn) (kernelRun0_A (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9).2.2.2.2.2.2.2.2.1 := bias_reads _ _ _ _ _ _

end Cert.CaseA

end
-- ==== Proof.CaseB.lean ====
/-
  What the kernel leaves at a tile that continues a sequence.
-/
module

public import proofs.«01_k».proof.Proof.Point
public import proofs.«01_k».proof.Proof.Gen.KernelIdeal.Frame.RunB

@[expose] public section

set_option maxRecDepth 16384

noncomputable section

namespace Cert.CaseB

open Idealize.ShloMosaic Idealize.ShloMosaic.TcCoe Cert.KernelIdeal Cert.KernelIdeal.Gen Cert.Soft Cert.Spec Cert.Load Cert.Swa Cert.Mem Cert.Conv
  Cert.Proj Cert.Blocks Cert.Point

variable {c : Dev nD} {i : grid0.Coords} {arg2 : Memref sig .tc .vmem S1x1024x1024 .f32} {harg2 : arg2.IsWhole} {arg3 : Memref sig .tc .vmem S1x512x1024 .f32} {harg3 : arg3.IsWhole} {arg4 : Memref sig .tc .vmem S1x1024 .f32} {harg4 : arg4.IsWhole} {arg5 : Memref sig .tc .vmem S1x1024 .f32} {harg5 : arg5.IsWhole} {arg6 : Memref sig .tc .vmem S3072x1024 .bf16} {harg6 : arg6.IsWhole} {arg7 : Memref sig .tc .vmem S384x3 .f32} {harg7 : arg7.IsWhole} {arg8 : Memref sig .tc .smem S6 .f32} {harg8 : arg8.IsWhole} {arg9 : Memref sig .tc .vmem S1x256x256 .bf16} {harg9 : arg9.IsWhole} {arg10 : Memref sig .tc .vmem S1x256x256 .bf16} {harg10 : arg10.IsWhole} {arg11 : Memref sig .tc .vmem S1024x1024 .bf16} {harg11 : arg11.IsWhole} {arg13 : Memref sig .tc .vmem S1x1024x1024 .f32} {harg13 : arg13.IsWhole} {arg14 : Memref sig .tc .vmem S1x2x384 .f32} {harg14 : arg14.IsWhole} {arg15 : Memref sig .tc .vmem S1x128x128 .f32} {harg15 : arg15.IsWhole} {arg16 : Memref sig .tc .vmem S1x128x128 .f32} {harg16 : arg16.IsWhole} {arg17 : Memref sig .tc .vmem S2x3072x512 .f32} {harg17 : arg17.IsWhole} {arg18 : Memref sig .tc .vmem S2x1024x512 .bf16} {harg18 : arg18.IsWhole} {arg19 : Memref sig .tc .vmem S1152x128 .bf16} {harg19 : arg19.IsWhole} {arg20 : Memref sig .tc .vmem S128x1152 .bf16} {harg20 : arg20.IsWhole} {arg21 : Memref sig .tc .vmem S384x128 .f32} {harg21 : arg21.IsWhole} {arg22 : Memref sig .tc .vmem S2x128x384 .f32} {harg22 : arg22.IsWhole}
  {hc0 : ¬cond0_0 i} {hc1 : ¬cond0_1 i} {hc2 : ¬cond0_2 i}
  {x0 : Vec Ideal S1x1024x1024 .f32} {x1 : Vec Ideal S1x512x1024 .f32} {x2 x3 : Vec Ideal S1x1024 .f32} {x4 : Vec Ideal S3072x1024 .bf16} {x5 : Vec Ideal S384x3 .f32} {x6 : Vec Ideal S6 .f32} {x7 x8 : Vec Ideal S1x256x256 .bf16} {x9 : Vec Ideal S1024x1024 .bf16} {xs0 : Vec Ideal S2x3072x512 .f32} {xs2 : Vec Ideal S1152x128 .bf16} {xs3 : Vec Ideal S128x1152 .bf16} {xs4 : Vec Ideal S384x128 .f32} {xs5 : Vec Ideal S2x128x384 .f32}
  {a : Args} {b b' : Fin 4} {s t' : ℕ} (hI : Inputs a b (1024 * s) x0 x2 x3 x4 x5 x6 x7 x8 x9)
  (hx1 : ∀ y, (y 0).val = 0 → x1 y = of3 (gx a b' t') y) (ha : Finite a) (ht' : t' + 512 ≤ 8192) (hi : (i 1).val = s)
  (hs0 : ∀ y, (y 0).val = 0 → xs0 y = of3 (gz a b (1024 * s)) y) (hs5 : ∀ y, xs5 y = of3 biasn y)
  (hs2 : ∀ y, (y 0).val < 128 → xs2 y = of2 (gk a b (1024 * s)) y) (hs3 : ∀ y, (y 1).val < 128 → xs3 y = of2 (gv a b (1024 * s)) y)
  (hs4 : ∀ y, xs4 y = of2 (gu a b (1024 * s)) y)
  (hs : s < 8)

/-! ## The projection -/

include hI hs in
theorem z1 : Reads (fun y => (y 0).val = 1) (of3 (gz a b (1024 * s))) (kernelRun0_B.sl.HS0_6 (F := Ideal) c arg2 harg2 arg4 harg4 arg6 harg6 x0 x2 x4) := by
  refine zt_six (a := a) (b := b) (T := 1024 * s + 512 * 1) (fun _ _ => rfl) (Reads.none _ _) (by omega) (norm_half (T' := 1024 * s) (p := 512) (by omega) (by omega) ?_ ?_) ?_ ?_ ?_ ?_ ?_ ?_ _ _ _ _ _ _
  · exact fun i j => at3 hI.x0 harg2 _ i j
  · exact fun i j => at2 hI.x2 harg4 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j

include hI hx1 ht' in
theorem znext : Reads (fun y => (y 0).val = 0) (of3 (gz a b' t')) (kernelRun0_B.sl.HS0_12 (F := Ideal) c arg2 harg2 arg3 harg3 arg4 harg4 arg6 harg6 x0 x1 x2 x4) := by
  refine zt_six (a := a) (b := b') (T := t' + 512 * 0) (fun _ _ => rfl) (Reads.none _ _) (by omega) (norm_half (T' := t') (p := 0) (by omega) (by omega) ?_ ?_) ?_ ?_ ?_ ?_ ?_ ?_ _ _ _ _ _ _
  · exact fun i j => at3 hx1 harg3 _ i j
  · exact fun i j => at2 hI.x2 harg4 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j

include hI hs in
theorem z1_1 : Reads (fun y => (y 0).val = 1) (of3 (gz a b (1024 * s))) (kernelRun0_B.sl.HS0_7 (F := Ideal) c arg2 harg2 arg3 harg3 arg4 harg4 arg6 harg6 x0 x1 x2 x4) := by
  refine Reads.skip (z1 hI hs) fun y hy => ?_
  exact not_mem3 (inb := inb_S2x3072x512_S1x512x512_0_0_0) hy (by decide)

include hI hs in
theorem z1_2 : Reads (fun y => (y 0).val = 1) (of3 (gz a b (1024 * s))) (kernelRun0_B.sl.HS0_8 (F := Ideal) c arg2 harg2 arg3 harg3 arg4 harg4 arg6 harg6 x0 x1 x2 x4) := by
  refine Reads.skip (z1_1 hI hs) fun y hy => ?_
  exact not_mem3 (inb := inb_S2x3072x512_S1x512x512_0_512_0) hy (by decide)

include hI hs in
theorem z1_3 : Reads (fun y => (y 0).val = 1) (of3 (gz a b (1024 * s))) (kernelRun0_B.sl.HS0_9 (F := Ideal) c arg2 harg2 arg3 harg3 arg4 harg4 arg6 harg6 x0 x1 x2 x4) := by
  refine Reads.skip (z1_2 hI hs) fun y hy => ?_
  exact not_mem3 (inb := inb_S2x3072x512_S1x512x512_0_1024_0) hy (by decide)

include hI hs in
theorem z1_4 : Reads (fun y => (y 0).val = 1) (of3 (gz a b (1024 * s))) (kernelRun0_B.sl.HS0_10 (F := Ideal) c arg2 harg2 arg3 harg3 arg4 harg4 arg6 harg6 x0 x1 x2 x4) := by
  refine Reads.skip (z1_3 hI hs) fun y hy => ?_
  exact not_mem3 (inb := inb_S2x3072x512_S1x512x512_0_1536_0) hy (by decide)

include hI hs in
theorem z1_5 : Reads (fun y => (y 0).val = 1) (of3 (gz a b (1024 * s))) (kernelRun0_B.sl.HS0_11 (F := Ideal) c arg2 harg2 arg3 harg3 arg4 harg4 arg6 harg6 x0 x1 x2 x4) := by
  refine Reads.skip (z1_4 hI hs) fun y hy => ?_
  exact not_mem3 (inb := inb_S2x3072x512_S1x512x512_0_2048_0) hy (by decide)

include hI hs in
theorem z1_6 : Reads (fun y => (y 0).val = 1) (of3 (gz a b (1024 * s))) (kernelRun0_B.sl.HS0_12 (F := Ideal) c arg2 harg2 arg3 harg3 arg4 harg4 arg6 harg6 x0 x1 x2 x4) := by
  refine Reads.skip (z1_5 hI hs) fun y hy => ?_
  exact not_mem3 (inb := inb_S2x3072x512_S1x512x512_0_2560_0) hy (by decide)

/-! ## Keys, values and the convolution's last inputs -/

include hs0 hs in
theorem k1 : Reads (fun y => 128 ≤ (y 0).val ∧ (y 0).val < 640) (of2 (gk a b (1024 * s))) (kernelRun0_B.sl.HS2_1 (F := Ideal) c arg17 harg17 xs0) := by
  refine Reads.mono ((Reads.none2 _ []).box2 _ (key_store (T := 1024 * s + 512 * 0) (by omega) ?_)) fun y hy => ?_
  · exact fun i j => zt_at hs0 harg17 _ _ _ _ _ _ i j
  · have h1 : (y 1).val < 128 := (y 1).isLt
    exact Or.inr ⟨by omega, by omega⟩

include hs0 hs in
theorem v1 : Reads (fun y => 128 ≤ (y 1).val ∧ (y 1).val < 640) (of2 (gv a b (1024 * s))) (kernelRun0_B.sl.HS3_1 (F := Ideal) c arg17 harg17 xs0) := by
  refine Reads.mono ((Reads.none2 _ []).box2 _ (val_store (T := 1024 * s + 512 * 0) (by omega) ?_)) fun y hy => ?_
  · exact fun i j => zt_at hs0 harg17 _ _ _ _ _ _ i j
  · have h1 : (y 0).val < 128 := (y 0).isLt
    exact Or.inr ⟨by omega, by omega⟩

include hI hs0 hs in
theorem k2 : Reads (fun y => 128 ≤ (y 0).val ∧ (y 0).val < 1152) (of2 (gk a b (1024 * s))) (kernelRun0_B.sl.HS2_2 (F := Ideal) c arg2 harg2 arg4 harg4 arg6 harg6 arg17 harg17 x0 x2 x4 xs0) := by
  refine Reads.mono ((k1 hs0 hs).box2 _ (key_store (T := 1024 * s + 512 * 1) (by omega) ?_)) fun y hy => ?_
  · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h1 : (y 1).val < 128 := (y 1).isLt
    by_cases c0 : (y 0).val < 640
    · exact Or.inl ⟨by omega, by omega⟩
    · exact Or.inr ⟨by omega, by omega⟩

include hI hs0 hs in
theorem v2 : Reads (fun y => 128 ≤ (y 1).val ∧ (y 1).val < 1152) (of2 (gv a b (1024 * s))) (kernelRun0_B.sl.HS3_2 (F := Ideal) c arg2 harg2 arg4 harg4 arg6 harg6 arg17 harg17 x0 x2 x4 xs0) := by
  refine Reads.mono ((v1 hs0 hs).box2 _ (val_store (T := 1024 * s + 512 * 1) (by omega) ?_)) fun y hy => ?_
  · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h1 : (y 0).val < 128 := (y 0).isLt
    by_cases c0 : (y 1).val < 640
    · exact Or.inl ⟨by omega, by omega⟩
    · exact Or.inr ⟨by omega, by omega⟩

theorem k1_skip : ∀ q ∈ (kernelRun0_B.sl.HS2_1 (F := Ideal) c arg17 harg17 xs0), ∀ y : S1152x128.Idx, ¬(128 ≤ (y 0).val ∧ (y 0).val < 640) → y ∉ q.1.set := by
  intro q hq y hn hm
  obtain rfl := List.mem_singleton.1 hq
  have h := (mem2 (R := 1152) (C := 128) (o := 128) (p := 0) (n := 512) (m := 128) (inb := inb_S1152x128_S512x128_128_0)).1 hm
  omega

theorem v1_skip : ∀ q ∈ (kernelRun0_B.sl.HS3_1 (F := Ideal) c arg17 harg17 xs0), ∀ y : S128x1152.Idx, ¬(128 ≤ (y 1).val ∧ (y 1).val < 640) → y ∉ q.1.set := by
  intro q hq y hn hm
  obtain rfl := List.mem_singleton.1 hq
  have h := (mem2 (R := 128) (C := 1152) (o := 0) (p := 128) (n := 128) (m := 512) (inb := inb_S128x1152_S128x512_0_128)).1 hm
  omega

/-! ## The mixers -/

include hI ha hi hs0 hs5 hs2 hs3 hs4 hs in
theorem y0 : Reads (fun y => (y 0).val = 0) (of3 (gy a b (1024 * s))) (kernelRun0_B.sl.HS1_29 (F := Ideal) c i arg7 harg7 arg8 harg8 arg9 harg9 arg10 harg10 arg17 harg17 arg19 harg19 arg20 harg20 arg21 harg21 arg22 harg22 x5 x6 x7 x8 xs0 xs2 xs3 xs4 xs5) := by
  refine Reads.mono (mem_reads (a := a) (b := b) (T := 1024 * s + 512 * 0) (fun _ _ => rfl) (swa_reads (a := a) (b := b) (T := 1024 * s + 512 * 0) (fun _ _ => rfl) (swa_reads (a := a) (b := b) (T := 1024 * s + 512 * 0) (fun _ _ => rfl) (swa_reads (a := a) (b := b) (T := 1024 * s + 512 * 0) (fun _ _ => rfl) (swa_reads (a := a) (b := b) (T := 1024 * s + 512 * 0) (fun _ _ => rfl) (conv_reads (a := a) (b := b) (T := 1024 * s + 512 * 0) (fun _ _ => rfl) (Reads.none _ _) (by omega) ?cp ?c1 ?c2 ?cw ?cc ?cz _) (p := 0) (n := ⟨8 * s + 0, by omega⟩) (by show _ = 128 * (8 * s + 0); omega) ?v00 ?v01 ?z00 ?z01 ?z02 ?z03 ?z04 ?z05 _ _ _ _ _ _) (p := 128) (n := ⟨8 * s + 1, by omega⟩) (by show _ = 128 * (8 * s + 1); omega) ?v10 ?v11 ?z10 ?z11 ?z12 ?z13 ?z14 ?z15 _ _ _ _ _ _) (p := 256) (n := ⟨8 * s + 2, by omega⟩) (by show _ = 128 * (8 * s + 2); omega) ?v20 ?v21 ?z20 ?z21 ?z22 ?z23 ?z24 ?z25 _ _ _ _ _ _) (p := 384) (n := ⟨8 * s + 3, by omega⟩) (by show _ = 128 * (8 * s + 3); omega) ?v30 ?v31 ?z30 ?z31 ?z32 ?z33 ?z34 ?z35 _ _ _ _ _ _) (by omega) ?m0 ?m1 ?m2 ?m3 ?mv0 ?mv1 ?mv2 ?mv3 ?mz0 ?mz1 ?mz2 ?mz3 _ _ _ _) ?cover
  case cp => exact fun i j => at2 hs4 harg21 _ i j
  case c1 => exact fun i j => zt_at hs0 harg17 _ _ _ _ _ _ i j
  case c2 => exact fun i j => zt_at hs0 harg17 _ _ _ _ _ _ i j
  case cc => exact fun i j => zt_at hs0 harg17 _ _ _ _ _ _ i j
  case cz => exact fun i j => zt_at hs0 harg17 _ _ _ _ _ _ i j
  case cw => exact fun i j => at2 hI.x5 harg7 _ i j
  case v00 =>
    refine group0_pen ha (T := 1024 * s + 512 * 0) (p := 0) (u := 1024 * s) (o := 0) (n := ⟨8 * s + 0, by omega⟩) (by show _ = 128 * (8 * s + 0); omega) (by show _ = 128 * (8 * s + 0); omega) ((pen_eq i).trans (if_congr (by show (i 1).val = 0 ↔ 8 * s + 0 = 0; omega) rfl rfl)) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => mix2 (k1 hs0 hs) harg19 _ (fun y hy hn => ⟨fun q hq => k1_skip q hq y hn, hs2 y (by omega)⟩) i j
    case hb => exact fun i j => at3 (fun y _ => hs5 y) harg22 _ i j
    case hs => exact fun c => sink0 (at1 hI.x6 harg8 _ _) (at1 hI.x6 harg8 _ _) (at1 hI.x6 harg8 _ _) c
    case hv => exact fun i j => mix2 (v1 hs0 hs) harg20 _ (fun y hy hn => ⟨fun q hq => v1_skip q hq y hn, hs3 y (by omega)⟩) i j
  case v01 =>
    refine group1_pen ha (T := 1024 * s + 512 * 0) (p := 0) (u := 1024 * s) (o := 0) (n := ⟨8 * s + 0, by omega⟩) (by show _ = 128 * (8 * s + 0); omega) (by show _ = 128 * (8 * s + 0); omega) ((pen_eq i).trans (if_congr (by show (i 1).val = 0 ↔ 8 * s + 0 = 0; omega) rfl rfl)) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => mix2 (k1 hs0 hs) harg19 _ (fun y hy hn => ⟨fun q hq => k1_skip q hq y hn, hs2 y (by omega)⟩) i j
    case hb => exact fun i j => at3 (fun y _ => hs5 y) harg22 _ i j
    case hs => exact fun c => sink1 (at1 hI.x6 harg8 _ _) (at1 hI.x6 harg8 _ _) (at1 hI.x6 harg8 _ _) c
    case hv => exact fun i j => mix2 (v1 hs0 hs) harg20 _ (fun y hy hn => ⟨fun q hq => v1_skip q hq y hn, hs3 y (by omega)⟩) i j
  case z00 => exact fun i j => zt_at hs0 harg17 _ _ _ _ _ _ i j
  case z01 => exact fun i j => zt_at hs0 harg17 _ _ _ _ _ _ i j
  case z02 => exact fun i j => zt_at hs0 harg17 _ _ _ _ _ _ i j
  case z03 => exact fun i j => zt_at hs0 harg17 _ _ _ _ _ _ i j
  case z04 => exact fun i j => zt_at hs0 harg17 _ _ _ _ _ _ i j
  case z05 => exact fun i j => zt_at hs0 harg17 _ _ _ _ _ _ i j
  case v10 =>
    refine group0 ha (T := 1024 * s + 512 * 0) (p := 128) (u := 1024 * s) (o := 128) (n := ⟨8 * s + 1, by omega⟩) (by show _ = 128 * (8 * s + 1); omega) (by show _ = 128 * (8 * s + 1); omega) (by show 0 < 8 * s + 1; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v1 hs0 hs) _ _ (fun y hy => by omega) i j
  case v11 =>
    refine group1 ha (T := 1024 * s + 512 * 0) (p := 128) (u := 1024 * s) (o := 128) (n := ⟨8 * s + 1, by omega⟩) (by show _ = 128 * (8 * s + 1); omega) (by show _ = 128 * (8 * s + 1); omega) (by show 0 < 8 * s + 1; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v1 hs0 hs) _ _ (fun y hy => by omega) i j
  case z10 => exact fun i j => zt_at hs0 harg17 _ _ _ _ _ _ i j
  case z11 => exact fun i j => zt_at hs0 harg17 _ _ _ _ _ _ i j
  case z12 => exact fun i j => zt_at hs0 harg17 _ _ _ _ _ _ i j
  case z13 => exact fun i j => zt_at hs0 harg17 _ _ _ _ _ _ i j
  case z14 => exact fun i j => zt_at hs0 harg17 _ _ _ _ _ _ i j
  case z15 => exact fun i j => zt_at hs0 harg17 _ _ _ _ _ _ i j
  case v20 =>
    refine group0 ha (T := 1024 * s + 512 * 0) (p := 256) (u := 1024 * s) (o := 256) (n := ⟨8 * s + 2, by omega⟩) (by show _ = 128 * (8 * s + 2); omega) (by show _ = 128 * (8 * s + 2); omega) (by show 0 < 8 * s + 2; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v1 hs0 hs) _ _ (fun y hy => by omega) i j
  case v21 =>
    refine group1 ha (T := 1024 * s + 512 * 0) (p := 256) (u := 1024 * s) (o := 256) (n := ⟨8 * s + 2, by omega⟩) (by show _ = 128 * (8 * s + 2); omega) (by show _ = 128 * (8 * s + 2); omega) (by show 0 < 8 * s + 2; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v1 hs0 hs) _ _ (fun y hy => by omega) i j
  case z20 => exact fun i j => zt_at hs0 harg17 _ _ _ _ _ _ i j
  case z21 => exact fun i j => zt_at hs0 harg17 _ _ _ _ _ _ i j
  case z22 => exact fun i j => zt_at hs0 harg17 _ _ _ _ _ _ i j
  case z23 => exact fun i j => zt_at hs0 harg17 _ _ _ _ _ _ i j
  case z24 => exact fun i j => zt_at hs0 harg17 _ _ _ _ _ _ i j
  case z25 => exact fun i j => zt_at hs0 harg17 _ _ _ _ _ _ i j
  case v30 =>
    refine group0 ha (T := 1024 * s + 512 * 0) (p := 384) (u := 1024 * s) (o := 384) (n := ⟨8 * s + 3, by omega⟩) (by show _ = 128 * (8 * s + 3); omega) (by show _ = 128 * (8 * s + 3); omega) (by show 0 < 8 * s + 3; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v1 hs0 hs) _ _ (fun y hy => by omega) i j
  case v31 =>
    refine group1 ha (T := 1024 * s + 512 * 0) (p := 384) (u := 1024 * s) (o := 384) (n := ⟨8 * s + 3, by omega⟩) (by show _ = 128 * (8 * s + 3); omega) (by show _ = 128 * (8 * s + 3); omega) (by show 0 < 8 * s + 3; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v1 hs0 hs) _ _ (fun y hy => by omega) i j
  case z30 => exact fun i j => zt_at hs0 harg17 _ _ _ _ _ _ i j
  case z31 => exact fun i j => zt_at hs0 harg17 _ _ _ _ _ _ i j
  case z32 => exact fun i j => zt_at hs0 harg17 _ _ _ _ _ _ i j
  case z33 => exact fun i j => zt_at hs0 harg17 _ _ _ _ _ _ i j
  case z34 => exact fun i j => zt_at hs0 harg17 _ _ _ _ _ _ i j
  case z35 => exact fun i j => zt_at hs0 harg17 _ _ _ _ _ _ i j
  case m0 =>
    refine mem0 ha (T := 1024 * s + 512 * 0) ?q ?k
    case q => exact fun i j => zt_at hs0 harg17 _ _ _ _ _ _ i j
    case k => exact fun i j => at3 hI.x7 harg9 _ i j
  case mv0 => exact fun i j => at3 hI.x8 harg10 _ i j
  case mz0 => exact fun i j => zt_at hs0 harg17 _ _ _ _ _ _ i j
  case m1 =>
    refine mem1 ha (T := 1024 * s + 512 * 0) ?q ?k
    case q => exact fun i j => zt_at hs0 harg17 _ _ _ _ _ _ i j
    case k => exact fun i j => at3 hI.x7 harg9 _ i j
  case mv1 => exact fun i j => at3 hI.x8 harg10 _ i j
  case mz1 => exact fun i j => zt_at hs0 harg17 _ _ _ _ _ _ i j
  case m2 =>
    refine mem2 ha (T := 1024 * s + 512 * 0) ?q ?k
    case q => exact fun i j => zt_at hs0 harg17 _ _ _ _ _ _ i j
    case k => exact fun i j => at3 hI.x7 harg9 _ i j
  case mv2 => exact fun i j => at3 hI.x8 harg10 _ i j
  case mz2 => exact fun i j => zt_at hs0 harg17 _ _ _ _ _ _ i j
  case m3 =>
    refine mem3 ha (T := 1024 * s + 512 * 0) ?q ?k
    case q => exact fun i j => zt_at hs0 harg17 _ _ _ _ _ _ i j
    case k => exact fun i j => at3 hI.x7 harg9 _ i j
  case mv3 => exact fun i j => at3 hI.x8 harg10 _ i j
  case mz3 => exact fun i j => zt_at hs0 harg17 _ _ _ _ _ _ i j
  case cover =>
    intro y hy
    exact half_cover hy

include hI ha hs0 hs5 hs in
theorem y1 : Reads (fun y => (y 0).val = 1) (of3 (gy a b (1024 * s))) (kernelRun0_B.sl.HS1_58 (F := Ideal) c i arg2 harg2 arg3 harg3 arg4 harg4 arg6 harg6 arg7 harg7 arg8 harg8 arg9 harg9 arg10 harg10 arg17 harg17 arg19 harg19 arg20 harg20 arg21 harg21 arg22 harg22 x0 x1 x2 x4 x5 x6 x7 x8 xs0 xs2 xs3 xs4 xs5) := by
  refine Reads.mono (mem_reads (a := a) (b := b) (T := 1024 * s + 512 * 1) (fun _ _ => rfl) (swa_reads (a := a) (b := b) (T := 1024 * s + 512 * 1) (fun _ _ => rfl) (swa_reads (a := a) (b := b) (T := 1024 * s + 512 * 1) (fun _ _ => rfl) (swa_reads (a := a) (b := b) (T := 1024 * s + 512 * 1) (fun _ _ => rfl) (swa_reads (a := a) (b := b) (T := 1024 * s + 512 * 1) (fun _ _ => rfl) (conv_reads (a := a) (b := b) (T := 1024 * s + 512 * 1) (fun _ _ => rfl) (Reads.none _ _) (by omega) ?cp ?c1 ?c2 ?cw ?cc ?cz _) (p := 0) (n := ⟨8 * s + 4, by omega⟩) (by show _ = 128 * (8 * s + 4); omega) ?v00 ?v01 ?z00 ?z01 ?z02 ?z03 ?z04 ?z05 _ _ _ _ _ _) (p := 128) (n := ⟨8 * s + 5, by omega⟩) (by show _ = 128 * (8 * s + 5); omega) ?v10 ?v11 ?z10 ?z11 ?z12 ?z13 ?z14 ?z15 _ _ _ _ _ _) (p := 256) (n := ⟨8 * s + 6, by omega⟩) (by show _ = 128 * (8 * s + 6); omega) ?v20 ?v21 ?z20 ?z21 ?z22 ?z23 ?z24 ?z25 _ _ _ _ _ _) (p := 384) (n := ⟨8 * s + 7, by omega⟩) (by show _ = 128 * (8 * s + 7); omega) ?v30 ?v31 ?z30 ?z31 ?z32 ?z33 ?z34 ?z35 _ _ _ _ _ _) (by omega) ?m0 ?m1 ?m2 ?m3 ?mv0 ?mv1 ?mv2 ?mv3 ?mz0 ?mz1 ?mz2 ?mz3 _ _ _ _) ?cover
  case cp =>
    refine tail_eq (a := a) (b := b) (T := 1024 * s + 512 * 0) (by omega) ?_ ?_
    · exact fun i j => zt_at hs0 harg17 _ _ _ _ _ _ i j
    · exact fun i j => zt_at hs0 harg17 _ _ _ _ _ _ i j
  case c1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case c2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cc => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cz => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cw => exact fun i j => at2 hI.x5 harg7 _ i j
  case v00 =>
    refine group0 ha (T := 1024 * s + 512 * 1) (p := 0) (u := 1024 * s) (o := 512) (n := ⟨8 * s + 4, by omega⟩) (by show _ = 128 * (8 * s + 4); omega) (by show _ = 128 * (8 * s + 4); omega) (by show 0 < 8 * s + 4; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v2 hI hs0 hs) _ _ (fun y hy => by omega) i j
  case v01 =>
    refine group1 ha (T := 1024 * s + 512 * 1) (p := 0) (u := 1024 * s) (o := 512) (n := ⟨8 * s + 4, by omega⟩) (by show _ = 128 * (8 * s + 4); omega) (by show _ = 128 * (8 * s + 4); omega) (by show 0 < 8 * s + 4; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v2 hI hs0 hs) _ _ (fun y hy => by omega) i j
  case z00 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z01 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z02 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z03 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z04 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z05 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case v10 =>
    refine group0 ha (T := 1024 * s + 512 * 1) (p := 128) (u := 1024 * s) (o := 640) (n := ⟨8 * s + 5, by omega⟩) (by show _ = 128 * (8 * s + 5); omega) (by show _ = 128 * (8 * s + 5); omega) (by show 0 < 8 * s + 5; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v2 hI hs0 hs) _ _ (fun y hy => by omega) i j
  case v11 =>
    refine group1 ha (T := 1024 * s + 512 * 1) (p := 128) (u := 1024 * s) (o := 640) (n := ⟨8 * s + 5, by omega⟩) (by show _ = 128 * (8 * s + 5); omega) (by show _ = 128 * (8 * s + 5); omega) (by show 0 < 8 * s + 5; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v2 hI hs0 hs) _ _ (fun y hy => by omega) i j
  case z10 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z11 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z12 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z13 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z14 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z15 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case v20 =>
    refine group0 ha (T := 1024 * s + 512 * 1) (p := 256) (u := 1024 * s) (o := 768) (n := ⟨8 * s + 6, by omega⟩) (by show _ = 128 * (8 * s + 6); omega) (by show _ = 128 * (8 * s + 6); omega) (by show 0 < 8 * s + 6; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v2 hI hs0 hs) _ _ (fun y hy => by omega) i j
  case v21 =>
    refine group1 ha (T := 1024 * s + 512 * 1) (p := 256) (u := 1024 * s) (o := 768) (n := ⟨8 * s + 6, by omega⟩) (by show _ = 128 * (8 * s + 6); omega) (by show _ = 128 * (8 * s + 6); omega) (by show 0 < 8 * s + 6; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v2 hI hs0 hs) _ _ (fun y hy => by omega) i j
  case z20 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z21 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z22 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z23 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z24 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z25 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case v30 =>
    refine group0 ha (T := 1024 * s + 512 * 1) (p := 384) (u := 1024 * s) (o := 896) (n := ⟨8 * s + 7, by omega⟩) (by show _ = 128 * (8 * s + 7); omega) (by show _ = 128 * (8 * s + 7); omega) (by show 0 < 8 * s + 7; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v2 hI hs0 hs) _ _ (fun y hy => by omega) i j
  case v31 =>
    refine group1 ha (T := 1024 * s + 512 * 1) (p := 384) (u := 1024 * s) (o := 896) (n := ⟨8 * s + 7, by omega⟩) (by show _ = 128 * (8 * s + 7); omega) (by show _ = 128 * (8 * s + 7); omega) (by show 0 < 8 * s + 7; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v2 hI hs0 hs) _ _ (fun y hy => by omega) i j
  case z30 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z31 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z32 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z33 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z34 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z35 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m0 =>
    refine mem0 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv0 => exact fun i j => at3 hI.x8 harg10 _ i j
  case mz0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m1 =>
    refine mem1 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv1 => exact fun i j => at3 hI.x8 harg10 _ i j
  case mz1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m2 =>
    refine mem2 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv2 => exact fun i j => at3 hI.x8 harg10 _ i j
  case mz2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m3 =>
    refine mem3 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv3 => exact fun i j => at3 hI.x8 harg10 _ i j
  case mz3 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cover =>
    intro y hy
    exact half_cover hy

/-! ## The outputs -/

include hI ha hi hs0 hs5 hs2 hs3 hs4 hs in
theorem out : Reads (fun _ => True) (of3 (gout a b (1024 * s))) (kernelRun0_B (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs2 xs3 xs4 xs5).1 := by
  refine Reads.mono (out_reads (a := a) (b := b) (T := 1024 * s + 512 * 1) (T0 := 1024 * s) (o := 512) (by omega) (by omega) (out_reads (a := a) (b := b) (T := 1024 * s + 512 * 0) (T0 := 1024 * s) (o := 0) (by omega) (by omega) (Reads.none _ []) (proj_half (T := 1024 * s + 512 * 0) (by omega) (fun i j => cov3 (y0 hI ha hi hs0 hs5 hs2 hs3 hs4 hs) _ _ i j) fun i j => at2 hI.x9 harg11 _ i j) (fun i j => at3 hI.x0 harg2 _ i j) (fun i j => at3 hI.x0 harg2 _ i j) (fun i j => at3 hI.x0 harg2 _ i j) (fun i j => at3 hI.x0 harg2 _ i j) (fun i j => at2 hI.x3 harg5 _ i j) (fun i j => at2 hI.x3 harg5 _ i j) (fun i j => at2 hI.x3 harg5 _ i j) (fun i j => at2 hI.x3 harg5 _ i j) _ _ _ _) (proj_half (T := 1024 * s + 512 * 1) (by omega) (fun i j => cov3 (y1 hI ha hs0 hs5 hs) _ _ i j) fun i j => at2 hI.x9 harg11 _ i j) (fun i j => at3 hI.x0 harg2 _ i j) (fun i j => at3 hI.x0 harg2 _ i j) (fun i j => at3 hI.x0 harg2 _ i j) (fun i j => at3 hI.x0 harg2 _ i j) (fun i j => at2 hI.x3 harg5 _ i j) (fun i j => at2 hI.x3 harg5 _ i j) (fun i j => at2 hI.x3 harg5 _ i j) (fun i j => at2 hI.x3 harg5 _ i j) _ _ _ _) fun y _ => ?_
  have h1 : (y 1).val < 1024 := (y 1).isLt
  by_cases c0 : (y 1).val < 512
  · exact Or.inl (Or.inr ⟨by omega, by omega⟩)
  · exact Or.inr ⟨by omega, by omega⟩

include hI hs in
theorem cstate : Reads (fun _ => True) (of3 (gcs a b (1024 * s))) (kernelRun0_B (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs2 xs3 xs4 xs5).2.1 := by
  refine Reads.mono ((Reads.none _ []).box3 _ fun i j => (cstate_eq _ i j).trans ?_) fun y _ => ?_
  · refine (tail_eq (a := a) (b := b) (T := 1024 * s + 512 * 1) rfl ?_ ?_ j _).trans (congrArg₂ (un a b) (by simp only; omega) rfl)
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h0 : (y 0).val < 1 := (y 0).isLt
    have h1 : (y 1).val < 2 := (y 1).isLt
    have h2 : (y 2).val < 384 := (y 2).isLt
    exact Or.inr ⟨by omega, by omega, by omega⟩

include hI hs in
theorem kstate : Reads (fun _ => True) (of3 (gks a b (1024 * s))) (kernelRun0_B (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs2 xs3 xs4 xs5).2.2.1 := by
  refine Reads.mono ((Reads.none _ []).box3 _ fun i j => (state_eq _ i j).trans ((cov3 (z1_6 hI hs) _ _ i j).trans (congrArg₂ (zn a b) ?_ ?_))) fun y _ => ?_
  · show 1024 * s + 512 * 1 + (384 + j.val) = 1024 * s + 896 + (0 + j.val)
    omega
  · show _ + i.val = _ + (0 + i.val)
    omega
  · have h0 : (y 0).val < 1 := (y 0).isLt
    have h1 : (y 1).val < 128 := (y 1).isLt
    have h2 : (y 2).val < 128 := (y 2).isLt
    exact Or.inr ⟨by omega, by omega, by omega⟩

include hI hs in
theorem vstate : Reads (fun _ => True) (of3 (gvs a b (1024 * s))) (kernelRun0_B (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs2 xs3 xs4 xs5).2.2.2.1 := by
  refine Reads.mono ((Reads.none _ []).box3 _ fun i j => (state_eq' _ i j).trans ((cov3 (z1_6 hI hs) _ _ i j).trans (congrArg₂ (zn a b) ?_ ?_))) fun y _ => ?_
  · show 1024 * s + 512 * 1 + (384 + j.val) = 1024 * s + 896 + (0 + j.val)
    omega
  · show _ + i.val = _ + (0 + i.val)
    omega
  · have h0 : (y 0).val < 1 := (y 0).isLt
    have h1 : (y 1).val < 128 := (y 1).isLt
    have h2 : (y 2).val < 128 := (y 2).isLt
    exact Or.inr ⟨by omega, by omega, by omega⟩

/-! ## What the next tile finds -/

include hI hx1 ht' in
theorem next_zt : Reads (fun y => (y 0).val = 0) (of3 (gz a b' t')) (kernelRun0_B (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs2 xs3 xs4 xs5).2.2.2.2.1 := znext hI hx1 ht'

include hI hs0 hs in
theorem next_k : Reads (fun y => (y 0).val < 128) (of2 (gk a b (1024 * (s + 1)))) (kernelRun0_B (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs2 xs3 xs4 xs5).2.2.2.2.2.1 := by
  refine Reads.mono ((Reads.none2 _ _).box2 _ fun i j => (copy_eq _ i j).trans ((cov2 (k2 hI hs0 hs) _ _ (fun y hy => by omega) i j).trans (congrArg₂ (kn a b) ?_ rfl))) fun y hy => ?_
  · show 1024 * s + (1024 + i.val) = 1024 * (s + 1) + (0 + i.val)
    omega
  · have h1 : (y 1).val < 128 := (y 1).isLt
    exact Or.inr ⟨by omega, by omega⟩

include hI hs0 hs in
theorem next_v : Reads (fun y => (y 1).val < 128) (of2 (gv a b (1024 * (s + 1)))) (kernelRun0_B (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs2 xs3 xs4 xs5).2.2.2.2.2.2.1 := by
  refine Reads.mono ((Reads.none2 _ _).box2 _ fun i j => (copy_eq' _ i j).trans ((cov2 (v2 hI hs0 hs) _ _ (fun y hy => by omega) i j).trans (congrArg₂ (vn a b) ?_ rfl))) fun y hy => ?_
  · show 1024 * s + (1024 + j.val) = 1024 * (s + 1) + (0 + j.val)
    omega
  · have h1 : (y 0).val < 128 := (y 0).isLt
    exact Or.inr ⟨by omega, by omega⟩

include hI hs in
theorem next_u : Reads (fun _ => True) (of2 (gu a b (1024 * (s + 1)))) (kernelRun0_B (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs2 xs3 xs4 xs5).2.2.2.2.2.2.2.1 := by
  refine Reads.mono ((Reads.none2 _ _).box2 _ fun i j => (last_eq _ i j).trans ?_) fun y _ => ?_
  · refine (tail_eq (a := a) (b := b) (T := 1024 * s + 512 * 1) rfl ?_ ?_ i j).trans (congrArg₂ (un a b) (by omega) rfl)
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h0 : (y 0).val < 384 := (y 0).isLt
    have h1 : (y 1).val < 128 := (y 1).isLt
    exact Or.inr ⟨by omega, by omega⟩

end Cert.CaseB

end
-- ==== Proof.CaseC.lean ====
/-
  What the kernel leaves at the first tile of a later sequence.
-/
module

public import proofs.«01_k».proof.Proof.Point
public import proofs.«01_k».proof.Proof.Gen.KernelIdeal.Frame.RunC

@[expose] public section

set_option maxRecDepth 16384

noncomputable section

namespace Cert.CaseC

open Idealize.ShloMosaic Idealize.ShloMosaic.TcCoe Cert.KernelIdeal Cert.KernelIdeal.Gen Cert.Soft Cert.Spec Cert.Load Cert.Swa Cert.Mem Cert.Conv
  Cert.Proj Cert.Blocks Cert.Point

variable {c : Dev nD} {i : grid0.Coords} {arg2 : Memref sig .tc .vmem S1x1024x1024 .f32} {harg2 : arg2.IsWhole} {arg3 : Memref sig .tc .vmem S1x512x1024 .f32} {harg3 : arg3.IsWhole} {arg4 : Memref sig .tc .vmem S1x1024 .f32} {harg4 : arg4.IsWhole} {arg5 : Memref sig .tc .vmem S1x1024 .f32} {harg5 : arg5.IsWhole} {arg6 : Memref sig .tc .vmem S3072x1024 .bf16} {harg6 : arg6.IsWhole} {arg7 : Memref sig .tc .vmem S384x3 .f32} {harg7 : arg7.IsWhole} {arg8 : Memref sig .tc .smem S6 .f32} {harg8 : arg8.IsWhole} {arg9 : Memref sig .tc .vmem S1x256x256 .bf16} {harg9 : arg9.IsWhole} {arg10 : Memref sig .tc .vmem S1x256x256 .bf16} {harg10 : arg10.IsWhole} {arg11 : Memref sig .tc .vmem S1024x1024 .bf16} {harg11 : arg11.IsWhole} {arg13 : Memref sig .tc .vmem S1x1024x1024 .f32} {harg13 : arg13.IsWhole} {arg14 : Memref sig .tc .vmem S1x2x384 .f32} {harg14 : arg14.IsWhole} {arg15 : Memref sig .tc .vmem S1x128x128 .f32} {harg15 : arg15.IsWhole} {arg16 : Memref sig .tc .vmem S1x128x128 .f32} {harg16 : arg16.IsWhole} {arg17 : Memref sig .tc .vmem S2x3072x512 .f32} {harg17 : arg17.IsWhole} {arg18 : Memref sig .tc .vmem S2x1024x512 .bf16} {harg18 : arg18.IsWhole} {arg19 : Memref sig .tc .vmem S1152x128 .bf16} {harg19 : arg19.IsWhole} {arg20 : Memref sig .tc .vmem S128x1152 .bf16} {harg20 : arg20.IsWhole} {arg21 : Memref sig .tc .vmem S384x128 .f32} {harg21 : arg21.IsWhole} {arg22 : Memref sig .tc .vmem S2x128x384 .f32} {harg22 : arg22.IsWhole}
  {hc0 : ¬cond0_0 i} {hc1 : cond0_1 i} {hc2 : ¬cond0_2 i}
  {x0 : Vec Ideal S1x1024x1024 .f32} {x1 : Vec Ideal S1x512x1024 .f32} {x2 x3 : Vec Ideal S1x1024 .f32} {x4 : Vec Ideal S3072x1024 .bf16} {x5 : Vec Ideal S384x3 .f32} {x6 : Vec Ideal S6 .f32} {x7 x8 : Vec Ideal S1x256x256 .bf16} {x9 : Vec Ideal S1024x1024 .bf16} {xs0 : Vec Ideal S2x3072x512 .f32} {xs5 : Vec Ideal S2x128x384 .f32}
  {a : Args} {b b' : Fin 4} {s t' : ℕ} (hI : Inputs a b (1024 * s) x0 x2 x3 x4 x5 x6 x7 x8 x9)
  (hx1 : ∀ y, (y 0).val = 0 → x1 y = of3 (gx a b' t') y) (ha : Finite a) (ht' : t' + 512 ≤ 8192) (hi : (i 1).val = s)
  (hs0 : ∀ y, (y 0).val = 0 → xs0 y = of3 (gz a b (1024 * s)) y) (hs5 : ∀ y, xs5 y = of3 biasn y)
  (hs : s = 0)

/-! ## The projection -/

include hI hs in
theorem z1 : Reads (fun y => (y 0).val = 1) (of3 (gz a b (1024 * s))) (kernelRun0_C.sl.HS0_6 (F := Ideal) c arg2 harg2 arg4 harg4 arg6 harg6 x0 x2 x4) := by
  refine zt_six (a := a) (b := b) (T := 1024 * s + 512 * 1) (fun _ _ => rfl) (Reads.none _ _) (by omega) (norm_half (T' := 1024 * s) (p := 512) (by omega) (by omega) ?_ ?_) ?_ ?_ ?_ ?_ ?_ ?_ _ _ _ _ _ _
  · exact fun i j => at3 hI.x0 harg2 _ i j
  · exact fun i j => at2 hI.x2 harg4 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j

include hI hx1 ht' in
theorem znext : Reads (fun y => (y 0).val = 0) (of3 (gz a b' t')) (kernelRun0_C.sl.HS0_12 (F := Ideal) c arg2 harg2 arg3 harg3 arg4 harg4 arg6 harg6 x0 x1 x2 x4) := by
  refine zt_six (a := a) (b := b') (T := t' + 512 * 0) (fun _ _ => rfl) (Reads.none _ _) (by omega) (norm_half (T' := t') (p := 0) (by omega) (by omega) ?_ ?_) ?_ ?_ ?_ ?_ ?_ ?_ _ _ _ _ _ _
  · exact fun i j => at3 hx1 harg3 _ i j
  · exact fun i j => at2 hI.x2 harg4 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j
  · exact fun i j => at2 hI.x4 harg6 _ i j

include hI hs in
theorem z1_1 : Reads (fun y => (y 0).val = 1) (of3 (gz a b (1024 * s))) (kernelRun0_C.sl.HS0_7 (F := Ideal) c arg2 harg2 arg3 harg3 arg4 harg4 arg6 harg6 x0 x1 x2 x4) := by
  refine Reads.skip (z1 hI hs) fun y hy => ?_
  exact not_mem3 (inb := inb_S2x3072x512_S1x512x512_0_0_0) hy (by decide)

include hI hs in
theorem z1_2 : Reads (fun y => (y 0).val = 1) (of3 (gz a b (1024 * s))) (kernelRun0_C.sl.HS0_8 (F := Ideal) c arg2 harg2 arg3 harg3 arg4 harg4 arg6 harg6 x0 x1 x2 x4) := by
  refine Reads.skip (z1_1 hI hs) fun y hy => ?_
  exact not_mem3 (inb := inb_S2x3072x512_S1x512x512_0_512_0) hy (by decide)

include hI hs in
theorem z1_3 : Reads (fun y => (y 0).val = 1) (of3 (gz a b (1024 * s))) (kernelRun0_C.sl.HS0_9 (F := Ideal) c arg2 harg2 arg3 harg3 arg4 harg4 arg6 harg6 x0 x1 x2 x4) := by
  refine Reads.skip (z1_2 hI hs) fun y hy => ?_
  exact not_mem3 (inb := inb_S2x3072x512_S1x512x512_0_1024_0) hy (by decide)

include hI hs in
theorem z1_4 : Reads (fun y => (y 0).val = 1) (of3 (gz a b (1024 * s))) (kernelRun0_C.sl.HS0_10 (F := Ideal) c arg2 harg2 arg3 harg3 arg4 harg4 arg6 harg6 x0 x1 x2 x4) := by
  refine Reads.skip (z1_3 hI hs) fun y hy => ?_
  exact not_mem3 (inb := inb_S2x3072x512_S1x512x512_0_1536_0) hy (by decide)

include hI hs in
theorem z1_5 : Reads (fun y => (y 0).val = 1) (of3 (gz a b (1024 * s))) (kernelRun0_C.sl.HS0_11 (F := Ideal) c arg2 harg2 arg3 harg3 arg4 harg4 arg6 harg6 x0 x1 x2 x4) := by
  refine Reads.skip (z1_4 hI hs) fun y hy => ?_
  exact not_mem3 (inb := inb_S2x3072x512_S1x512x512_0_2048_0) hy (by decide)

include hI hs in
theorem z1_6 : Reads (fun y => (y 0).val = 1) (of3 (gz a b (1024 * s))) (kernelRun0_C.sl.HS0_12 (F := Ideal) c arg2 harg2 arg3 harg3 arg4 harg4 arg6 harg6 x0 x1 x2 x4) := by
  refine Reads.skip (z1_5 hI hs) fun y hy => ?_
  exact not_mem3 (inb := inb_S2x3072x512_S1x512x512_0_2560_0) hy (by decide)

/-! ## Keys, values and the convolution's last inputs -/

include hs0 hs in
theorem k1 : Reads (fun y => 0 ≤ (y 0).val ∧ (y 0).val < 640) (of2 (gk a b (1024 * s))) (kernelRun0_C.sl.HS2_2 (F := Ideal) c arg17 harg17 xs0) := by
  refine Reads.mono (((Reads.none2 _ []).box2 _ (key_zero (by omega))).box2 _ (key_store (T := 1024 * s + 512 * 0) (by omega) ?_)) fun y hy => ?_
  · exact fun i j => zt_at hs0 harg17 _ _ _ _ _ _ i j
  · have h1 : (y 1).val < 128 := (y 1).isLt
    by_cases c0 : (y 0).val < 128
    · exact Or.inl (Or.inr ⟨by omega, by omega⟩)
    · exact Or.inr ⟨by omega, by omega⟩

include hs0 hs in
theorem v1 : Reads (fun y => 0 ≤ (y 1).val ∧ (y 1).val < 640) (of2 (gv a b (1024 * s))) (kernelRun0_C.sl.HS3_2 (F := Ideal) c arg17 harg17 xs0) := by
  refine Reads.mono (((Reads.none2 _ []).box2 _ (val_zero (by omega))).box2 _ (val_store (T := 1024 * s + 512 * 0) (by omega) ?_)) fun y hy => ?_
  · exact fun i j => zt_at hs0 harg17 _ _ _ _ _ _ i j
  · have h1 : (y 0).val < 128 := (y 0).isLt
    by_cases c0 : (y 1).val < 128
    · exact Or.inl (Or.inr ⟨by omega, by omega⟩)
    · exact Or.inr ⟨by omega, by omega⟩

include hI hs0 hs in
theorem k2 : Reads (fun y => 0 ≤ (y 0).val ∧ (y 0).val < 1152) (of2 (gk a b (1024 * s))) (kernelRun0_C.sl.HS2_3 (F := Ideal) c arg2 harg2 arg4 harg4 arg6 harg6 arg17 harg17 x0 x2 x4 xs0) := by
  refine Reads.mono ((k1 hs0 hs).box2 _ (key_store (T := 1024 * s + 512 * 1) (by omega) ?_)) fun y hy => ?_
  · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h1 : (y 1).val < 128 := (y 1).isLt
    by_cases c0 : (y 0).val < 640
    · exact Or.inl ⟨by omega, by omega⟩
    · exact Or.inr ⟨by omega, by omega⟩

include hI hs0 hs in
theorem v2 : Reads (fun y => 0 ≤ (y 1).val ∧ (y 1).val < 1152) (of2 (gv a b (1024 * s))) (kernelRun0_C.sl.HS3_3 (F := Ideal) c arg2 harg2 arg4 harg4 arg6 harg6 arg17 harg17 x0 x2 x4 xs0) := by
  refine Reads.mono ((v1 hs0 hs).box2 _ (val_store (T := 1024 * s + 512 * 1) (by omega) ?_)) fun y hy => ?_
  · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h1 : (y 0).val < 128 := (y 0).isLt
    by_cases c0 : (y 1).val < 640
    · exact Or.inl ⟨by omega, by omega⟩
    · exact Or.inr ⟨by omega, by omega⟩

include hs in
theorem u0 : Reads (fun _ => True) (of2 (gu a b (1024 * s))) (kernelRun0_C.sl.HS4_1 (F := Ideal) ) := by
  refine Reads.mono ((Reads.none2 _ []).box2 _ (conv_zero (by omega))) fun y _ => ?_
  have h0 : (y 0).val < 384 := (y 0).isLt
  have h1 : (y 1).val < 128 := (y 1).isLt
  exact Or.inr ⟨by omega, by omega⟩

/-! ## The mixers -/

include hI ha hi hs0 hs5 hs in
theorem y0 : Reads (fun y => (y 0).val = 0) (of3 (gy a b (1024 * s))) (kernelRun0_C.sl.HS1_29 (F := Ideal) c i arg7 harg7 arg8 harg8 arg9 harg9 arg10 harg10 arg17 harg17 arg19 arg20 arg21 arg22 harg22 x5 x6 x7 x8 xs0 xs5) := by
  refine Reads.mono (mem_reads (a := a) (b := b) (T := 1024 * s + 512 * 0) (fun _ _ => rfl) (swa_reads (a := a) (b := b) (T := 1024 * s + 512 * 0) (fun _ _ => rfl) (swa_reads (a := a) (b := b) (T := 1024 * s + 512 * 0) (fun _ _ => rfl) (swa_reads (a := a) (b := b) (T := 1024 * s + 512 * 0) (fun _ _ => rfl) (swa_reads (a := a) (b := b) (T := 1024 * s + 512 * 0) (fun _ _ => rfl) (conv_reads (a := a) (b := b) (T := 1024 * s + 512 * 0) (fun _ _ => rfl) (Reads.none _ _) (by omega) ?cp ?c1 ?c2 ?cw ?cc ?cz _) (p := 0) (n := ⟨8 * s + 0, by omega⟩) (by show _ = 128 * (8 * s + 0); omega) ?v00 ?v01 ?z00 ?z01 ?z02 ?z03 ?z04 ?z05 _ _ _ _ _ _) (p := 128) (n := ⟨8 * s + 1, by omega⟩) (by show _ = 128 * (8 * s + 1); omega) ?v10 ?v11 ?z10 ?z11 ?z12 ?z13 ?z14 ?z15 _ _ _ _ _ _) (p := 256) (n := ⟨8 * s + 2, by omega⟩) (by show _ = 128 * (8 * s + 2); omega) ?v20 ?v21 ?z20 ?z21 ?z22 ?z23 ?z24 ?z25 _ _ _ _ _ _) (p := 384) (n := ⟨8 * s + 3, by omega⟩) (by show _ = 128 * (8 * s + 3); omega) ?v30 ?v31 ?z30 ?z31 ?z32 ?z33 ?z34 ?z35 _ _ _ _ _ _) (by omega) ?m0 ?m1 ?m2 ?m3 ?mv0 ?mv1 ?mv2 ?mv3 ?mz0 ?mz1 ?mz2 ?mz3 _ _ _ _) ?cover
  case cp => exact fun i j => cov2 (u0 hs) _ _ (fun _ _ => trivial) i j
  case c1 => exact fun i j => zt_at hs0 harg17 _ _ _ _ _ _ i j
  case c2 => exact fun i j => zt_at hs0 harg17 _ _ _ _ _ _ i j
  case cc => exact fun i j => zt_at hs0 harg17 _ _ _ _ _ _ i j
  case cz => exact fun i j => zt_at hs0 harg17 _ _ _ _ _ _ i j
  case cw => exact fun i j => at2 hI.x5 harg7 _ i j
  case v00 =>
    refine group0_pen ha (T := 1024 * s + 512 * 0) (p := 0) (u := 1024 * s) (o := 0) (n := ⟨8 * s + 0, by omega⟩) (by show _ = 128 * (8 * s + 0); omega) (by show _ = 128 * (8 * s + 0); omega) ((pen_eq i).trans (if_congr (by show (i 1).val = 0 ↔ 8 * s + 0 = 0; omega) rfl rfl)) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v1 hs0 hs) _ _ (fun y hy => by omega) i j
  case v01 =>
    refine group1_pen ha (T := 1024 * s + 512 * 0) (p := 0) (u := 1024 * s) (o := 0) (n := ⟨8 * s + 0, by omega⟩) (by show _ = 128 * (8 * s + 0); omega) (by show _ = 128 * (8 * s + 0); omega) ((pen_eq i).trans (if_congr (by show (i 1).val = 0 ↔ 8 * s + 0 = 0; omega) rfl rfl)) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v1 hs0 hs) _ _ (fun y hy => by omega) i j
  case z00 => exact fun i j => zt_at hs0 harg17 _ _ _ _ _ _ i j
  case z01 => exact fun i j => zt_at hs0 harg17 _ _ _ _ _ _ i j
  case z02 => exact fun i j => zt_at hs0 harg17 _ _ _ _ _ _ i j
  case z03 => exact fun i j => zt_at hs0 harg17 _ _ _ _ _ _ i j
  case z04 => exact fun i j => zt_at hs0 harg17 _ _ _ _ _ _ i j
  case z05 => exact fun i j => zt_at hs0 harg17 _ _ _ _ _ _ i j
  case v10 =>
    refine group0 ha (T := 1024 * s + 512 * 0) (p := 128) (u := 1024 * s) (o := 128) (n := ⟨8 * s + 1, by omega⟩) (by show _ = 128 * (8 * s + 1); omega) (by show _ = 128 * (8 * s + 1); omega) (by show 0 < 8 * s + 1; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v1 hs0 hs) _ _ (fun y hy => by omega) i j
  case v11 =>
    refine group1 ha (T := 1024 * s + 512 * 0) (p := 128) (u := 1024 * s) (o := 128) (n := ⟨8 * s + 1, by omega⟩) (by show _ = 128 * (8 * s + 1); omega) (by show _ = 128 * (8 * s + 1); omega) (by show 0 < 8 * s + 1; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v1 hs0 hs) _ _ (fun y hy => by omega) i j
  case z10 => exact fun i j => zt_at hs0 harg17 _ _ _ _ _ _ i j
  case z11 => exact fun i j => zt_at hs0 harg17 _ _ _ _ _ _ i j
  case z12 => exact fun i j => zt_at hs0 harg17 _ _ _ _ _ _ i j
  case z13 => exact fun i j => zt_at hs0 harg17 _ _ _ _ _ _ i j
  case z14 => exact fun i j => zt_at hs0 harg17 _ _ _ _ _ _ i j
  case z15 => exact fun i j => zt_at hs0 harg17 _ _ _ _ _ _ i j
  case v20 =>
    refine group0 ha (T := 1024 * s + 512 * 0) (p := 256) (u := 1024 * s) (o := 256) (n := ⟨8 * s + 2, by omega⟩) (by show _ = 128 * (8 * s + 2); omega) (by show _ = 128 * (8 * s + 2); omega) (by show 0 < 8 * s + 2; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v1 hs0 hs) _ _ (fun y hy => by omega) i j
  case v21 =>
    refine group1 ha (T := 1024 * s + 512 * 0) (p := 256) (u := 1024 * s) (o := 256) (n := ⟨8 * s + 2, by omega⟩) (by show _ = 128 * (8 * s + 2); omega) (by show _ = 128 * (8 * s + 2); omega) (by show 0 < 8 * s + 2; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v1 hs0 hs) _ _ (fun y hy => by omega) i j
  case z20 => exact fun i j => zt_at hs0 harg17 _ _ _ _ _ _ i j
  case z21 => exact fun i j => zt_at hs0 harg17 _ _ _ _ _ _ i j
  case z22 => exact fun i j => zt_at hs0 harg17 _ _ _ _ _ _ i j
  case z23 => exact fun i j => zt_at hs0 harg17 _ _ _ _ _ _ i j
  case z24 => exact fun i j => zt_at hs0 harg17 _ _ _ _ _ _ i j
  case z25 => exact fun i j => zt_at hs0 harg17 _ _ _ _ _ _ i j
  case v30 =>
    refine group0 ha (T := 1024 * s + 512 * 0) (p := 384) (u := 1024 * s) (o := 384) (n := ⟨8 * s + 3, by omega⟩) (by show _ = 128 * (8 * s + 3); omega) (by show _ = 128 * (8 * s + 3); omega) (by show 0 < 8 * s + 3; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v1 hs0 hs) _ _ (fun y hy => by omega) i j
  case v31 =>
    refine group1 ha (T := 1024 * s + 512 * 0) (p := 384) (u := 1024 * s) (o := 384) (n := ⟨8 * s + 3, by omega⟩) (by show _ = 128 * (8 * s + 3); omega) (by show _ = 128 * (8 * s + 3); omega) (by show 0 < 8 * s + 3; omega) ?h0 ?h1 ?h2 ?hk ?hb ?hs ?hv
    case h0 => exact fun i j => zt_at hs0 harg17 _ _ _ _ _ _ i j
    case h1 => exact fun i j => zt_at hs0 harg17 _ _ _ _ _ _ i j
    case h2 => exact fun i j => zt_at hs0 harg17 _ _ _ _ _ _ i j
    case hk => exact fun i j => cov2 (k1 hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v1 hs0 hs) _ _ (fun y hy => by omega) i j
  case z30 => exact fun i j => zt_at hs0 harg17 _ _ _ _ _ _ i j
  case z31 => exact fun i j => zt_at hs0 harg17 _ _ _ _ _ _ i j
  case z32 => exact fun i j => zt_at hs0 harg17 _ _ _ _ _ _ i j
  case z33 => exact fun i j => zt_at hs0 harg17 _ _ _ _ _ _ i j
  case z34 => exact fun i j => zt_at hs0 harg17 _ _ _ _ _ _ i j
  case z35 => exact fun i j => zt_at hs0 harg17 _ _ _ _ _ _ i j
  case m0 =>
    refine mem0 ha (T := 1024 * s + 512 * 0) ?q ?k
    case q => exact fun i j => zt_at hs0 harg17 _ _ _ _ _ _ i j
    case k => exact fun i j => at3 hI.x7 harg9 _ i j
  case mv0 => exact fun i j => at3 hI.x8 harg10 _ i j
  case mz0 => exact fun i j => zt_at hs0 harg17 _ _ _ _ _ _ i j
  case m1 =>
    refine mem1 ha (T := 1024 * s + 512 * 0) ?q ?k
    case q => exact fun i j => zt_at hs0 harg17 _ _ _ _ _ _ i j
    case k => exact fun i j => at3 hI.x7 harg9 _ i j
  case mv1 => exact fun i j => at3 hI.x8 harg10 _ i j
  case mz1 => exact fun i j => zt_at hs0 harg17 _ _ _ _ _ _ i j
  case m2 =>
    refine mem2 ha (T := 1024 * s + 512 * 0) ?q ?k
    case q => exact fun i j => zt_at hs0 harg17 _ _ _ _ _ _ i j
    case k => exact fun i j => at3 hI.x7 harg9 _ i j
  case mv2 => exact fun i j => at3 hI.x8 harg10 _ i j
  case mz2 => exact fun i j => zt_at hs0 harg17 _ _ _ _ _ _ i j
  case m3 =>
    refine mem3 ha (T := 1024 * s + 512 * 0) ?q ?k
    case q => exact fun i j => zt_at hs0 harg17 _ _ _ _ _ _ i j
    case k => exact fun i j => at3 hI.x7 harg9 _ i j
  case mv3 => exact fun i j => at3 hI.x8 harg10 _ i j
  case mz3 => exact fun i j => zt_at hs0 harg17 _ _ _ _ _ _ i j
  case cover =>
    intro y hy
    exact half_cover hy

include hI ha hs0 hs5 hs in
theorem y1 : Reads (fun y => (y 0).val = 1) (of3 (gy a b (1024 * s))) (kernelRun0_C.sl.HS1_58 (F := Ideal) c i arg2 harg2 arg3 harg3 arg4 harg4 arg6 harg6 arg7 harg7 arg8 harg8 arg9 harg9 arg10 harg10 arg17 harg17 arg19 arg20 arg21 arg22 harg22 x0 x1 x2 x4 x5 x6 x7 x8 xs0 xs5) := by
  refine Reads.mono (mem_reads (a := a) (b := b) (T := 1024 * s + 512 * 1) (fun _ _ => rfl) (swa_reads (a := a) (b := b) (T := 1024 * s + 512 * 1) (fun _ _ => rfl) (swa_reads (a := a) (b := b) (T := 1024 * s + 512 * 1) (fun _ _ => rfl) (swa_reads (a := a) (b := b) (T := 1024 * s + 512 * 1) (fun _ _ => rfl) (swa_reads (a := a) (b := b) (T := 1024 * s + 512 * 1) (fun _ _ => rfl) (conv_reads (a := a) (b := b) (T := 1024 * s + 512 * 1) (fun _ _ => rfl) (Reads.none _ _) (by omega) ?cp ?c1 ?c2 ?cw ?cc ?cz _) (p := 0) (n := ⟨8 * s + 4, by omega⟩) (by show _ = 128 * (8 * s + 4); omega) ?v00 ?v01 ?z00 ?z01 ?z02 ?z03 ?z04 ?z05 _ _ _ _ _ _) (p := 128) (n := ⟨8 * s + 5, by omega⟩) (by show _ = 128 * (8 * s + 5); omega) ?v10 ?v11 ?z10 ?z11 ?z12 ?z13 ?z14 ?z15 _ _ _ _ _ _) (p := 256) (n := ⟨8 * s + 6, by omega⟩) (by show _ = 128 * (8 * s + 6); omega) ?v20 ?v21 ?z20 ?z21 ?z22 ?z23 ?z24 ?z25 _ _ _ _ _ _) (p := 384) (n := ⟨8 * s + 7, by omega⟩) (by show _ = 128 * (8 * s + 7); omega) ?v30 ?v31 ?z30 ?z31 ?z32 ?z33 ?z34 ?z35 _ _ _ _ _ _) (by omega) ?m0 ?m1 ?m2 ?m3 ?mv0 ?mv1 ?mv2 ?mv3 ?mz0 ?mz1 ?mz2 ?mz3 _ _ _ _) ?cover
  case cp =>
    refine tail_eq (a := a) (b := b) (T := 1024 * s + 512 * 0) (by omega) ?_ ?_
    · exact fun i j => zt_at hs0 harg17 _ _ _ _ _ _ i j
    · exact fun i j => zt_at hs0 harg17 _ _ _ _ _ _ i j
  case c1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case c2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cc => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cz => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cw => exact fun i j => at2 hI.x5 harg7 _ i j
  case v00 =>
    refine group0 ha (T := 1024 * s + 512 * 1) (p := 0) (u := 1024 * s) (o := 512) (n := ⟨8 * s + 4, by omega⟩) (by show _ = 128 * (8 * s + 4); omega) (by show _ = 128 * (8 * s + 4); omega) (by show 0 < 8 * s + 4; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v2 hI hs0 hs) _ _ (fun y hy => by omega) i j
  case v01 =>
    refine group1 ha (T := 1024 * s + 512 * 1) (p := 0) (u := 1024 * s) (o := 512) (n := ⟨8 * s + 4, by omega⟩) (by show _ = 128 * (8 * s + 4); omega) (by show _ = 128 * (8 * s + 4); omega) (by show 0 < 8 * s + 4; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v2 hI hs0 hs) _ _ (fun y hy => by omega) i j
  case z00 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z01 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z02 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z03 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z04 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z05 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case v10 =>
    refine group0 ha (T := 1024 * s + 512 * 1) (p := 128) (u := 1024 * s) (o := 640) (n := ⟨8 * s + 5, by omega⟩) (by show _ = 128 * (8 * s + 5); omega) (by show _ = 128 * (8 * s + 5); omega) (by show 0 < 8 * s + 5; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v2 hI hs0 hs) _ _ (fun y hy => by omega) i j
  case v11 =>
    refine group1 ha (T := 1024 * s + 512 * 1) (p := 128) (u := 1024 * s) (o := 640) (n := ⟨8 * s + 5, by omega⟩) (by show _ = 128 * (8 * s + 5); omega) (by show _ = 128 * (8 * s + 5); omega) (by show 0 < 8 * s + 5; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v2 hI hs0 hs) _ _ (fun y hy => by omega) i j
  case z10 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z11 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z12 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z13 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z14 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z15 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case v20 =>
    refine group0 ha (T := 1024 * s + 512 * 1) (p := 256) (u := 1024 * s) (o := 768) (n := ⟨8 * s + 6, by omega⟩) (by show _ = 128 * (8 * s + 6); omega) (by show _ = 128 * (8 * s + 6); omega) (by show 0 < 8 * s + 6; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v2 hI hs0 hs) _ _ (fun y hy => by omega) i j
  case v21 =>
    refine group1 ha (T := 1024 * s + 512 * 1) (p := 256) (u := 1024 * s) (o := 768) (n := ⟨8 * s + 6, by omega⟩) (by show _ = 128 * (8 * s + 6); omega) (by show _ = 128 * (8 * s + 6); omega) (by show 0 < 8 * s + 6; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v2 hI hs0 hs) _ _ (fun y hy => by omega) i j
  case z20 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z21 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z22 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z23 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z24 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z25 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case v30 =>
    refine group0 ha (T := 1024 * s + 512 * 1) (p := 384) (u := 1024 * s) (o := 896) (n := ⟨8 * s + 7, by omega⟩) (by show _ = 128 * (8 * s + 7); omega) (by show _ = 128 * (8 * s + 7); omega) (by show 0 < 8 * s + 7; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink0 (at1 hI.x6 harg8 _ _) (at1 hI.x6 harg8 _ _) (at1 hI.x6 harg8 _ _) c
    case hv => exact fun i j => cov2 (v2 hI hs0 hs) _ _ (fun y hy => by omega) i j
  case v31 =>
    refine group1 ha (T := 1024 * s + 512 * 1) (p := 384) (u := 1024 * s) (o := 896) (n := ⟨8 * s + 7, by omega⟩) (by show _ = 128 * (8 * s + 7); omega) (by show _ = 128 * (8 * s + 7); omega) (by show 0 < 8 * s + 7; omega) ?h0 ?h1 ?h2 ?hk ?hb ?hs ?hv
    case h0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case h2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case hk => exact fun i j => cov2 (k2 hI hs0 hs) _ _ (fun y hy => by omega) i j
    case hb => exact fun i j => at3 (fun y _ => hs5 y) harg22 _ i j
    case hs => exact fun c => sink1 (at1 hI.x6 harg8 _ _) (at1 hI.x6 harg8 _ _) (at1 hI.x6 harg8 _ _) c
    case hv => exact fun i j => cov2 (v2 hI hs0 hs) _ _ (fun y hy => by omega) i j
  case z30 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z31 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z32 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z33 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z34 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case z35 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m0 =>
    refine mem0 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv0 => exact fun i j => at3 hI.x8 harg10 _ i j
  case mz0 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m1 =>
    refine mem1 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv1 => exact fun i j => at3 hI.x8 harg10 _ i j
  case mz1 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m2 =>
    refine mem2 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv2 => exact fun i j => at3 hI.x8 harg10 _ i j
  case mz2 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case m3 =>
    refine mem3 ha (T := 1024 * s + 512 * 1) ?q ?k
    case q => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    case k => exact fun i j => at3 hI.x7 harg9 _ i j
  case mv3 => exact fun i j => at3 hI.x8 harg10 _ i j
  case mz3 => exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  case cover =>
    intro y hy
    exact half_cover hy

/-! ## The outputs -/

include hI ha hi hs0 hs5 hs in
theorem out : Reads (fun _ => True) (of3 (gout a b (1024 * s))) (kernelRun0_C (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs5).1 := by
  refine Reads.mono (out_reads (a := a) (b := b) (T := 1024 * s + 512 * 1) (T0 := 1024 * s) (o := 512) (by omega) (by omega) (out_reads (a := a) (b := b) (T := 1024 * s + 512 * 0) (T0 := 1024 * s) (o := 0) (by omega) (by omega) (Reads.none _ []) (proj_half (T := 1024 * s + 512 * 0) (by omega) (fun i j => cov3 (y0 hI ha hi hs0 hs5 hs) _ _ i j) fun i j => at2 hI.x9 harg11 _ i j) (fun i j => at3 hI.x0 harg2 _ i j) (fun i j => at3 hI.x0 harg2 _ i j) (fun i j => at3 hI.x0 harg2 _ i j) (fun i j => at3 hI.x0 harg2 _ i j) (fun i j => at2 hI.x3 harg5 _ i j) (fun i j => at2 hI.x3 harg5 _ i j) (fun i j => at2 hI.x3 harg5 _ i j) (fun i j => at2 hI.x3 harg5 _ i j) _ _ _ _) (proj_half (T := 1024 * s + 512 * 1) (by omega) (fun i j => cov3 (y1 hI ha hs0 hs5 hs) _ _ i j) fun i j => at2 hI.x9 harg11 _ i j) (fun i j => at3 hI.x0 harg2 _ i j) (fun i j => at3 hI.x0 harg2 _ i j) (fun i j => at3 hI.x0 harg2 _ i j) (fun i j => at3 hI.x0 harg2 _ i j) (fun i j => at2 hI.x3 harg5 _ i j) (fun i j => at2 hI.x3 harg5 _ i j) (fun i j => at2 hI.x3 harg5 _ i j) (fun i j => at2 hI.x3 harg5 _ i j) _ _ _ _) fun y _ => ?_
  have h1 : (y 1).val < 1024 := (y 1).isLt
  by_cases c0 : (y 1).val < 512
  · exact Or.inl (Or.inr ⟨by omega, by omega⟩)
  · exact Or.inr ⟨by omega, by omega⟩

include hI hs in
theorem cstate : Reads (fun _ => True) (of3 (gcs a b (1024 * s))) (kernelRun0_C (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs5).2.1 := by
  refine Reads.mono ((Reads.none _ []).box3 _ fun i j => (cstate_eq _ i j).trans ?_) fun y _ => ?_
  · refine (tail_eq (a := a) (b := b) (T := 1024 * s + 512 * 1) rfl ?_ ?_ j _).trans (congrArg₂ (un a b) (by simp only; omega) rfl)
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h0 : (y 0).val < 1 := (y 0).isLt
    have h1 : (y 1).val < 2 := (y 1).isLt
    have h2 : (y 2).val < 384 := (y 2).isLt
    exact Or.inr ⟨by omega, by omega, by omega⟩

include hI hs in
theorem kstate : Reads (fun _ => True) (of3 (gks a b (1024 * s))) (kernelRun0_C (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs5).2.2.1 := by
  refine Reads.mono ((Reads.none _ []).box3 _ fun i j => (state_eq _ i j).trans ((cov3 (z1_6 hI hs) _ _ i j).trans (congrArg₂ (zn a b) ?_ ?_))) fun y _ => ?_
  · show 1024 * s + 512 * 1 + (384 + j.val) = 1024 * s + 896 + (0 + j.val)
    omega
  · show _ + i.val = _ + (0 + i.val)
    omega
  · have h0 : (y 0).val < 1 := (y 0).isLt
    have h1 : (y 1).val < 128 := (y 1).isLt
    have h2 : (y 2).val < 128 := (y 2).isLt
    exact Or.inr ⟨by omega, by omega, by omega⟩

include hI hs in
theorem vstate : Reads (fun _ => True) (of3 (gvs a b (1024 * s))) (kernelRun0_C (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs5).2.2.2.1 := by
  refine Reads.mono ((Reads.none _ []).box3 _ fun i j => (state_eq' _ i j).trans ((cov3 (z1_6 hI hs) _ _ i j).trans (congrArg₂ (zn a b) ?_ ?_))) fun y _ => ?_
  · show 1024 * s + 512 * 1 + (384 + j.val) = 1024 * s + 896 + (0 + j.val)
    omega
  · show _ + i.val = _ + (0 + i.val)
    omega
  · have h0 : (y 0).val < 1 := (y 0).isLt
    have h1 : (y 1).val < 128 := (y 1).isLt
    have h2 : (y 2).val < 128 := (y 2).isLt
    exact Or.inr ⟨by omega, by omega, by omega⟩

/-! ## What the next tile finds -/

include hI hx1 ht' in
theorem next_zt : Reads (fun y => (y 0).val = 0) (of3 (gz a b' t')) (kernelRun0_C (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs5).2.2.2.2.1 := znext hI hx1 ht'

include hI hs0 hs in
theorem next_k : Reads (fun y => (y 0).val < 128) (of2 (gk a b (1024 * (s + 1)))) (kernelRun0_C (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs5).2.2.2.2.2.1 := by
  refine Reads.mono ((Reads.none2 _ _).box2 _ fun i j => (copy_eq _ i j).trans ((cov2 (k2 hI hs0 hs) _ _ (fun y hy => by omega) i j).trans (congrArg₂ (kn a b) ?_ rfl))) fun y hy => ?_
  · show 1024 * s + (1024 + i.val) = 1024 * (s + 1) + (0 + i.val)
    omega
  · have h1 : (y 1).val < 128 := (y 1).isLt
    exact Or.inr ⟨by omega, by omega⟩

include hI hs0 hs in
theorem next_v : Reads (fun y => (y 1).val < 128) (of2 (gv a b (1024 * (s + 1)))) (kernelRun0_C (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs5).2.2.2.2.2.2.1 := by
  refine Reads.mono ((Reads.none2 _ _).box2 _ fun i j => (copy_eq' _ i j).trans ((cov2 (v2 hI hs0 hs) _ _ (fun y hy => by omega) i j).trans (congrArg₂ (vn a b) ?_ rfl))) fun y hy => ?_
  · show 1024 * s + (1024 + j.val) = 1024 * (s + 1) + (0 + j.val)
    omega
  · have h1 : (y 0).val < 128 := (y 0).isLt
    exact Or.inr ⟨by omega, by omega⟩

include hI hs in
theorem next_u : Reads (fun _ => True) (of2 (gu a b (1024 * (s + 1)))) (kernelRun0_C (F := Ideal) c i arg2 harg2 arg3 harg3 arg4 harg4 arg5 harg5 arg6 harg6 arg7 harg7 arg8 harg8 arg9 harg9 arg10 harg10 arg11 harg11 arg13 harg13 arg14 harg14 arg15 harg15 arg16 harg16 arg17 harg17 arg18 harg18 arg19 harg19 arg20 harg20 arg21 harg21 arg22 harg22 hc0 hc1 hc2 x0 x1 x2 x3 x4 x5 x6 x7 x8 x9 xs0 xs5).2.2.2.2.2.2.2.1 := by
  refine Reads.mono ((Reads.none2 _ _).box2 _ fun i j => (last_eq _ i j).trans ?_) fun y _ => ?_
  · refine (tail_eq (a := a) (b := b) (T := 1024 * s + 512 * 1) rfl ?_ ?_ i j).trans (congrArg₂ (un a b) (by omega) rfl)
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
    · exact fun i j => zt_cov (Val := Elt Ideal) (e := .f32) (g := gz a b (1024 * s)) (by with_reducible first | exact z1 hI hs | exact z1_1 hI hs | exact z1_2 hI hs | exact z1_3 hI hs | exact z1_4 hI hs | exact z1_5 hI hs | exact z1_6 hI hs) _ _ _ i j
  · have h0 : (y 0).val < 384 := (y 0).isLt
    have h1 : (y 1).val < 128 := (y 1).isLt
    exact Or.inr ⟨by omega, by omega⟩

end Cert.CaseC

end
-- ==== Proof.Tiles.lean ====
/-
  What every tile leaves: the results' blocks, and what the next tile reads.
-/
module

public import proofs.«01_k».proof.Proof.Inputs
public import proofs.«01_k».proof.Proof.CaseA
public import proofs.«01_k».proof.Proof.CaseB
public import proofs.«01_k».proof.Proof.CaseC
public import proofs.«01_k».proof.Proof.Gen.KernelIdeal.Frame

@[expose] public section

set_option maxRecDepth 16384

noncomputable section

namespace Cert.Tiles

open Idealize.ShloMosaic Idealize.ShloMosaic.TcCoe Cert.KernelIdeal Cert.KernelIdeal.Gen Cert.Soft Cert.Spec Cert.Load Cert.Point Cert.Inputs

/-- A buffer the pieces are written over, where they are known. -/
theorem of_reads {sig : RefSig} {κ : Kind} {sp : Space} {Val : EltTy → Type} [∀ e, Nonempty (Val e)] {e : EltTy} {s : Shape}
    {S : s.Idx → Prop} {G : s.Idx → Val e} {L : List (View.Piece Val s e)} (h : Reads S G L) (v : View sig κ sp s e) (X) (y : s.Idx) (hy : S y) :
    v.read Val (v.writes Val X L) y = G y :=
  (View.read_writes_apply_eq_canon v X y L (h y hy).1).trans (h y hy).2

variable (m : (ℓ : Loc nD τ sig) → Buf (Elt Ideal) ℓ) (c : Dev nD)

/-- What holds after tile `n`. -/
structure Holds (n : ℕ) (h : n < cfg0.N) : Prop where
  out : ∀ b : Fin 4, b.val = n / 8 → ∀ y, (outsAt0 m c n h).1 y = of3 (gout (args m c) b (1024 * (n % 8))) y
  cs : ∀ b : Fin 4, b.val = n / 8 → ∀ y, (outsAt0 m c n h).2.1 y = of3 (gcs (args m c) b (1024 * (n % 8))) y
  ks : ∀ b : Fin 4, b.val = n / 8 → ∀ y, (outsAt0 m c n h).2.2.1 y = of3 (gks (args m c) b (1024 * (n % 8))) y
  vs : ∀ b : Fin 4, b.val = n / 8 → ∀ y, (outsAt0 m c n h).2.2.2.1 y = of3 (gvs (args m c) b (1024 * (n % 8))) y
  zt : ∀ b : Fin 4, b.val = min (n + 1) 31 / 8 → ∀ y, (y 0).val = 0 →
    (outsAt0 m c n h).2.2.2.2.1 y = of3 (gz (args m c) b (1024 * (min (n + 1) 31 % 8))) y
  kbuf : ∀ b : Fin 4, b.val = n / 8 → ∀ y, (y 0).val < 128 →
    (outsAt0 m c n h).2.2.2.2.2.1 y = of2 (gk (args m c) b (1024 * (n % 8 + 1))) y
  vbuf : ∀ b : Fin 4, b.val = n / 8 → ∀ y, (y 1).val < 128 →
    (outsAt0 m c n h).2.2.2.2.2.2.1 y = of2 (gv (args m c) b (1024 * (n % 8 + 1))) y
  uprev : ∀ b : Fin 4, b.val = n / 8 → ∀ y, (outsAt0 m c n h).2.2.2.2.2.2.2.1 y = of2 (gu (args m c) b (1024 * (n % 8 + 1))) y
  bias : ∀ y, (outsAt0 m c n h).2.2.2.2.2.2.2.2 y = of3 biasn y

theorem coords1 : ∀ t : Fin cfg0.N, (grid0.coords t 1).val = t.val % 8 := by decide +kernel

theorem step_A (t : Fin cfg0.N) (ha : Finite (args m c)) (h0 : t.val % 32 = 0) : Holds m c t.val t.isLt := by
  have ht : t.val < 32 := t.isLt
  have h1 : t.val % 8 = 0 := by omega
  have hi := coords1 t
  obtain ⟨b, hb⟩ : ∃ b : Fin 4, b.val = t.val / 8 := ⟨⟨t.val / 8, by omega⟩, rfl⟩
  have hI := inputs m c t b hb
  refine ⟨?_, ?_, ?_, ?_, ?_, ?_, ?_, ?_, ?_⟩
  · intro b' hb' y
    obtain rfl : b' = b := Fin.ext (hb'.trans hb.symm)
    rw [outsAt0_A m c t h0 h1 h0]
    dsimp only
    unfold out0_A_10
    refine of_reads (Val := Elt Ideal) (e := .f32) (S := fun y => True) (G := of3 (gout (args m c) b' (1024 * (t.val % 8)))) ?_ VO0_10 _ y trivial
    exact CaseA.out hI ha hi h1
  · intro b' hb' y
    obtain rfl : b' = b := Fin.ext (hb'.trans hb.symm)
    rw [outsAt0_A m c t h0 h1 h0]
    dsimp only
    unfold out0_A_11
    refine of_reads (Val := Elt Ideal) (e := .f32) (S := fun y => True) (G := of3 (gcs (args m c) b' (1024 * (t.val % 8)))) ?_ VO0_11 _ y trivial
    exact CaseA.cstate hI h1
  · intro b' hb' y
    obtain rfl : b' = b := Fin.ext (hb'.trans hb.symm)
    rw [outsAt0_A m c t h0 h1 h0]
    dsimp only
    unfold out0_A_12
    refine of_reads (Val := Elt Ideal) (e := .f32) (S := fun y => True) (G := of3 (gks (args m c) b' (1024 * (t.val % 8)))) ?_ VO0_12 _ y trivial
    exact CaseA.kstate hI h1
  · intro b' hb' y
    obtain rfl : b' = b := Fin.ext (hb'.trans hb.symm)
    rw [outsAt0_A m c t h0 h1 h0]
    dsimp only
    unfold out0_A_13
    refine of_reads (Val := Elt Ideal) (e := .f32) (S := fun y => True) (G := of3 (gvs (args m c) b' (1024 * (t.val % 8)))) ?_ VO0_13 _ y trivial
    exact CaseA.vstate hI h1
  · intro b' hb' y hy
    rw [outsAt0_A m c t h0 h1 h0]
    dsimp only
    unfold sout0_A_0
    refine of_reads (Val := Elt Ideal) (e := .f32) (S := fun y => (y 0).val = 0) (G := of3 (gz (args m c) b' (1024 * (min (t.val + 1) 31 % 8)))) ?_ VS0_0 _ y hy
    exact CaseA.next_zt hI (x1_at m c t b' _ rfl hb') (by omega)
  · intro b' hb' y hy
    obtain rfl : b' = b := Fin.ext (hb'.trans hb.symm)
    rw [outsAt0_A m c t h0 h1 h0]
    dsimp only
    unfold sout0_A_2
    refine of_reads (Val := Elt Ideal) (e := .bf16) (S := fun y => (y 0).val < 128) (G := of2 (gk (args m c) b' (1024 * (t.val % 8 + 1)))) ?_ VS0_2 _ y hy
    exact CaseA.next_k hI h1
  · intro b' hb' y hy
    obtain rfl : b' = b := Fin.ext (hb'.trans hb.symm)
    rw [outsAt0_A m c t h0 h1 h0]
    dsimp only
    unfold sout0_A_3
    refine of_reads (Val := Elt Ideal) (e := .bf16) (S := fun y => (y 1).val < 128) (G := of2 (gv (args m c) b' (1024 * (t.val % 8 + 1)))) ?_ VS0_3 _ y hy
    exact CaseA.next_v hI h1
  · intro b' hb' y
    obtain rfl : b' = b := Fin.ext (hb'.trans hb.symm)
    rw [outsAt0_A m c t h0 h1 h0]
    dsimp only
    unfold sout0_A_4
    refine of_reads (Val := Elt Ideal) (e := .f32) (S := fun y => True) (G := of2 (gu (args m c) b' (1024 * (t.val % 8 + 1)))) ?_ VS0_4 _ y trivial
    exact CaseA.next_u hI h1
  · intro y
    rw [outsAt0_A m c t h0 h1 h0]
    dsimp only
    unfold sout0_A_5
    refine of_reads (Val := Elt Ideal) (e := .f32) (S := fun y => True) (G := of3 biasn) ?_ VS0_5 _ y trivial
    exact CaseA.next_bias

theorem step_B (t : Fin cfg0.N) (ha : Finite (args m c)) (h0 : ¬t.val % 32 = 0) (h1 : ¬t.val % 8 = 0) (hp : Holds m c (t.val - 1) (Nat.lt_of_le_of_lt (Nat.sub_le _ _) t.isLt)) : Holds m c t.val t.isLt := by
  have ht : t.val < 32 := t.isLt
  have hi := coords1 t
  obtain ⟨b, hb⟩ : ∃ b : Fin 4, b.val = t.val / 8 := ⟨⟨t.val / 8, by omega⟩, rfl⟩
  have hI := inputs m c t b hb
  have e1 : min (t.val - 1 + 1) 31 = t.val := by omega
  have hs0 := hp.zt b (by omega)
  rw [e1] at hs0
  have hs5 := hp.bias
  have e2 : (t.val - 1) % 8 + 1 = t.val % 8 := by omega
  have hs2 := hp.kbuf b (by omega)
  rw [e2] at hs2
  have hs3 := hp.vbuf b (by omega)
  rw [e2] at hs3
  have hs4 := hp.uprev b (by omega)
  rw [e2] at hs4
  refine ⟨?_, ?_, ?_, ?_, ?_, ?_, ?_, ?_, ?_⟩
  · intro b' hb' y
    obtain rfl : b' = b := Fin.ext (hb'.trans hb.symm)
    rw [outsAt0_B m c t h0 h1 h0]
    dsimp only
    unfold out0_B_10
    refine of_reads (Val := Elt Ideal) (e := .f32) (S := fun y => True) (G := of3 (gout (args m c) b' (1024 * (t.val % 8)))) ?_ VO0_10 _ y trivial
    exact CaseB.out hI ha hi hs0 hs5 hs2 hs3 hs4 (by omega)
  · intro b' hb' y
    obtain rfl : b' = b := Fin.ext (hb'.trans hb.symm)
    rw [outsAt0_B m c t h0 h1 h0]
    dsimp only
    unfold out0_B_11
    refine of_reads (Val := Elt Ideal) (e := .f32) (S := fun y => True) (G := of3 (gcs (args m c) b' (1024 * (t.val % 8)))) ?_ VO0_11 _ y trivial
    exact CaseB.cstate hI (by omega)
  · intro b' hb' y
    obtain rfl : b' = b := Fin.ext (hb'.trans hb.symm)
    rw [outsAt0_B m c t h0 h1 h0]
    dsimp only
    unfold out0_B_12
    refine of_reads (Val := Elt Ideal) (e := .f32) (S := fun y => True) (G := of3 (gks (args m c) b' (1024 * (t.val % 8)))) ?_ VO0_12 _ y trivial
    exact CaseB.kstate hI (by omega)
  · intro b' hb' y
    obtain rfl : b' = b := Fin.ext (hb'.trans hb.symm)
    rw [outsAt0_B m c t h0 h1 h0]
    dsimp only
    unfold out0_B_13
    refine of_reads (Val := Elt Ideal) (e := .f32) (S := fun y => True) (G := of3 (gvs (args m c) b' (1024 * (t.val % 8)))) ?_ VO0_13 _ y trivial
    exact CaseB.vstate hI (by omega)
  · intro b' hb' y hy
    rw [outsAt0_B m c t h0 h1 h0]
    dsimp only
    unfold sout0_B_0
    refine of_reads (Val := Elt Ideal) (e := .f32) (S := fun y => (y 0).val = 0) (G := of3 (gz (args m c) b' (1024 * (min (t.val + 1) 31 % 8)))) ?_ VS0_0 _ y hy
    exact CaseB.next_zt hI (x1_at m c t b' _ rfl hb') (by omega)
  · intro b' hb' y hy
    obtain rfl : b' = b := Fin.ext (hb'.trans hb.symm)
    rw [outsAt0_B m c t h0 h1 h0]
    dsimp only
    unfold sout0_B_2
    refine of_reads (Val := Elt Ideal) (e := .bf16) (S := fun y => (y 0).val < 128) (G := of2 (gk (args m c) b' (1024 * (t.val % 8 + 1)))) ?_ VS0_2 _ y hy
    exact CaseB.next_k hI hs0 (by omega)
  · intro b' hb' y hy
    obtain rfl : b' = b := Fin.ext (hb'.trans hb.symm)
    rw [outsAt0_B m c t h0 h1 h0]
    dsimp only
    unfold sout0_B_3
    refine of_reads (Val := Elt Ideal) (e := .bf16) (S := fun y => (y 1).val < 128) (G := of2 (gv (args m c) b' (1024 * (t.val % 8 + 1)))) ?_ VS0_3 _ y hy
    exact CaseB.next_v hI hs0 (by omega)
  · intro b' hb' y
    obtain rfl : b' = b := Fin.ext (hb'.trans hb.symm)
    rw [outsAt0_B m c t h0 h1 h0]
    dsimp only
    unfold sout0_B_4
    refine of_reads (Val := Elt Ideal) (e := .f32) (S := fun y => True) (G := of2 (gu (args m c) b' (1024 * (t.val % 8 + 1)))) ?_ VS0_4 _ y trivial
    exact CaseB.next_u hI (by omega)
  · intro y
    rw [outsAt0_B m c t h0 h1 h0]
    dsimp only
    unfold sout0_B_5
    exact hs5 y

theorem step_C (t : Fin cfg0.N) (ha : Finite (args m c)) (h0 : ¬t.val % 32 = 0) (h1 : t.val % 8 = 0) (hp : Holds m c (t.val - 1) (Nat.lt_of_le_of_lt (Nat.sub_le _ _) t.isLt)) : Holds m c t.val t.isLt := by
  have ht : t.val < 32 := t.isLt
  have hi := coords1 t
  obtain ⟨b, hb⟩ : ∃ b : Fin 4, b.val = t.val / 8 := ⟨⟨t.val / 8, by omega⟩, rfl⟩
  have hI := inputs m c t b hb
  have e1 : min (t.val - 1 + 1) 31 = t.val := by omega
  have hs0 := hp.zt b (by omega)
  rw [e1] at hs0
  have hs5 := hp.bias
  refine ⟨?_, ?_, ?_, ?_, ?_, ?_, ?_, ?_, ?_⟩
  · intro b' hb' y
    obtain rfl : b' = b := Fin.ext (hb'.trans hb.symm)
    rw [outsAt0_C m c t h0 h1 h0]
    dsimp only
    unfold out0_C_10
    refine of_reads (Val := Elt Ideal) (e := .f32) (S := fun y => True) (G := of3 (gout (args m c) b' (1024 * (t.val % 8)))) ?_ VO0_10 _ y trivial
    exact CaseC.out hI ha hi hs0 hs5 h1
  · intro b' hb' y
    obtain rfl : b' = b := Fin.ext (hb'.trans hb.symm)
    rw [outsAt0_C m c t h0 h1 h0]
    dsimp only
    unfold out0_C_11
    refine of_reads (Val := Elt Ideal) (e := .f32) (S := fun y => True) (G := of3 (gcs (args m c) b' (1024 * (t.val % 8)))) ?_ VO0_11 _ y trivial
    exact CaseC.cstate hI h1
  · intro b' hb' y
    obtain rfl : b' = b := Fin.ext (hb'.trans hb.symm)
    rw [outsAt0_C m c t h0 h1 h0]
    dsimp only
    unfold out0_C_12
    refine of_reads (Val := Elt Ideal) (e := .f32) (S := fun y => True) (G := of3 (gks (args m c) b' (1024 * (t.val % 8)))) ?_ VO0_12 _ y trivial
    exact CaseC.kstate hI h1
  · intro b' hb' y
    obtain rfl : b' = b := Fin.ext (hb'.trans hb.symm)
    rw [outsAt0_C m c t h0 h1 h0]
    dsimp only
    unfold out0_C_13
    refine of_reads (Val := Elt Ideal) (e := .f32) (S := fun y => True) (G := of3 (gvs (args m c) b' (1024 * (t.val % 8)))) ?_ VO0_13 _ y trivial
    exact CaseC.vstate hI h1
  · intro b' hb' y hy
    rw [outsAt0_C m c t h0 h1 h0]
    dsimp only
    unfold sout0_C_0
    refine of_reads (Val := Elt Ideal) (e := .f32) (S := fun y => (y 0).val = 0) (G := of3 (gz (args m c) b' (1024 * (min (t.val + 1) 31 % 8)))) ?_ VS0_0 _ y hy
    exact CaseC.next_zt hI (x1_at m c t b' _ rfl hb') (by omega)
  · intro b' hb' y hy
    obtain rfl : b' = b := Fin.ext (hb'.trans hb.symm)
    rw [outsAt0_C m c t h0 h1 h0]
    dsimp only
    unfold sout0_C_2
    refine of_reads (Val := Elt Ideal) (e := .bf16) (S := fun y => (y 0).val < 128) (G := of2 (gk (args m c) b' (1024 * (t.val % 8 + 1)))) ?_ VS0_2 _ y hy
    exact CaseC.next_k hI hs0 h1
  · intro b' hb' y hy
    obtain rfl : b' = b := Fin.ext (hb'.trans hb.symm)
    rw [outsAt0_C m c t h0 h1 h0]
    dsimp only
    unfold sout0_C_3
    refine of_reads (Val := Elt Ideal) (e := .bf16) (S := fun y => (y 1).val < 128) (G := of2 (gv (args m c) b' (1024 * (t.val % 8 + 1)))) ?_ VS0_3 _ y hy
    exact CaseC.next_v hI hs0 h1
  · intro b' hb' y
    obtain rfl : b' = b := Fin.ext (hb'.trans hb.symm)
    rw [outsAt0_C m c t h0 h1 h0]
    dsimp only
    unfold sout0_C_4
    refine of_reads (Val := Elt Ideal) (e := .f32) (S := fun y => True) (G := of2 (gu (args m c) b' (1024 * (t.val % 8 + 1)))) ?_ VS0_4 _ y trivial
    exact CaseC.next_u hI h1
  · intro y
    rw [outsAt0_C m c t h0 h1 h0]
    dsimp only
    unfold sout0_C_5
    exact hs5 y

theorem holds (ha : Finite (args m c)) : ∀ (n : ℕ) (h : n < cfg0.N), Holds m c n h
  | 0, h => step_A m c ⟨0, h⟩ ha rfl
  | n + 1, h => by
    have hp := holds ha n (Nat.lt_of_succ_lt h)
    have hn : n + 1 < 32 := h
    by_cases h1 : (n + 1) % 8 = 0
    · exact step_C m c ⟨n + 1, h⟩ ha (by show ¬(n + 1) % 32 = 0; omega) h1 hp
    · exact step_B m c ⟨n + 1, h⟩ ha (by show ¬(n + 1) % 32 = 0; omega) h1 hp

end Cert.Tiles

end
-- ==== Proof.Arrays.lean ====
/-
  The kernel's four results after the run.
-/
module

public import proofs.«01_k».proof.Proof.Tiles
public import proofs.«01_k».proof.Proof.Gen.KernelIdeal.Value

@[expose] public section

set_option maxRecDepth 16384

noncomputable section

namespace Cert.Arrays

open Idealize.ShloMosaic Idealize.ShloMosaic.TcCoe Cert.KernelIdeal Cert.KernelIdeal.Gen Cert.Soft Cert.Spec Cert.Load Cert.Point Cert.Inputs Cert.Tiles

/-- The results, as arrays. -/
def Y (a : Args) : Vec Ideal S4x8192x1024 .f32 := fun i => Spec.y a (i 0) (i 1) (i 2)
def C (a : Args) : Vec Ideal S4x2x384 .f32 := fun i => convState a (i 0) (i 1) (i 2)
def K (a : Args) : Vec Ideal S4x128x128 .f32 := fun i => kState a (i 0) (i 1) (i 2)
def W (a : Args) : Vec Ideal S4x128x128 .f32 := fun i => vState a (i 0) (i 1) (i 2)

variable (m : (ℓ : Loc nD τ sig) → Buf (Elt Ideal) ℓ) (c : Dev nD)

theorem index10 : ∀ t : Fin cfg0.N, win0_10.index t = ![t.val / 8, t.val % 8, 0] := by decide +kernel
theorem index11 : ∀ t : Fin cfg0.N, win0_11.index t = ![t.val / 8, 0, 0] := by decide +kernel
theorem index12 : ∀ t : Fin cfg0.N, win0_12.index t = ![t.val / 8, 0, 0] := by decide +kernel
theorem index13 : ∀ t : Fin cfg0.N, win0_13.index t = ![t.val / 8, 0, 0] := by decide +kernel

theorem out_eq (ha : Finite (args m c)) : (dats m 0 c).arrAt 10 cfg0.N = Y (args m c) := by
  refine (dats m 0 c).arrAt_eq_of_covers 10 _ (by decide +kernel) fun t hf y => ?_
  have ht : t.val < 32 := t.isLt
  have hy0 : (y 0).val < 1 := (y 0).isLt
  have hy1 : (y 1).val < 1024 := (y 1).isLt
  have hy2 : (y 2).val < 1024 := (y 2).isLt
  blk_simp
  rw [after0_10]
  obtain ⟨b, hb⟩ : ∃ b : Fin 4, b.val = t.val / 8 := ⟨⟨t.val / 8, by omega⟩, rfl⟩
  refine ((holds m c ha t.val t.isLt).out b hb y).trans (Eq.trans ?_ (congrArg (Y (args m c)) (?_ : ix3 b ⟨1024 * (t.val % 8) + (y 1).val, by omega⟩ ⟨(y 2).val, hy2⟩ = _)))
  · exact ext2_eq _ _ hy2
  · blk_ext [index10]
    all_goals omega

theorem conv_eq (ha : Finite (args m c)) : (dats m 0 c).arrAt 11 cfg0.N = C (args m c) := by
  refine (dats m 0 c).arrAt_eq_of_covers 11 _ (by decide +kernel) fun t hf y => ?_
  have ht : t.val < 32 := t.isLt
  have h7 : t.val % 8 = 7 := (flush0_11 t).1 hf
  have hy0 : (y 0).val < 1 := (y 0).isLt
  have hy1 : (y 1).val < 2 := (y 1).isLt
  have hy2 : (y 2).val < 384 := (y 2).isLt
  blk_simp
  rw [after0_11]
  obtain ⟨b, hb⟩ : ∃ b : Fin 4, b.val = t.val / 8 := ⟨⟨t.val / 8, by omega⟩, rfl⟩
  refine ((holds m c ha t.val t.isLt).cs b hb y).trans (Eq.trans ?_ (congrArg (C (args m c)) (?_ : ix3 b ⟨(y 1).val, by omega⟩ ⟨(y 2).val, hy2⟩ = _)))
  · show un _ b _ _ = convState _ b _ _
    unfold un convState U
    rw [if_neg (by omega), zn_eq (by omega) (by omega), zn_eq (by omega) (by omega)]
    have e : (⟨1024 * (t.val % 8) + 1150 + (y 1).val - 128, by omega⟩ : Fin 8192) = ⟨8190 + (y 1).val, by omega⟩ := Fin.ext (by show 1024 * (t.val % 8) + 1150 + (y 1).val - 128 = 8190 + (y 1).val; omega)
    rw [e]
    rfl
  · blk_ext [index11]
    all_goals omega

theorem k_eq (ha : Finite (args m c)) : (dats m 0 c).arrAt 12 cfg0.N = K (args m c) := by
  refine (dats m 0 c).arrAt_eq_of_covers 12 _ (by decide +kernel) fun t hf y => ?_
  have ht : t.val < 32 := t.isLt
  have h7 : t.val % 8 = 7 := (flush0_12 t).1 hf
  have hy0 : (y 0).val < 1 := (y 0).isLt
  have hy1 : (y 1).val < 128 := (y 1).isLt
  have hy2 : (y 2).val < 128 := (y 2).isLt
  blk_simp
  rw [after0_12]
  obtain ⟨b, hb⟩ : ∃ b : Fin 4, b.val = t.val / 8 := ⟨⟨t.val / 8, by omega⟩, rfl⟩
  refine ((holds m c ha t.val t.isLt).ks b hb y).trans (Eq.trans ?_ (congrArg (K (args m c)) (?_ : ix3 b ⟨(y 1).val, by omega⟩ ⟨(y 2).val, hy2⟩ = _)))
  · show zn _ b _ _ = kState _ b _ _
    unfold kState
    rw [zn_eq (by omega) (by omega)]
    have e : (⟨1024 * (t.val % 8) + 896 + (y 2).val, by omega⟩ : Fin 8192) = ⟨8064 + (y 2).val, by omega⟩ := Fin.ext (by show 1024 * (t.val % 8) + 896 + (y 2).val = 8064 + (y 2).val; omega)
    rw [e]
    rfl
  · blk_ext [index12]
    all_goals omega

theorem v_eq (ha : Finite (args m c)) : (dats m 0 c).arrAt 13 cfg0.N = W (args m c) := by
  refine (dats m 0 c).arrAt_eq_of_covers 13 _ (by decide +kernel) fun t hf y => ?_
  have ht : t.val < 32 := t.isLt
  have h7 : t.val % 8 = 7 := (flush0_13 t).1 hf
  have hy0 : (y 0).val < 1 := (y 0).isLt
  have hy1 : (y 1).val < 128 := (y 1).isLt
  have hy2 : (y 2).val < 128 := (y 2).isLt
  blk_simp
  rw [after0_13]
  obtain ⟨b, hb⟩ : ∃ b : Fin 4, b.val = t.val / 8 := ⟨⟨t.val / 8, by omega⟩, rfl⟩
  refine ((holds m c ha t.val t.isLt).vs b hb y).trans (Eq.trans ?_ (congrArg (W (args m c)) (?_ : ix3 b ⟨(y 1).val, by omega⟩ ⟨(y 2).val, hy2⟩ = _)))
  · show zn _ b _ _ = vState _ b _ _
    unfold vState
    rw [zn_eq (by omega) (by omega)]
    have e : (⟨1024 * (t.val % 8) + 896 + (y 2).val, by omega⟩ : Fin 8192) = ⟨8064 + (y 2).val, by omega⟩ := Fin.ext (by show 1024 * (t.val % 8) + 896 + (y 2).val = 8064 + (y 2).val; omega)
    rw [e]
    rfl
  · blk_ext [index13]
    all_goals omega

end Cert.Arrays

end
-- ==== Proof.RefZ.lean ====
/-
  The reference's projection, convolution and states.
-/
module

public import proofs.«01_k».proof.Proof.Spec
public import proofs.«01_k».proof.Proof.Gen.ReferenceIdeal.Run

@[expose] public section

set_option maxRecDepth 16384

noncomputable section

namespace Cert.Ref

open Idealize.ShloMosaic Idealize.ShloMosaic.TcCoe Cert.ReferenceIdeal Cert.ReferenceIdeal.Gen Cert.ReferenceIdeal.Value Cert.Soft Cert.Spec

variable (V0 : Valuation τ sig (Elt Ideal))

theorem sitofp_zero : (FloatOps.sitofp FTy.f32 0#32 : Ideal .f32) = (0 : EReal) := by
  show ((((0#32 : BitVec 32).toInt : ℤ) : ℝ) : EReal) = 0
  simp

/-- The arguments, as the reference finds them. -/
def args : Args where
  x := fun b t d => (V0 (Proc.devRef .tc main_arg0) : Vec Ideal S4x8192x1024 .f32) (ix3 b t d)
  mkey := fun b i d => (V0 (Proc.devRef .tc main_arg1) : Vec Ideal S4x256x256 .f32) (ix3 b i d)
  mval := fun b i d => (V0 (Proc.devRef .tc main_arg2) : Vec Ideal S4x256x256 .f32) (ix3 b i d)
  g := fun d => (V0 (Proc.devRef .tc main_arg3) : Vec Ideal S1x1024 .f32) (ix2 0 d)
  gp := fun d => (V0 (Proc.devRef .tc main_arg4) : Vec Ideal S1x1024 .f32) (ix2 0 d)
  W := fun d e => (V0 (Proc.devRef .tc main_arg5) : Vec Ideal S1x1024x3072 .f32) (ix3 0 d e)
  cw := fun k e => (V0 (Proc.devRef .tc main_arg6) : Vec Ideal S1x3x384 .f32) (ix3 0 k e)
  sk := fun h => (V0 (Proc.devRef .tc main_arg7) : Vec Ideal S1x6 .f32) (ix2 0 h)
  Wo := fun e d => (V0 (Proc.devRef .tc main_arg8) : Vec Ideal S1x1024x1024 .f32) (ix3 0 e d)

theorem z_eq (b : Fin 4) (t : Fin 8192) (e : Fin 3072) :
    (res_main_v21 V0 : Vec Ideal S4x8192x3072 .f32) (ix3 b t e) = Z (args V0) b t e := by
  pointwise [res_main_v21]
  rfl

theorem gate_eq (b : Fin 4) (t : Fin 8192) (e : Fin 3072) :
    (res_main_v32 V0 : Vec Ideal S4x8192x3072 .f32) (ix3 b t e) = silu (Z (args V0) b t e) := by
  pointwise [res_main_v32, z_eq]
  rfl

theorem u_eq (b : Fin 4) (t : Fin 8192) (c : Fin 384) :
    (res_main_v43 V0 : Vec Ideal S4x8192x384 .f32) (ix3 b t c) = U (args V0) b t c := by
  pointwise [res_main_v43, z_eq]
  rfl

theorem upad_eq (b : Fin 4) (t : Fin 8194) (c : Fin 384) :
    (res_main_v44 V0 : Vec Ideal S4x8194x384 .f32) (ix3 b t c) = if h : 2 ≤ t.val then U (args V0) b ⟨t.val - 2, by omega⟩ c else 0 := by
  pointwise [res_main_v44, u_eq]
  split
  · rename_i h
    rw [dif_pos (show 2 ≤ t.val from (h 1).1)]
  · rename_i h
    rw [dif_neg]
    · exact sitofp_zero
    · intro h2
      refine h fun a => ?_
      match a with
      | ⟨0, _⟩ => exact ⟨Nat.zero_le _, Nat.mod_one _, (by show (b.val - 0) / 1 < 4; omega)⟩
      | ⟨1, _⟩ => exact ⟨h2, Nat.mod_one _, (by show (t.val - 2) / 1 < 8192; omega)⟩
      | ⟨2, _⟩ => exact ⟨Nat.zero_le _, Nat.mod_one _, (by show (c.val - 0) / 1 < 384; omega)⟩

theorem k_eq (b : Fin 4) (t : Fin 8192) (h : Fin 2) (d : Fin 64) :
    (res_main_v68 V0 : Vec Ideal S4x8192x2x64 .f32) (ix4 b t h d) = Z (args V0) b t ⟨1920 + h.val * 64 + d.val, by omega⟩ := by
  pointwise [res_main_v68, z_eq]
  exact congrArg (Z _ b t) (Fin.ext (by show 1920 + (h.val * 64 + d.val) = 1920 + h.val * 64 + d.val; omega))

theorem v_eq (b : Fin 4) (t : Fin 8192) (h : Fin 2) (d : Fin 64) :
    (res_main_v69 V0 : Vec Ideal S4x8192x2x64 .f32) (ix4 b t h d) = Z (args V0) b t ⟨2048 + h.val * 64 + d.val, by omega⟩ := by
  pointwise [res_main_v69, z_eq]
  exact congrArg (Z _ b t) (Fin.ext (by show 2048 + (h.val * 64 + d.val) = 2048 + h.val * 64 + d.val; omega))

theorem kpad_eq (b : Fin 4) (n : Fin 65) (r : Fin 128) (h' : Fin 2) (d : Fin 64) :
    (res_main_v71 V0 : Vec Ideal S4x65x128x2x64 .f32) (ix5 b n r h' d) =
      if h : 128 ≤ 128 * n.val + r.val then Z (args V0) b ⟨128 * n.val + r.val - 128, by omega⟩ ⟨1920 + h'.val * 64 + d.val, by omega⟩ else 0 := by
  pointwise [res_main_v71, k_eq]
  split
  · rename_i h
    rw [dif_pos (show 128 ≤ 128 * n.val + r.val by have h1 : 128 ≤ n.val * 128 + r.val := (h 1).1; omega)]
    exact congrArg₂ (Z _ b) (Fin.ext (by show n.val * 128 + r.val - 128 = 128 * n.val + r.val - 128; omega)) rfl
  · rename_i h
    rw [dif_neg]
    · exact sitofp_zero
    · intro h2
      refine h fun a => ?_
      match a with
      | ⟨0, _⟩ => exact ⟨Nat.zero_le _, Nat.mod_one _, (by show (b.val - 0) / 1 < 4; omega)⟩
      | ⟨1, _⟩ => exact ⟨(by show 128 ≤ n.val * 128 + r.val; omega), Nat.mod_one _, (by show (n.val * 128 + r.val - 128) / 1 < 8192; omega)⟩
      | ⟨2, _⟩ => exact ⟨Nat.zero_le _, Nat.mod_one _, (by show (h'.val - 0) / 1 < 2; omega)⟩
      | ⟨3, _⟩ => exact ⟨Nat.zero_le _, Nat.mod_one _, (by show (d.val - 0) / 1 < 64; omega)⟩

theorem vpad_eq (b : Fin 4) (n : Fin 65) (r : Fin 128) (h' : Fin 2) (d : Fin 64) :
    (res_main_v73 V0 : Vec Ideal S4x65x128x2x64 .f32) (ix5 b n r h' d) =
      if h : 128 ≤ 128 * n.val + r.val then Z (args V0) b ⟨128 * n.val + r.val - 128, by omega⟩ ⟨2048 + h'.val * 64 + d.val, by omega⟩ else 0 := by
  pointwise [res_main_v73, v_eq]
  split
  · rename_i h
    rw [dif_pos (show 128 ≤ 128 * n.val + r.val by have h1 : 128 ≤ n.val * 128 + r.val := (h 1).1; omega)]
    exact congrArg₂ (Z _ b) (Fin.ext (by show n.val * 128 + r.val - 128 = 128 * n.val + r.val - 128; omega)) rfl
  · rename_i h
    rw [dif_neg]
    · exact sitofp_zero
    · intro h2
      refine h fun a => ?_
      match a with
      | ⟨0, _⟩ => exact ⟨Nat.zero_le _, Nat.mod_one _, (by show (b.val - 0) / 1 < 4; omega)⟩
      | ⟨1, _⟩ => exact ⟨(by show 128 ≤ n.val * 128 + r.val; omega), Nat.mod_one _, (by show (n.val * 128 + r.val - 128) / 1 < 8192; omega)⟩
      | ⟨2, _⟩ => exact ⟨Nat.zero_le _, Nat.mod_one _, (by show (h'.val - 0) / 1 < 2; omega)⟩
      | ⟨3, _⟩ => exact ⟨Nat.zero_le _, Nat.mod_one _, (by show (d.val - 0) / 1 < 64; omega)⟩

theorem conv_state (b : Fin 4) (i : Fin 2) (c : Fin 384) :
    (extractStridedSlice S4x2x384 ![0, 8190, 0] (res_main_v43 V0) slices_S4x8192x384_S4x2x384_0_8190_0 : Vec Ideal S4x2x384 .f32) (ix3 b i c)
      = convState (args V0) b i c := by
  pointwise [u_eq]
  rfl

theorem k_state (b : Fin 4) (d t : Fin 128) :
    (transpose S4x128x128 [0, 2, 1] (shapeCast _ (extractStridedSlice S4x128x2x64 ![0, 8064, 0, 0] (res_main_v68 V0) slices_S4x8192x2x64_S4x128x2x64_0_8064_0_0) shapeCasts_S4x128x2x64_S4x128x128) transposes_S4x128x128_S4x128x128_0_2_1 : Vec Ideal S4x128x128 .f32) (ix3 b d t)
      = kState (args V0) b d t := by
  pointwise [k_eq]
  exact congrArg (Z _ b _) (Fin.ext (by show 1920 + d.val / 64 * 64 + d.val % 64 = 1920 + d.val; omega))

theorem v_state (b : Fin 4) (d t : Fin 128) :
    (transpose S4x128x128 [0, 2, 1] (shapeCast _ (extractStridedSlice S4x128x2x64 ![0, 8064, 0, 0] (res_main_v69 V0) slices_S4x8192x2x64_S4x128x2x64_0_8064_0_0) shapeCasts_S4x128x2x64_S4x128x128) transposes_S4x128x128_S4x128x128_0_2_1 : Vec Ideal S4x128x128 .f32) (ix3 b d t)
      = vState (args V0) b d t := by
  pointwise [v_eq]
  exact congrArg (Z _ b _) (Fin.ext (by show 2048 + d.val / 64 * 64 + d.val % 64 = 2048 + d.val; omega))

end Cert.Ref

end
-- ==== Proof.RefWords.lean ====
/-
  The reference's literals, position words and row maxima.
-/
module

public import proofs.«01_k».proof.Proof.RefZ

@[expose] public section

set_option maxRecDepth 16384

noncomputable section

namespace Cert.Ref

open Idealize.ShloMosaic Idealize.ShloMosaic.TcCoe Cert.ReferenceIdeal Cert.ReferenceIdeal.Gen Cert.ReferenceIdeal.Value Cert.Soft Cert.Spec

theorem ninf_eq : Ideal.ofBits .f32 (0xFF800000#32) = (⊥ : EReal) := by
  simp [Ideal.ofBits, Ideal.ieee]

theorem zero_word : Ideal.ofBits .f32 (0x00000000#32) = (0 : EReal) := by
  simp [Ideal.ofBits, Ideal.ieee]

theorem eighth_eq : Ideal.ofBits .f32 (0x3E000000#32) = (((1 / 8 : ℝ)) : EReal) := by
  simp [Ideal.ofBits, Ideal.ieee, -EReal.coe_mul]; norm_num

theorem row6 (h : Fin 6) : S6.rowMajor (ix1 h) = h := by
  fin_cases h <;> rfl

theorem slopes_eq (h : Fin 6) : Ideal.ofBits .f32 (lit0 h) = (Spec.slope h : EReal) := by
  fin_cases h <;> simp [lit0, Spec.slope, Ideal.ofBits, Ideal.ieee, -EReal.coe_mul] <;> norm_num

/-- A small integer survives the passage through a word. -/
theorem toInt_small {z : ℤ} (h0 : -2147483648 ≤ z) (h1 : z < 2147483648) : (BitVec.ofInt 32 z).toInt = z := by
  rw [BitVec.toInt_ofInt]
  exact Int.bmod_eq_of_le (by norm_num; omega) (by norm_num; omega)

theorem kpos_word (n : Fin 64) (j : Fin 256) :
    IntOp.addi (IntOp.subi (IntOp.muli (BitVec.ofNat 32 n.val) 128#32) 128#32) (BitVec.ofNat 32 j.val)
      = BitVec.ofInt 32 (128 * (n.val : ℤ) - 128 + j.val) := by
  have hn := n.isLt
  have hj := j.isLt
  show BitVec.ofNat 32 n.val * 128#32 - 128#32 + BitVec.ofNat 32 j.val = _
  apply BitVec.eq_of_toNat_eq
  simp only [BitVec.toNat_add, BitVec.toNat_sub, BitVec.toNat_mul, BitVec.toNat_ofNat, BitVec.toNat_ofInt]
  omega

theorem dist_word (n : Fin 64) (r : Fin 128) (j : Fin 256) :
    IntOp.subi (BitVec.ofNat 32 (n.val * 128 + r.val)) (BitVec.ofInt 32 (128 * (n.val : ℤ) - 128 + j.val))
      = BitVec.ofInt 32 ((r.val : ℤ) + 128 - j.val) := by
  have hn := n.isLt
  have hj := j.isLt
  have hr := r.isLt
  show BitVec.ofNat 32 (n.val * 128 + r.val) - BitVec.ofInt 32 (128 * (n.val : ℤ) - 128 + j.val) = _
  apply BitVec.eq_of_toNat_eq
  simp only [BitVec.toNat_sub, BitVec.toNat_ofNat, BitVec.toNat_ofInt]
  omega

/-- The reference's mask selects the keys a query can see. -/
theorem select_valid (n : Fin 64) (r : Fin 128) (j : Fin 256) (x y : EReal) :
    Scalar.select (IntOp.andi
      (IntOp.andi (IntOp.cmpi CmpIPredicate.sge (BitVec.ofInt 32 ((r.val : ℤ) + 128 - j.val)) 0#32)
        (IntOp.cmpi CmpIPredicate.slt (BitVec.ofInt 32 ((r.val : ℤ) + 128 - j.val)) 128#32))
      (IntOp.cmpi CmpIPredicate.sge (BitVec.ofInt 32 (128 * (n.val : ℤ) - 128 + j.val)) 0#32)) x y
    = if Valid n r j then x else y := by
  have hn := n.isLt
  have hj := j.isLt
  have hr := r.isLt
  have e1 : (BitVec.ofInt 32 ((r.val : ℤ) + 128 - j.val)).toInt = (r.val : ℤ) + 128 - j.val := toInt_small (by omega) (by omega)
  have e2 : (BitVec.ofInt 32 (128 * (n.val : ℤ) - 128 + j.val)).toInt = 128 * (n.val : ℤ) - 128 + j.val := toInt_small (by omega) (by omega)
  have c1 : IntOp.cmpi CmpIPredicate.sge (BitVec.ofInt 32 ((r.val : ℤ) + 128 - j.val)) 0#32 = BitVec.ofBool (decide (j.val ≤ r.val + 128)) := by
    show BitVec.ofBool (BitVec.sle 0#32 _) = _
    congr 1
    rw [BitVec.sle_eq_decide, e1]
    apply decide_eq_decide.2
    show (0 : ℤ) ≤ _ ↔ _
    omega
  have c2 : IntOp.cmpi CmpIPredicate.slt (BitVec.ofInt 32 ((r.val : ℤ) + 128 - j.val)) 128#32 = BitVec.ofBool (decide (r.val < j.val)) := by
    show BitVec.ofBool (BitVec.slt _ 128#32) = _
    congr 1
    rw [BitVec.slt_eq_decide, e1]
    apply decide_eq_decide.2
    show _ < (128 : ℤ) ↔ _
    omega
  have c3 : IntOp.cmpi CmpIPredicate.sge (BitVec.ofInt 32 (128 * (n.val : ℤ) - 128 + j.val)) 0#32 = BitVec.ofBool (decide (128 ≤ 128 * n.val + j.val)) := by
    show BitVec.ofBool (BitVec.sle 0#32 _) = _
    congr 1
    rw [BitVec.sle_eq_decide, e2]
    apply decide_eq_decide.2
    show (0 : ℤ) ≤ _ ↔ _
    omega
  rw [c1, c2, c3]
  unfold Valid
  by_cases h1 : j.val ≤ r.val + 128 <;> by_cases h2 : r.val < j.val <;> by_cases h3 : 128 ≤ 128 * n.val + j.val <;>
    simp [h1, h2, h3, Scalar.select, IntOp.andi]

theorem absdist {r : Fin 128} {j : Fin 256} (h1 : r.val < j.val) (h2 : j.val ≤ r.val + 128) :
    (FloatOps.sitofp FTy.f32 (IntOp.absi (BitVec.ofInt 32 ((r.val : ℤ) + 128 - j.val))) : Ideal .f32)
      = (((r.val : ℝ) + 128 - (j.val : ℝ) : ℝ) : EReal) := by
  have e1 : (BitVec.ofInt 32 ((r.val : ℤ) + 128 - j.val)).toInt = (r.val : ℤ) + 128 - j.val := toInt_small (by omega) (by omega)
  have e2 : IntOp.absi (BitVec.ofInt 32 ((r.val : ℤ) + 128 - j.val)) = BitVec.ofInt 32 ((r.val : ℤ) + 128 - j.val) := by
    unfold IntOp.absi
    rw [if_neg]
    rw [BitVec.msb_eq_toInt, e1, decide_eq_true_eq]
    omega
  show ((((IntOp.absi (BitVec.ofInt 32 ((r.val : ℤ) + 128 - j.val))).toInt : ℤ) : ℝ) : EReal) = _
  rw [e2, e1]
  push_cast
  rfl

theorem maximumf_eq : (FloatOps.maximumf : Ideal .f32 → Ideal .f32 → Ideal .f32) = (max : EReal → EReal → EReal) :=
  Ideal.maximumf_eq_max

/-- The maximum of a row that holds no `⊤` and something above `⊥` is a real number. -/
theorem max_real {s t u : Shape} {a : Fin s.rank} (f : EReal → EReal → EReal) (hf : f = max) (x : s.Idx → EReal) (init : u.Idx → EReal)
    (hi : ∀ i, init i = ⊥) (h' : s.ReducesTo [a] t) (h : s.Reduces [a] t) (hu : 0 < u.numel) (j : t.Idx)
    (h1 : ∀ k, x (h.lift j k) ≠ ⊤) (h2 : ∃ k, x (h.lift j k) ≠ ⊥) :
    ∃ M : ℝ, Host.reduce f x init h' hu j = (M : EReal) := by
  subst hf
  rw [Host.reduce_eq_fold_single _ x init h' h hu j, hi]
  exact fold_max_real ⊥ (x ∘ h.lift j) bot_ne_top h1 (Or.inl h2)

end Cert.Ref

end
-- ==== Proof.RefMem.lean ====
/-
  The reference's attention over the memory slots.
-/
module

public import proofs.«01_k».proof.Proof.RefWords

@[expose] public section

set_option maxRecDepth 16384

noncomputable section

namespace Cert.Ref

open Idealize.ShloMosaic Idealize.ShloMosaic.TcCoe Cert.ReferenceIdeal Cert.ReferenceIdeal.Gen Cert.ReferenceIdeal.Value Cert.Soft Cert.Spec

variable (V0 : Valuation τ sig (Elt Ideal)) (ha : Spec.Finite (args V0))
include ha

theorem mscore_eq (b h : Fin 4) (t : Fin 8192) (j : Fin 256) :
    (res_main_v152 V0 : Vec Ideal S4x4x8192x256 .f32) (ix4 b h t j) = mscore (args V0) b t h j := by
  pointwise [res_main_v152, z_eq]
  unfold mscore
  rw [eighth_eq, EReal.coe_mul, coe_sum]
  refine congrArg (· * (((1 / 8 : ℝ)) : EReal)) (Finset.sum_congr rfl fun e _ => ?_)
  obtain ⟨k, hk⟩ := ha.mkey b j ⟨h.val * 64 + e.val, by omega⟩
  rw [EReal.coe_mul, hk, EReal.toReal_coe, ← hk, Z_real ha]
  refine congrArg₂ (· * ·) (congrArg (fun e' => ((zr (args V0) b t e' : ℝ) : EReal)) (Fin.ext ?_)) rfl
  show 2560 + (h.val * 64 + e.val) = 2560 + h.val * 64 + e.val
  omega

theorem mlift (b h : Fin 4) (t : Fin 8192) (H : S4x4x8192x256.Reduces [3] S4x4x8192) (j : Fin 256) :
    H.lift (ix3 b h t) j = ix4 b h t j := by
  funext k
  fin_cases k <;> rfl

theorem mreduces : S4x4x8192x256.Reduces [3] S4x4x8192 := by decide

omit ha in
theorem mexp_at (x : FVec Ideal S4x4x8192x256 .f32) (R : FVec Ideal S4x4x8192 .f32) (b h : Fin 4) (t : Fin 8192) (j : Fin 256) :
    (Host.exp (subf x (broadcastInDim S4x4x8192x256 ![0, 1, 2, 3] bcast_S4x4x8192x1_S4x4x8192x256_0_1_2_3 (broadcastInDim S4x4x8192x1 ![0, 1, 2] bcast_S4x4x8192_S4x4x8192x1_0_1_2 (maximumf (broadcastInDim S4x4x8192 ![] bcast_S_S4x4x8192 (constant S_ .f32 0xFF800000#32)) R))))) (ix4 b h t j)
      = Ideal.exp (x (ix4 b h t j) - max (Ideal.ofBits FTy.f32 4286578688#32) (R (ix3 b h t))) := by
  pointwise

theorem mscore_lift (b h : Fin 4) (t : Fin 8192) (H : S4x4x8192x256.Reduces [3] S4x4x8192) (k : Fin 256) :
    (res_main_v152 V0 : Vec Ideal S4x4x8192x256 .f32) (H.lift (ix3 b h t) k) = mscore (args V0) b t h k :=
  (congrArg (res_main_v152 V0 : Vec Ideal S4x4x8192x256 .f32) (mlift V0 ha b h t H k)).trans (mscore_eq V0 ha b h t k)

theorem mmax_eq (b h : Fin 4) (t : Fin 8192) : ∃ M : ℝ,
    Host.reduce (α := EReal) (FloatOps.maximumf : Ideal .f32 → Ideal .f32 → Ideal .f32) (res_main_v152 V0 : FVec Ideal S4x4x8192x256 .f32) (constant (F := Ideal) S_ .f32 0xFF800000#32)
      reducesTo_S4x4x8192x256_S4x4x8192_d3 h_S_ (ix3 b h t) = (M : EReal) :=
  max_real (a := (3 : Fin S4x4x8192x256.rank)) _ maximumf_eq (res_main_v152 V0 : FVec Ideal S4x4x8192x256 .f32) _ (fun _ => ninf_eq) _
    (mreduces V0 ha) _ (ix3 b h t)
    (fun k e => EReal.coe_ne_top _ ((mscore_lift V0 ha b h t (mreduces V0 ha) k).symm.trans e))
    ⟨(0 : Fin 256), fun e => EReal.coe_ne_bot _ ((mscore_lift V0 ha b h t (mreduces V0 ha) 0).symm.trans e)⟩

theorem mexp_eq (b h : Fin 4) (t : Fin 8192) : ∃ M : ℝ, ∀ j : Fin 256,
    (res_main_v159 V0 : Vec Ideal S4x4x8192x256 .f32) (ix4 b h t j)
      = ((wt (mscore (args V0) b t h j) * Real.exp (-M) : ℝ) : EReal) := by
  obtain ⟨M, hM⟩ := mmax_eq V0 ha b h t
  refine ⟨M, fun j => ?_⟩
  rw [res_main_v159]
  refine (mexp_at _ _ b h t j).trans ?_
  refine (congrArg₂ (fun x y : EReal => Ideal.exp (x - max (Ideal.ofBits FTy.f32 4286578688#32) y)) (mscore_eq V0 ha b h t j) hM).trans ?_
  show Ideal.exp (mscore (args V0) b t h j - max (Ideal.ofBits FTy.f32 4286578688#32) (M : EReal)) = _
  rw [ninf_eq, max_eq_right bot_le]
  exact exp_shift (EReal.coe_ne_top _) M

/-- The weighted mean the reference takes over the slots. -/
theorem mem_sum (b h : Fin 4) (t : Fin 8192) (d : Fin 64) :
    ∑ j : Fin 256, (args V0).mval b j ⟨h.val * 64 + d.val, by omega⟩
      * Ideal.div ((res_main_v159 V0 : Vec Ideal S4x4x8192x256 .f32) (ix4 b h t j))
          (∑ j' : Fin 256, (res_main_v159 V0 : Vec Ideal S4x4x8192x256 .f32) (ix4 b h t j'))
      = mem (args V0) b t h d := by
  obtain ⟨M, hM⟩ := mexp_eq V0 ha b h t
  simp only [hM]
  rw [← coe_sum, ← Finset.sum_mul]
  refine sum_div _ ?_ (Real.exp_pos _) _
  refine Finset.sum_pos (fun j _ => ?_) ⟨0, Finset.mem_univ _⟩
  unfold mscore
  rw [wt_coe]
  exact Real.exp_pos _

end Cert.Ref

end
-- ==== Proof.RefScore.lean ====
/-
  The reference's scores of the window.
-/
module

public import proofs.«01_k».proof.Proof.RefWords

@[expose] public section

set_option maxRecDepth 16384

noncomputable section

namespace Cert.Ref

open Idealize.ShloMosaic Idealize.ShloMosaic.TcCoe Cert.ReferenceIdeal Cert.ReferenceIdeal.Gen Cert.ReferenceIdeal.Value Cert.Soft Cert.Spec

variable (V0 : Valuation τ sig (Elt Ideal))

theorem kpos_eq (n : Fin 64) (j : Fin 256) :
    ((res_main_v93 V0 : Vec Ideal S64x256 .i32) (ix2 n j) : BitVec 32) = BitVec.ofInt 32 (128 * (n.val : ℤ) - 128 + j.val) := by
  pointwise [res_main_v93]
  exact kpos_word n j

theorem dist_eq (n : Fin 64) (r : Fin 128) (j : Fin 256) :
    ((res_main_v103 V0 : Vec Ideal S64x128x256 .i32) (ix3 n r j) : BitVec 32) = BitVec.ofInt 32 ((r.val : ℤ) + 128 - j.val) := by
  pointwise [res_main_v103, kpos_eq]
  exact dist_word n r j

/-- Query head `g` of the three that share key head `k`. -/
def head (k : Fin 2) (g : Fin 3) : Fin 6 := ⟨k.val * 3 + g.val, by omega⟩

variable (ha : Spec.Finite (args V0))
include ha

/-- A key or value of the band, as the two padded halves hold it. -/
theorem band_eq (b : Fin 4) (n : Fin 64) (j : Fin 256) (e : Fin 3072) (h : 128 ≤ 128 * n.val + j.val) :
    (if h_1 : j.val < 128 then
        if h_2 : 128 ≤ 128 * n.val + j.val then Z (args V0) b ⟨128 * n.val + j.val - 128, by omega⟩ e else 0
      else if h_2 : 128 ≤ 128 * (1 + n.val) + (j.val - 128) then
        Z (args V0) b ⟨128 * (1 + n.val) + (j.val - 128) - 128, by omega⟩ e else 0) = (zr (args V0) b (keyTok n j) e : EReal) := by
  by_cases hj : j.val < 128
  · rw [dif_pos hj, dif_pos h, Z_real ha]
    rfl
  · rw [dif_neg hj, dif_pos (by omega), Z_real ha]
    refine congrArg (fun t => ((zr (args V0) b t e : ℝ) : EReal)) (Fin.ext ?_)
    show 128 * (1 + n.val) + (j.val - 128) - 128 = 128 * n.val + j.val - 128
    omega

omit ha in
theorem coe_score (S s D : ℝ) : ((S * (1 / 8) - s * D : ℝ) : EReal) = (S : EReal) * ((1 / 8 : ℝ) : EReal) - (s : EReal) * (D : EReal) := by
  rw [EReal.coe_sub, EReal.coe_mul, EReal.coe_mul]

/-- A row's entry before the sink, as the reference computes it. -/
theorem row_eq (b : Fin 4) (n : Fin 64) (k : Fin 2) (g : Fin 3) (r : Fin 128) (j : Fin 256) :
    Scalar.select
      (IntOp.andi
        (IntOp.andi (IntOp.cmpi CmpIPredicate.sge (BitVec.ofInt 32 ((r.val : ℤ) + 128 - j.val)) 0#32)
          (IntOp.cmpi CmpIPredicate.slt (BitVec.ofInt 32 ((r.val : ℤ) + 128 - j.val)) 128#32))
        (IntOp.cmpi CmpIPredicate.sge (BitVec.ofInt 32 (128 * (n.val : ℤ) - 128 + j.val)) 0#32))
      ((∑ x : Fin 64,
          (if h_1 : j.val < 128 then
              if h_2 : 128 ≤ 128 * n.val + j.val then
                Z (args V0) b ⟨128 * n.val + j.val - 128, by omega⟩ ⟨1920 + k.val * 64 + x.val, by omega⟩ else 0
            else if h_2 : 128 ≤ 128 * (1 + n.val) + (j.val - 128) then
              Z (args V0) b ⟨128 * (1 + n.val) + (j.val - 128) - 128, by omega⟩ ⟨1920 + k.val * 64 + x.val, by omega⟩ else 0)
          * Z (args V0) b ⟨n.val * 128 + r.val, by omega⟩ ⟨1536 + (k.val * 192 + g.val * 64 + x.val), by omega⟩)
        * Ideal.ofBits FTy.f32 1040187392#32
      - Ideal.ofBits FTy.f32 (lit0 (S6.rowMajor (ix1 (⟨k.val * 3 + g.val, by omega⟩ : Fin 6))))
        * (FloatOps.sitofp FTy.f32 (IntOp.absi (BitVec.ofInt 32 ((r.val : ℤ) + 128 - j.val))) : Ideal .f32) : EReal)
      (Ideal.ofBits FTy.f32 4286578688#32)
    = score (args V0) b n (head k g) r j := by
  rw [select_valid, ninf_eq, row6, slopes_eq, eighth_eq]
  unfold score
  by_cases hv : Valid n r j
  · rw [if_pos hv, if_pos hv, absdist hv.1 hv.2.1, rawScore, coe_score, coe_sum]
    refine congrArg₂ (· - ·) (congrArg (· * (((1 / 8 : ℝ)) : EReal)) (Finset.sum_congr rfl fun e _ => ?_)) rfl
    rw [EReal.coe_mul]
    refine congrArg₂ (· * ·) ?_ ?_
    · refine (band_eq V0 ha b n j ⟨1920 + k.val * 64 + e.val, by omega⟩ hv.2.2).trans ?_
      refine congrArg (fun e' => ((zr (args V0) b (keyTok n j) e' : ℝ) : EReal)) (Fin.ext ?_)
      show 1920 + k.val * 64 + e.val = 1920 + (k.val * 3 + g.val) / 3 * 64 + e.val
      omega
    · rw [Z_real ha]
      refine congrArg₂ (fun t e' => ((zr (args V0) b t e' : ℝ) : EReal)) (Fin.ext ?_) (Fin.ext ?_)
      · show n.val * 128 + r.val = 128 * n.val + r.val
        omega
      · show 1536 + (k.val * 192 + g.val * 64 + e.val) = 1536 + (k.val * 3 + g.val) * 64 + e.val
        omega
  · rw [if_neg hv, if_neg hv]

/-- A row of scores, the sink's last. -/
def row (b : Fin 4) (n : Fin 64) (k : Fin 2) (g : Fin 3) (r : Fin 128) (j : Fin 257) : EReal :=
  if h : j.val < 256 then score (args V0) b n (head k g) r ⟨j.val, h⟩ else (args V0).sk (head k g)

theorem row_of_lt (b : Fin 4) (n : Fin 64) (k : Fin 2) (g : Fin 3) (r : Fin 128) (j : Fin 257) (h : j.val < 256) :
    row V0 b n k g r j = score (args V0) b n (head k g) r ⟨j.val, h⟩ := by
  unfold row
  rw [dif_pos h]

theorem row_of_ge (b : Fin 4) (n : Fin 64) (k : Fin 2) (g : Fin 3) (r : Fin 128) (j : Fin 257) (h : ¬j.val < 256) :
    row V0 b n k g r j = (args V0).sk (head k g) := by
  unfold row
  rw [dif_neg h]

theorem score_eq (b : Fin 4) (n : Fin 64) (k : Fin 2) (g : Fin 3) (r : Fin 128) (j : Fin 257) :
    (res_main_v129 V0 : Vec Ideal S4x64x2x3x128x257 .f32) (ix6 b n k g r j) = row V0 b n k g r j := by
  pointwise [res_main_v129, kpad_eq, z_eq, dist_eq, kpos_eq]
  by_cases h : j.val < 256
  · refine (dif_pos h).trans ?_
    exact (row_eq V0 ha b n k g r ⟨j.val, h⟩).trans (row_of_lt V0 ha b n k g r j h).symm
  · refine (dif_neg h).trans ?_
    exact (row_of_ge V0 ha b n k g r j h).symm

end Cert.Ref

end
-- ==== Proof.RefSwa.lean ====
/-
  The reference's windowed attention.
-/
module

public import proofs.«01_k».proof.Proof.RefScore

@[expose] public section

set_option maxRecDepth 16384

noncomputable section

namespace Cert.Ref

open Idealize.ShloMosaic Idealize.ShloMosaic.TcCoe Cert.ReferenceIdeal Cert.ReferenceIdeal.Gen Cert.ReferenceIdeal.Value Cert.Soft Cert.Spec

variable (V0 : Valuation τ sig (Elt Ideal))

/-- A row's exponentials, the sink's last. -/
def expRow (b : Fin 4) (n : Fin 64) (k : Fin 2) (g : Fin 3) (r : Fin 128) (j : Fin 257) : EReal :=
  (res_main_v136 V0 : Vec Ideal S4x64x2x3x128x257 .f32) (ix6 b n k g r j)

variable (ha : Spec.Finite (args V0))
include ha

theorem slift (b : Fin 4) (n : Fin 64) (k : Fin 2) (g : Fin 3) (r : Fin 128) (H : S4x64x2x3x128x257.Reduces [5] S4x64x2x3x128)
    (j : Fin 257) : H.lift (ix5 b n k g r) j = ix6 b n k g r j := by
  funext a
  fin_cases a <;> rfl

theorem score_ne_top (b : Fin 4) (n : Fin 64) (hh : Fin 6) (r : Fin 128) (j : Fin 256) : score (args V0) b n hh r j ≠ ⊤ := by
  unfold score
  split
  · exact EReal.coe_ne_top _
  · exact bot_ne_top

theorem sreduces : S4x64x2x3x128x257.Reduces [5] S4x64x2x3x128 := by decide

omit ha in
theorem exp_at (x : FVec Ideal S4x64x2x3x128x257 .f32) (R : FVec Ideal S4x64x2x3x128 .f32) (b : Fin 4) (n : Fin 64) (k : Fin 2) (g : Fin 3)
    (r : Fin 128) (j : Fin 257) :
    (Host.exp (subf x (broadcastInDim S4x64x2x3x128x257 ![0, 1, 2, 3, 4, 5] bcast_S4x64x2x3x128x1_S4x64x2x3x128x257_0_1_2_3_4_5 (broadcastInDim S4x64x2x3x128x1 ![0, 1, 2, 3, 4] bcast_S4x64x2x3x128_S4x64x2x3x128x1_0_1_2_3_4 (maximumf (broadcastInDim S4x64x2x3x128 ![] bcast_S_S4x64x2x3x128 (constant S_ .f32 0xFF800000#32)) R))))) (ix6 b n k g r j)
      = Ideal.exp (x (ix6 b n k g r j) - max (Ideal.ofBits FTy.f32 4286578688#32) (R (ix5 b n k g r))) := by
  pointwise

theorem row_lift (b : Fin 4) (n : Fin 64) (k : Fin 2) (g : Fin 3) (r : Fin 128) (H : S4x64x2x3x128x257.Reduces [5] S4x64x2x3x128) (j : Fin 257) :
    (res_main_v129 V0 : Vec Ideal S4x64x2x3x128x257 .f32) (H.lift (ix5 b n k g r) j) = row V0 b n k g r j :=
  (congrArg (res_main_v129 V0 : Vec Ideal S4x64x2x3x128x257 .f32) (slift V0 ha b n k g r H j)).trans (score_eq V0 ha b n k g r j)

theorem row_ne_top (b : Fin 4) (n : Fin 64) (k : Fin 2) (g : Fin 3) (r : Fin 128) (j : Fin 257) : row V0 b n k g r j ≠ ⊤ := by
  obtain ⟨s, hs⟩ := ha.sk (head k g)
  unfold row
  split
  · exact score_ne_top V0 ha _ _ _ _ _
  · rw [hs]; exact EReal.coe_ne_top _

theorem row_sink (b : Fin 4) (n : Fin 64) (k : Fin 2) (g : Fin 3) (r : Fin 128) : row V0 b n k g r ⟨256, by omega⟩ = (args V0).sk (head k g) :=
  row_of_ge V0 ha b n k g r _ (by simp)

theorem row_key (b : Fin 4) (n : Fin 64) (k : Fin 2) (g : Fin 3) (r : Fin 128) (j : Fin 256) :
    row V0 b n k g r ⟨j.val, by omega⟩ = score (args V0) b n (head k g) r j :=
  row_of_lt V0 ha b n k g r _ j.isLt

theorem smax_eq (b : Fin 4) (n : Fin 64) (k : Fin 2) (g : Fin 3) (r : Fin 128) : ∃ M : ℝ,
    Host.reduce (α := EReal) (FloatOps.maximumf : Ideal .f32 → Ideal .f32 → Ideal .f32) (res_main_v129 V0 : FVec Ideal S4x64x2x3x128x257 .f32) (constant (F := Ideal) S_ .f32 0xFF800000#32)
      reducesTo_S4x64x2x3x128x257_S4x64x2x3x128_d5 h_S_ (ix5 b n k g r) = (M : EReal) := by
  obtain ⟨s, hs⟩ := ha.sk (head k g)
  exact max_real (a := (5 : Fin S4x64x2x3x128x257.rank)) _ maximumf_eq (res_main_v129 V0 : FVec Ideal S4x64x2x3x128x257 .f32) _ (fun _ => ninf_eq) _
    (sreduces V0 ha) _ (ix5 b n k g r)
    (fun j e => row_ne_top V0 ha b n k g r j ((row_lift V0 ha b n k g r (sreduces V0 ha) j).symm.trans e))
    ⟨(⟨256, by omega⟩ : Fin 257), fun e => EReal.coe_ne_bot s
      (hs.symm.trans ((row_sink V0 ha b n k g r).symm.trans ((row_lift V0 ha b n k g r (sreduces V0 ha) _).symm.trans e)))⟩

theorem exp_eq (b : Fin 4) (n : Fin 64) (k : Fin 2) (g : Fin 3) (r : Fin 128) : ∃ M : ℝ, ∀ j : Fin 257,
    expRow V0 b n k g r j = ((wt (row V0 b n k g r j) * Real.exp (-M) : ℝ) : EReal) := by
  obtain ⟨M, hM⟩ := smax_eq V0 ha b n k g r
  refine ⟨M, fun j => ?_⟩
  rw [expRow, res_main_v136]
  refine (exp_at _ _ b n k g r j).trans ?_
  refine (congrArg₂ (fun x y : EReal => Ideal.exp (x - max (Ideal.ofBits FTy.f32 4286578688#32) y)) (score_eq V0 ha b n k g r j) hM).trans ?_
  show Ideal.exp (row V0 b n k g r j - max (Ideal.ofBits FTy.f32 4286578688#32) (M : EReal)) = _
  rw [ninf_eq, max_eq_right bot_le]
  exact exp_shift (row_ne_top V0 ha b n k g r j) M

/-- The sum of a row of 257. -/
theorem sum_at (x : FVec Ideal S4x64x2x3x128x257 .f32) (b : Fin 4) (n : Fin 64) (k : Fin 2) (g : Fin 3) (r : Fin 128) :
    (Host.reduceAdd (F := Ideal) (φ := .f32) x (constant S_ .f32 0x00000000#32) reducesTo_S4x64x2x3x128x257_S4x64x2x3x128_d5 h_S_ (ix5 b n k g r) : EReal)
      = ((∑ j : Fin 256, (x (ix6 b n k g r ⟨j.val, by omega⟩) : EReal)) + x (ix6 b n k g r ⟨256, by omega⟩) : EReal) := by
  refine (Ideal.hostReduceAdd_single (a := (5 : Fin S4x64x2x3x128x257.rank)) _ (sreduces V0 ha) _ _ (ix5 b n k g r)).trans ?_
  refine (congrArg₂ (fun u v : EReal => u + v) (show (constant S_ .f32 0x00000000#32 : FVec Ideal S_ .f32) _ = (0 : EReal) from zero_word)
    (Fin.sum_univ_castSucc (n := 256) (fun j : Fin 257 => (x ((sreduces V0 ha).lift (ix5 b n k g r) j) : EReal)))).trans ?_
  refine (zero_add (M := EReal) _).trans ?_
  refine congrArg₂ (fun u v : EReal => u + v) (Finset.sum_congr rfl fun j _ => ?_) ?_
  · exact congrArg x (slift V0 ha b n k g r (sreduces V0 ha) _)
  · exact congrArg x (slift V0 ha b n k g r (sreduces V0 ha) _)

theorem expsum_eq (b : Fin 4) (n : Fin 64) (k : Fin 2) (g : Fin 3) (r : Fin 128) :
    (Host.reduceAdd (F := Ideal) (φ := .f32) (res_main_v136 V0 : FVec Ideal S4x64x2x3x128x257 .f32) (constant S_ .f32 0x00000000#32)
        reducesTo_S4x64x2x3x128x257_S4x64x2x3x128_d5 h_S_ (ix5 b n k g r) : EReal)
      = (∑ j : Fin 256, expRow V0 b n k g r ⟨j.val, by omega⟩) + expRow V0 b n k g r ⟨256, by omega⟩ :=
  sum_at V0 ha _ b n k g r

/-- The weighted mean the reference takes over the band. -/
theorem swa_sum (b : Fin 4) (n : Fin 64) (k : Fin 2) (g : Fin 3) (r : Fin 128) (d : Fin 64) :
    ∑ j : Fin 256, vBand (args V0) b n k d j
      * Ideal.div (expRow V0 b n k g r ⟨j.val, by omega⟩)
          ((∑ j : Fin 256, expRow V0 b n k g r ⟨j.val, by omega⟩) + expRow V0 b n k g r ⟨256, by omega⟩)
      = swa (args V0) b n (head k g) r d := by
  obtain ⟨M, hM⟩ := exp_eq V0 ha b n k g r
  simp only [hM, row_key V0 ha, row_sink V0 ha]
  rw [← coe_sum, ← Finset.sum_mul, ← EReal.coe_add, ← add_mul]
  have hk : (⟨(head k g).val / 3, by omega⟩ : Fin 2) = k := Fin.ext (by show (k.val * 3 + g.val) / 3 = k.val; omega)
  unfold swa
  rw [hk]
  refine sum_div _ ?_ (Real.exp_pos _) _
  obtain ⟨s, hs'⟩ := ha.sk (head k g)
  refine add_pos_of_nonneg_of_pos (Finset.sum_nonneg fun j _ => wt_nonneg _) ?_
  rw [hs', wt_coe]
  exact Real.exp_pos _

end Cert.Ref

end
-- ==== Proof.RefConv.lean ====
/-
  The reference's convolution.
-/
module

public import proofs.«01_k».proof.Proof.RefWords

@[expose] public section

set_option maxRecDepth 16384

noncomputable section

namespace Cert.Ref

open Idealize.ShloMosaic Idealize.ShloMosaic.TcCoe Cert.ReferenceIdeal Cert.ReferenceIdeal.Gen Cert.ReferenceIdeal.Value Cert.Soft Cert.Spec

variable (V0 : Valuation τ sig (Elt Ideal))

/-- The convolution's output. -/
def convT : (⟨S4x8192x384, .f32⟩ : BufTy).Contents (Elt Ideal) :=
  mulf (mulf (extractStridedSlice S4x8192x384 ![0, 0, 0] (res_main_v21 V0) slices_S4x8192x3072_S4x8192x384_0_0_0) (addf (addf (mulf (broadcastInDim S4x8192x384 ![0, 1, 2] bcast_S1x1x384_S4x8192x384_0_1_2 (broadcastInDim S1x1x384 ![2] bcast_S384_S1x1x384_2 (shapeCast _ (extractStridedSlice S1x384 ![0, 0] (res_main_v3 V0) slices_S3x384_S1x384_0_0) shapeCasts_S1x384_S384))) (extractStridedSlice S4x8192x384 ![0, 0, 0] (res_main_v44 V0) slices_S4x8194x384_S4x8192x384_0_0_0)) (mulf (broadcastInDim S4x8192x384 ![0, 1, 2] bcast_S1x1x384_S4x8192x384_0_1_2 (broadcastInDim S1x1x384 ![2] bcast_S384_S1x1x384_2 (shapeCast _ (extractStridedSlice S1x384 ![1, 0] (res_main_v3 V0) slices_S3x384_S1x384_1_0) shapeCasts_S1x384_S384))) (extractStridedSlice S4x8192x384 ![0, 1, 0] (res_main_v44 V0) slices_S4x8194x384_S4x8192x384_0_1_0))) (mulf (broadcastInDim S4x8192x384 ![0, 1, 2] bcast_S1x1x384_S4x8192x384_0_1_2 (broadcastInDim S1x1x384 ![2] bcast_S384_S1x1x384_2 (shapeCast _ (extractStridedSlice S1x384 ![2, 0] (res_main_v3 V0) slices_S3x384_S1x384_2_0) shapeCasts_S1x384_S384))) (extractStridedSlice S4x8192x384 ![0, 2, 0] (res_main_v44 V0) slices_S4x8194x384_S4x8192x384_0_2_0)))) (extractStridedSlice S4x8192x384 ![0, 0, 1152] (res_main_v32 V0) slices_S4x8192x3072_S4x8192x384_0_0_1152)

theorem conv_eq (b : Fin 4) (t : Fin 8192) (c : Fin 384) : (convT V0 : Vec Ideal S4x8192x384 .f32) (ix3 b t c) = yconv (args V0) b t c := by
  pointwise [convT, gate_eq, z_eq, upad_eq, res_main_v3]
  unfold yconv conv
  refine congrArg₂ (· * ·) (congrArg₂ (· * ·) rfl (congrArg₂ (· + ·) (congrArg₂ (· + ·) rfl (congrArg₂ (· * ·) rfl ?_)) rfl)) rfl
  unfold Uback
  by_cases h : 1 ≤ t.val
  · rw [dif_pos (by omega), if_pos h]
    exact congrArg (fun t' => U (args V0) b t' c) (Fin.ext (by show 1 + t.val - 2 = t.val - 1; omega))
  · rw [dif_neg (by omega), if_neg h]

end Cert.Ref

end
-- ==== Proof.RefMemAt.lean ====
/-
  The memory attention's output as the reference computes it, over any exponentials and any row sums.
-/
module

public import proofs.«01_k».proof.Proof.RefWords

@[expose] public section

set_option maxRecDepth 16384

noncomputable section

namespace Cert.Ref

open Idealize.ShloMosaic Idealize.ShloMosaic.TcCoe Cert.ReferenceIdeal Cert.ReferenceIdeal.Gen Cert.ReferenceIdeal.Value Cert.Soft Cert.Spec

variable (V0 : Valuation τ sig (Elt Ideal))

/-- The memory attention's output from exponentials `E` and row sums `R`. -/
def memT (E : FVec Ideal S4x4x8192x256 .f32) (R : FVec Ideal S4x4x8192 .f32) : (⟨S4x8192x256, .f32⟩ : BufTy).Contents (Elt Ideal) :=
  mulf (shapeCast _ (transpose S4x8192x4x64 [0, 3, 1, 2] (Host.dotGeneral (φ₁ := .f32) (φ₂ := .f32) dot_S4x256x4x64_S4x4x8192x256_S4x4x64x8192_1_3_3_2_02_01 none (shapeCast _ (V0 (Proc.devRef .tc main_arg2) : FVec Ideal S4x256x256 .f32) shapeCasts_S4x256x256_S4x256x4x64) (Host.divf E (broadcastInDim S4x4x8192x256 ![0, 1, 2, 3] bcast_S4x4x8192x1_S4x4x8192x256_0_1_2_3 (broadcastInDim S4x4x8192x1 ![0, 1, 2] bcast_S4x4x8192_S4x4x8192x1_0_1_2 R)))) transposes_S4x4x64x8192_S4x8192x4x64_0_3_1_2) shapeCasts_S4x8192x4x64_S4x8192x256) (extractStridedSlice S4x8192x256 ![0, 0, 2816] (res_main_v32 V0) slices_S4x8192x3072_S4x8192x256_0_0_2816)

theorem mem_at (E : FVec Ideal S4x4x8192x256 .f32) (R : FVec Ideal S4x4x8192 .f32) (b : Fin 4) (t : Fin 8192) (c : Fin 256) :
    (memT V0 E R : Vec Ideal S4x8192x256 .f32) (ix3 b t c)
      = ((∑ j : Fin 256, (args V0).mval b j c
          * Ideal.div (E (ix4 b ⟨c.val / 64, by omega⟩ t j)) (R (ix3 b ⟨c.val / 64, by omega⟩ t)))
        * silu (Z (args V0) b t ⟨2816 + c.val, by omega⟩) : EReal) := by
  pointwise [memT, gate_eq]
  rfl

end Cert.Ref

end
-- ==== Proof.RefSwaAt.lean ====
/-
  The windowed attention's output as the reference computes it, over any exponentials and any row sums.
-/
module

public import proofs.«01_k».proof.Proof.RefWords

@[expose] public section

set_option maxRecDepth 16384

noncomputable section

namespace Cert.Ref

open Idealize.ShloMosaic Idealize.ShloMosaic.TcCoe Cert.ReferenceIdeal Cert.ReferenceIdeal.Gen Cert.ReferenceIdeal.Value Cert.Soft Cert.Spec

variable (V0 : Valuation τ sig (Elt Ideal))

/-- The weights of the 256 keys. -/
def swaW (E : FVec Ideal S4x64x2x3x128x257 .f32) (R : FVec Ideal S4x64x2x3x128 .f32) : (⟨S4x64x2x3x128x256, .f32⟩ : BufTy).Contents (Elt Ideal) :=
  extractStridedSlice S4x64x2x3x128x256 ![0, 0, 0, 0, 0, 0] (Host.divf E (broadcastInDim S4x64x2x3x128x257 ![0, 1, 2, 3, 4, 5] bcast_S4x64x2x3x128x1_S4x64x2x3x128x257_0_1_2_3_4_5 (broadcastInDim S4x64x2x3x128x1 ![0, 1, 2, 3, 4] bcast_S4x64x2x3x128_S4x64x2x3x128x1_0_1_2_3_4 R))) slices_S4x64x2x3x128x257_S4x64x2x3x128x256_0_0_0_0_0_0

/-- The weighted values. -/
def swaD (W : FVec Ideal S4x64x2x3x128x256 .f32) : (⟨S4x64x2x64x3x128, .f32⟩ : BufTy).Contents (Elt Ideal) :=
  Host.dotGeneral dot_S4x64x256x2x64_S4x64x2x3x128x256_S4x64x2x64x3x128_2_5_4_34_013_012 none (concatenate S4x64x256x2x64 2 [⟨S4x64x128x2x64, (extractStridedSlice S4x64x128x2x64 ![0, 0, 0, 0, 0] (res_main_v73 V0) slices_S4x65x128x2x64_S4x64x128x2x64_0_0_0_0_0)⟩, ⟨S4x64x128x2x64, (extractStridedSlice S4x64x128x2x64 ![0, 1, 0, 0, 0] (res_main_v73 V0) slices_S4x65x128x2x64_S4x64x128x2x64_0_1_0_0_0)⟩] concatenates_S4x64x128x2x64_S4x64x128x2x64_S4x64x256x2x64_d2) W

/-- The weighted values, gated. -/
def swaG (A : FVec Ideal S4x64x2x64x3x128 .f32) : (⟨S4x8192x384, .f32⟩ : BufTy).Contents (Elt Ideal) :=
  mulf (shapeCast _ (shapeCast _ (transpose S4x64x128x2x3x64 [0, 1, 5, 2, 4, 3] A transposes_S4x64x2x64x3x128_S4x64x128x2x3x64_0_1_5_2_4_3) shapeCasts_S4x64x128x2x3x64_S4x64x128x384) shapeCasts_S4x64x128x384_S4x8192x384) (extractStridedSlice S4x8192x384 ![0, 0, 2176] (res_main_v32 V0) slices_S4x8192x3072_S4x8192x384_0_0_2176)

theorem swaW_at (E : FVec Ideal S4x64x2x3x128x257 .f32) (R : FVec Ideal S4x64x2x3x128 .f32) (b : Fin 4) (n : Fin 64) (k : Fin 2) (g : Fin 3) (r : Fin 128) (j : Fin 256) :
    (swaW E R : Vec Ideal S4x64x2x3x128x256 .f32) (ix6 b n k g r j)
      = (Ideal.div (E (ix6 b n k g r ⟨j.val, by omega⟩)) (R (ix5 b n k g r)) : EReal) := by
  pointwise [swaW]

theorem swaD_at (W : FVec Ideal S4x64x2x3x128x256 .f32) (b : Fin 4) (n : Fin 64) (k : Fin 2) (d : Fin 64) (g : Fin 3) (r : Fin 128) :
    (swaD V0 W : Vec Ideal S4x64x2x64x3x128 .f32) (ix6 b n k d g r)
      = (∑ j : Fin 256, vBand (args V0) b n k d j * W (ix6 b n k g r j) : EReal) := by
  pointwise [swaD, vpad_eq]
  symm
  refine (Fin.sum_univ_add (a := 128) (b := 128) _).trans ?_
  refine congrArg₂ (· + ·) (Finset.sum_congr rfl fun x _ => ?_) (Finset.sum_congr rfl fun x _ => ?_)
  · refine congrArg₂ (· * ·) ?_ rfl
    unfold vBand
    by_cases h : 128 ≤ 128 * n.val + x.val
    · rw [dif_pos h, if_pos (show 128 ≤ 128 * n.val + (Fin.castAdd 128 x).val from h)]
      rfl
    · rw [dif_neg h, if_neg (show ¬128 ≤ 128 * n.val + (Fin.castAdd 128 x).val from h)]
  · refine congrArg₂ (· * ·) ?_ rfl
    unfold vBand
    rw [dif_pos (show 128 ≤ 128 * (1 + n.val) + x.val by omega),
      if_pos (show 128 ≤ 128 * n.val + (Fin.natAdd 128 x).val by show 128 ≤ 128 * n.val + (128 + x.val); omega)]
    refine congrArg₂ (Z (args V0) b) (Fin.ext ?_) rfl
    show 128 * n.val + (128 + x.val) - 128 = 128 * (1 + n.val) + x.val - 128
    omega

theorem swaG_at (A : FVec Ideal S4x64x2x64x3x128 .f32) (b : Fin 4) (t : Fin 8192) (c : Fin 384) :
    (swaG V0 A : Vec Ideal S4x8192x384 .f32) (ix3 b t c)
      = (A (ix6 b ⟨t.val / 128, by omega⟩ ⟨c.val / 192, by omega⟩ ⟨c.val % 64, by omega⟩ ⟨c.val / 64 % 3, by omega⟩ ⟨t.val % 128, by omega⟩)
        * silu (Z (args V0) b t ⟨2176 + c.val, by omega⟩) : EReal) := by
  pointwise [swaG, gate_eq]

/-- The windowed attention's output from exponentials `E` and row sums `R`. -/
def swaT (E : FVec Ideal S4x64x2x3x128x257 .f32) (R : FVec Ideal S4x64x2x3x128 .f32) : (⟨S4x8192x384, .f32⟩ : BufTy).Contents (Elt Ideal) :=
  swaG V0 (swaD V0 (swaW E R))

theorem swa_at (E : FVec Ideal S4x64x2x3x128x257 .f32) (R : FVec Ideal S4x64x2x3x128 .f32) (b : Fin 4) (t : Fin 8192) (c : Fin 384) :
    (swaT V0 E R : Vec Ideal S4x8192x384 .f32) (ix3 b t c)
      = ((∑ j : Fin 256, vBand (args V0) b ⟨t.val / 128, by omega⟩ ⟨c.val / 192, by omega⟩ ⟨c.val % 64, by omega⟩ j
          * Ideal.div (E (ix6 b ⟨t.val / 128, by omega⟩ ⟨c.val / 192, by omega⟩ ⟨c.val / 64 % 3, by omega⟩ ⟨t.val % 128, by omega⟩ ⟨j.val, by omega⟩))
              (R (ix5 b ⟨t.val / 128, by omega⟩ ⟨c.val / 192, by omega⟩ ⟨c.val / 64 % 3, by omega⟩ ⟨t.val % 128, by omega⟩)))
        * silu (Z (args V0) b t ⟨2176 + c.val, by omega⟩) : EReal) := by
  refine (swaG_at V0 _ b t c).trans ?_
  refine congrArg (· * silu (Z (args V0) b t ⟨2176 + c.val, by omega⟩)) ?_
  refine (swaD_at V0 _ b _ _ _ _ _).trans (Finset.sum_congr rfl fun j _ => congrArg₂ (· * ·) rfl ?_)
  exact swaW_at E R b _ _ _ _ j

end Cert.Ref

end
-- ==== Proof.RefOut.lean ====
/-
  The reference's output projection and the layer's output.
-/
module

public import proofs.«01_k».proof.Proof.RefMem
public import proofs.«01_k».proof.Proof.RefSwa
public import proofs.«01_k».proof.Proof.RefConv
public import proofs.«01_k».proof.Proof.RefMemAt
public import proofs.«01_k».proof.Proof.RefSwaAt

@[expose] public section

set_option maxRecDepth 16384

noncomputable section

namespace Cert.Ref

open Idealize.ShloMosaic Idealize.ShloMosaic.TcCoe Cert.ReferenceIdeal Cert.ReferenceIdeal.Gen Cert.ReferenceIdeal.Value Cert.Soft Cert.Spec

variable (V0 : Valuation τ sig (Elt Ideal))

theorem proj_at (A B : FVec Ideal S4x8192x384 .f32) (C : FVec Ideal S4x8192x256 .f32) (b : Fin 4) (t : Fin 8192) (d : Fin 1024) :
    (Host.dotGeneral (F := Ideal) (φ₁ := .f32) (φ₂ := .f32) dot_S4x8192x1024_S1024x1024_S4x8192x1024_2_0_01_1_n_n none ((concatenate S4x8192x1024 2 [⟨S4x8192x384, (A : (⟨S4x8192x384, .f32⟩ : BufTy).Contents (Elt Ideal))⟩, ⟨S4x8192x384, (B : (⟨S4x8192x384, .f32⟩ : BufTy).Contents (Elt Ideal))⟩, ⟨S4x8192x256, (C : (⟨S4x8192x256, .f32⟩ : BufTy).Contents (Elt Ideal))⟩] concatenates_S4x8192x384_S4x8192x384_S4x8192x256_S4x8192x1024_d2 : (⟨S4x8192x1024, .f32⟩ : BufTy).Contents (Elt Ideal))) (shapeCast _ (V0 (Proc.devRef .tc main_arg8)) shapeCasts_S1x1024x1024_S1024x1024) : Vec Ideal S4x8192x1024 .f32) (ix3 b t d)
      = (∑ x : Fin 1024, (if h : x.val < 384 then A (ix3 b t ⟨x.val, h⟩)
          else if h' : x.val - 384 < 384 then B (ix3 b t ⟨x.val - 384, h'⟩) else C (ix3 b t ⟨x.val - 384 - 384, by omega⟩)) * (args V0).Wo x d : EReal) := by
  pointwise
  rfl

theorem proj_parts : res_main_v169 V0 = (Host.dotGeneral (F := Ideal) (φ₁ := .f32) (φ₂ := .f32) dot_S4x8192x1024_S1024x1024_S4x8192x1024_2_0_01_1_n_n none ((concatenate S4x8192x1024 2 [⟨S4x8192x384, (convT V0 : (⟨S4x8192x384, .f32⟩ : BufTy).Contents (Elt Ideal))⟩, ⟨S4x8192x384, (swaT V0 (res_main_v136 V0) (Host.reduceAdd (res_main_v136 V0) (constant S_ .f32 0x00000000#32) reducesTo_S4x64x2x3x128x257_S4x64x2x3x128_d5 h_S_) : (⟨S4x8192x384, .f32⟩ : BufTy).Contents (Elt Ideal))⟩, ⟨S4x8192x256, (memT V0 (res_main_v159 V0) (Host.reduceAdd (res_main_v159 V0) (constant S_ .f32 0x00000000#32) reducesTo_S4x4x8192x256_S4x4x8192_d3 h_S_) : (⟨S4x8192x256, .f32⟩ : BufTy).Contents (Elt Ideal))⟩] concatenates_S4x8192x384_S4x8192x384_S4x8192x256_S4x8192x1024_d2 : (⟨S4x8192x1024, .f32⟩ : BufTy).Contents (Elt Ideal))) (shapeCast _ (V0 (Proc.devRef .tc main_arg8)) shapeCasts_S1x1024x1024_S1024x1024) : (⟨S4x8192x1024, .f32⟩ : BufTy).Contents (Elt Ideal)) := rfl

variable (ha : Spec.Finite (args V0))
include ha

theorem head_eq (c : Fin 384) : (⟨c.val / 64, by omega⟩ : Fin 6) = head ⟨c.val / 192, by omega⟩ ⟨c.val / 64 % 3, by omega⟩ :=
  Fin.ext (by show c.val / 64 = c.val / 192 * 3 + c.val / 64 % 3; omega)

theorem swa_eq (b : Fin 4) (t : Fin 8192) (c : Fin 384) :
    (swaT V0 (res_main_v136 V0) (Host.reduceAdd (F := Ideal) (φ := .f32) (res_main_v136 V0) (constant S_ .f32 0x00000000#32) reducesTo_S4x64x2x3x128x257_S4x64x2x3x128_d5 h_S_) : Vec Ideal S4x8192x384 .f32) (ix3 b t c) = yswa (args V0) b t c := by
  refine (swa_at V0 _ _ b t c).trans ?_
  unfold yswa
  refine congrArg (· * silu (Z (args V0) b t ⟨2176 + c.val, by omega⟩)) ?_
  rw [head_eq V0 ha c, ← swa_sum V0 ha, ← expsum_eq V0 ha]
  rfl

omit ha in
theorem msum_at (E : FVec Ideal S4x4x8192x256 .f32) (b h : Fin 4) (t : Fin 8192) :
    (((Host.reduceAdd (F := Ideal) (φ := .f32) E (constant S_ .f32 0x00000000#32) reducesTo_S4x4x8192x256_S4x4x8192_d3 h_S_) : FVec Ideal S4x4x8192 .f32) (ix3 b h t) : EReal)
      = ∑ j : Fin 256, (E (ix4 b h t j) : EReal) := by
  pointwise

theorem mem_eq (b : Fin 4) (t : Fin 8192) (c : Fin 256) :
    (memT V0 (res_main_v159 V0) (Host.reduceAdd (F := Ideal) (φ := .f32) (res_main_v159 V0) (constant S_ .f32 0x00000000#32) reducesTo_S4x4x8192x256_S4x4x8192_d3 h_S_) : Vec Ideal S4x8192x256 .f32) (ix3 b t c) = ymem (args V0) b t c := by
  refine (mem_at V0 _ _ b t c).trans ?_
  unfold ymem
  refine congrArg (· * silu (Z (args V0) b t ⟨2816 + c.val, by omega⟩)) ?_
  rw [← mem_sum V0 ha]
  refine Finset.sum_congr rfl fun j _ => congrArg₂ (· * ·) (congrArg ((args V0).mval b j) (Fin.ext ?_)) ?_
  · show c.val = c.val / 64 * 64 + c.val % 64
    omega
  exact congrArg (Ideal.div _) (msum_at (res_main_v159 V0) b ⟨c.val / 64, by omega⟩ t)

theorem proj_eq (b : Fin 4) (t : Fin 8192) (d : Fin 1024) :
    (res_main_v169 V0 : Vec Ideal S4x8192x1024 .f32) (ix3 b t d) = proj (args V0) b t d := by
  rw [proj_parts]
  refine (proj_at V0 _ _ _ b t d).trans ?_
  unfold proj
  refine Finset.sum_congr rfl fun x _ => congrArg (· * (args V0).Wo x d) ?_
  unfold ycat
  by_cases h : x.val < 384
  · rw [dif_pos h, dif_pos h]
    exact conv_eq V0 b t _
  · rw [dif_neg h, dif_neg h]
    by_cases h' : x.val < 768
    · rw [dif_pos (by omega), dif_pos h']
      exact swa_eq V0 ha b t _
    · rw [dif_neg (by omega), dif_neg h']
      refine (mem_eq V0 ha b t _).trans (congrArg (ymem (args V0) b t) (Fin.ext ?_))
      show x.val - 384 - 384 = x.val - 768
      omega

omit ha in
theorem y_at (p : FVec Ideal S4x8192x1024 .f32) (b : Fin 4) (t : Fin 8192) (d : Fin 1024) :
    (addf (V0 (Proc.devRef .tc main_arg0)) (mulf (mulf p (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf p p) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (V0 (Proc.devRef .tc main_arg4)) shapeCasts_S1x1024_S1024)))) : Vec Ideal S4x8192x1024 .f32) (ix3 b t d)
      = ((args V0).x b t d + rms (fun d => p (ix3 b t d)) (args V0).gp d : EReal) := by
  pointwise
  rfl

theorem y_eq (b : Fin 4) (t : Fin 8192) (d : Fin 1024) :
    (addf (V0 (Proc.devRef .tc main_arg0)) (mulf (mulf (res_main_v169 V0) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v169 V0) (res_main_v169 V0)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ (V0 (Proc.devRef .tc main_arg4)) shapeCasts_S1x1024_S1024)))) : Vec Ideal S4x8192x1024 .f32) (ix3 b t d) = y (args V0) b t d := by
  refine (y_at V0 _ b t d).trans ?_
  unfold y
  exact congrArg (fun v => (args V0).x b t d + rms v (args V0).gp d) (funext fun d' => proj_eq V0 ha b t d')

end Cert.Ref

end
-- ==== Proof.Finite.lean ====
/-
  The precondition, read as finiteness of the arguments.
-/
module

public import proofs.«01_k».proof.Defs
public import proofs.«01_k».proof.Proof.Inputs

@[expose] public section

set_option maxRecDepth 16384

noncomputable section

namespace Cert.Pre_finite

open Idealize.ShloMosaic

theorem facts : Cert.Pre_finite.Facts where
  bcast_S_S1x1024 := by decide
  bcast_S_S1x1024x3072 := by decide
  bcast_S_S1x6 := by decide
  bcast_S_S4x256x256 := by decide

/-- An entry whose absolute value is below infinity is a real number. -/
theorem real_of_lt {S : Shape} (h : (⟨0, ![]⟩ : Shape).BroadcastsInDim S ![]) (x : FVec Ideal S .f32) (i : S.Idx)
    (e : (cmpf .olt (Host.absf x) (broadcastInDim S ![] h (constant ⟨0, ![]⟩ .f32 0x7F800000#32)) i : BitVec 1) = 1#1) :
    ∃ r : ℝ, x i = ((r : EReal) : EReal) := by
  have e' : Ideal.cmp .olt (max (x i : EReal) (-(x i : EReal))) (Ideal.ofBits .f32 0x7F800000#32) = 1#1 := e
  have ht : Ideal.ofBits .f32 (0x7F800000#32) = (⊤ : EReal) := by simp [Ideal.ofBits, Ideal.ieee]
  rw [ht] at e'
  have hlt : max (x i : EReal) (-(x i : EReal)) < (⊤ : EReal) := by
    by_contra hn
    rw [Ideal.cmp, decide_eq_false hn] at e'
    exact absurd e' (by decide)
  have h1 : (x i : EReal) ≠ ⊤ := ne_of_lt (lt_of_le_of_lt (le_max_left _ _) hlt)
  have h2 : (x i : EReal) ≠ ⊥ := fun hb => by
    rw [hb] at hlt
    exact absurd hlt (by simp)
  exact ⟨EReal.toReal (x i), (EReal.coe_toReal h1 h2).symm⟩

end Cert.Pre_finite

namespace Cert.Inputs

open Idealize.ShloMosaic Idealize.ShloMosaic.TcCoe Cert.KernelIdeal Cert.Soft

instance : Cert.Pre_finite.Facts := Cert.Pre_finite.facts

/-- Under the precondition the keys, the gain, the weights and the sinks are real. -/
theorem finite_args (m : (ℓ : Loc nD τ sig) → Buf (Elt Ideal) ℓ) (h : Cert.Pre_KernelIdeal_finite m) (c : Dev nD) :
    Spec.Finite (args m c) where
  mkey := fun b i d => Cert.Pre_finite.real_of_lt Cert.Pre_finite.Facts.bcast_S_S4x256x256 (m ((c : Thread nD τ).loc main_arg1) : FVec Ideal S4x256x256 .f32) (ix3 b i d) (congrFun (h c).2.2.2 (ix3 b i d))
  g := fun d => Cert.Pre_finite.real_of_lt Cert.Pre_finite.Facts.bcast_S_S1x1024 (m ((c : Thread nD τ).loc main_arg3) : FVec Ideal S1x1024 .f32) (ix2 0 d) (congrFun (h c).1 (ix2 0 d))
  W := fun d e => Cert.Pre_finite.real_of_lt Cert.Pre_finite.Facts.bcast_S_S1x1024x3072 (m ((c : Thread nD τ).loc main_arg5) : FVec Ideal S1x1024x3072 .f32) (ix3 0 d e) (congrFun (h c).2.1 (ix3 0 d e))
  sk := fun j => Cert.Pre_finite.real_of_lt Cert.Pre_finite.Facts.bcast_S_S1x6 (m ((c : Thread nD τ).loc main_arg7) : FVec Ideal S1x6 .f32) (ix2 0 j) (congrFun (h c).2.2.1 (ix2 0 j))

end Cert.Inputs

end
-- ==== Proof.lean ====
/-
  The claim: the frames, the named constants, and the equality of the kernel's four results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Arrays
public import proofs.«01_k».proof.Proof.RefOut
public import proofs.«01_k».proof.Proof.Finite
public import Idealize.ShloMosaic.Adequacy
public import Idealize.ShloMosaic.Init

@[expose] public section

set_option maxRecDepth 16384

noncomputable section

namespace Cert.Proof

open Idealize.ShloMosaic Idealize.ShloMosaic.TcCoe Idealize.ShloMosaic.StableHlo Idealize.SL.Sem

/-- From memories that agree on the arguments, both programs find the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    : Cert.Ref.args (launchContents m' c) = Cert.Inputs.args m c := by
  have e0 : (Cert.Ref.args (launchContents m' c)).x = (Cert.Inputs.args m c).x := funext fun p => funext fun q => funext fun r => congrFun h0 (ix3 p q r)
  have e1 : (Cert.Ref.args (launchContents m' c)).mkey = (Cert.Inputs.args m c).mkey := funext fun p => funext fun q => funext fun r => congrFun h1 (ix3 p q r)
  have e2 : (Cert.Ref.args (launchContents m' c)).mval = (Cert.Inputs.args m c).mval := funext fun p => funext fun q => funext fun r => congrFun h2 (ix3 p q r)
  have e3 : (Cert.Ref.args (launchContents m' c)).g = (Cert.Inputs.args m c).g := funext fun p => congrFun h3 (ix2 0 p)
  have e4 : (Cert.Ref.args (launchContents m' c)).gp = (Cert.Inputs.args m c).gp := funext fun p => congrFun h4 (ix2 0 p)
  have e5 : (Cert.Ref.args (launchContents m' c)).W = (Cert.Inputs.args m c).W := funext fun p => funext fun q => congrFun h5 (ix3 0 p q)
  have e6 : (Cert.Ref.args (launchContents m' c)).cw = (Cert.Inputs.args m c).cw := funext fun p => funext fun q => congrFun h6 (ix3 0 p q)
  have e7 : (Cert.Ref.args (launchContents m' c)).sk = (Cert.Inputs.args m c).sk := funext fun p => congrFun h7 (ix2 0 p)
  have e8 : (Cert.Ref.args (launchContents m' c)).Wo = (Cert.Inputs.args m c).Wo := funext fun p => funext fun q => congrFun h8 (ix3 0 p q)
  generalize Cert.Ref.args (launchContents m' c) = A at *
  generalize Cert.Inputs.args m c = B at *
  cases A
  cases B
  simp only at e0 e1 e2 e3 e4 e5 e6 e7 e8
  subst e0 e1 e2 e3 e4 e5 e6 e7 e8
  rfl

theorem eta3 {p q r : ℕ} (i : (⟨3, ![p, q, r]⟩ : Shape).Idx) : i = ix3 (i 0) (i 1) (i 2) :=
  funext fun a => match a with
    | ⟨0, _⟩ => rfl
    | ⟨1, _⟩ => rfl
    | ⟨2, _⟩ => rfl

theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp hargs
  have ha : ∀ c, Spec.Finite (Cert.Inputs.args m c) := Cert.Inputs.finite_args m hp
  have hr : ∀ c, Cert.Ref.args (launchContents m' c) = Cert.Inputs.args m c := fun c => by
    obtain ⟨h0, h1, h2, h3, h4, h5, h6, h7, h8, _⟩ := hargs c
    exact args_eq m m' c h0 h1 h2 h3 h4 h5 h6 h7 h8
  refine ⟨fun c => Cert.Arrays.Y (Cert.Inputs.args m c), fun c => Cert.Arrays.C (Cert.Inputs.args m c),
    fun c => Cert.Arrays.K (Cert.Inputs.args m c), fun c => Cert.Arrays.W (Cert.Inputs.args m c), ?_, ?_⟩
  · refine (θ_run _ _ _).mono (fun _ h c => ?_) (Cert.KernelIdeal.Value.run_blocks m g)
    obtain ⟨h0, h1, h2, h3, h4⟩ := h c
    exact ⟨h0.trans (Cert.Arrays.out_eq m c (ha c)), h1.trans (Cert.Arrays.conv_eq m c (ha c)),
      h2.trans (Cert.Arrays.k_eq m c (ha c)), h3.trans (Cert.Arrays.v_eq m c (ha c)), h4⟩
  · refine (θ_run _ _ _).mono (fun _ h c => ?_) (Cert.ReferenceIdeal.Value.run m' g')
    obtain ⟨h0, h1, h2, h3, h4⟩ := h c
    refine ⟨h0.trans (funext fun i => ?_), h1.trans (funext fun i => ?_), h2.trans (funext fun i => ?_), h3.trans (funext fun i => ?_), h4⟩
    · refine (congrArg _ (eta3 i)).trans ((Cert.Ref.y_eq (launchContents m' c) ((hr c).symm ▸ ha c) (i 0) (i 1) (i 2)).trans ?_)
      exact congrArg (fun A => Cert.Arrays.Y A i) (hr c)
    · refine (congrArg _ (eta3 i)).trans ((Cert.Ref.conv_state (launchContents m' c) (i 0) (i 1) (i 2)).trans ?_)
      exact congrArg (fun A => Cert.Arrays.C A i) (hr c)
    · refine (congrArg _ (eta3 i)).trans ((Cert.Ref.k_state (launchContents m' c) (i 0) (i 1) (i 2)).trans ?_)
      exact congrArg (fun A => Cert.Arrays.K A i) (hr c)
    · refine (congrArg _ (eta3 i)).trans ((Cert.Ref.v_state (launchContents m' c) (i 0) (i 1) (i 2)).trans ?_)
      exact congrArg (fun A => Cert.Arrays.W A i) (hr c)

/-- The reference has no semaphores. -/
theorem no_sems : ∀ _ : SemLoc Cert.ReferenceIdeal.sig, False := by decide

theorem claim : Cert.Claim :=
  ⟨Cert.Kernel.Gen.facts, Cert.KernelIdeal.Gen.facts, Cert.ReferenceIdeal.Gen.facts, Cert.Pre_finite.facts,
    fun m g _ => Cert.Kernel.Gen.frame m g, fun m g _ => Cert.KernelIdeal.Gen.frame m g, fun m g _ => Cert.KernelIdeal.Gen.frame m g,
    fun m g _ => (θ_run _ _ _).mono (fun _ h => ⟨fun c => (h c).2.2.2.2, funext fun x => (no_sems x.2).elim⟩) (Cert.ReferenceIdeal.Value.run m g),
    fun m g _ => (θ_run _ _ _).mono (fun _ h => ⟨fun c => (h c).2.2.2.2, funext fun x => (no_sems x.2).elim⟩) (Cert.ReferenceIdeal.Value.run m g),
    ⟨IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl, IdealRules.named_const.statement _ _ _ _ _ rfl⟩,
    algebraic⟩

end Cert.Proof

end
